-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S4096x6144 : Shape := ⟨2, ![4096, 6144]⟩
abbrev S4096x2048 : Shape := ⟨2, ![4096, 2048]⟩
abbrev S_ : Shape := ⟨0, ![]⟩

class Facts : Prop where
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S_S4096x2048 : S_.BroadcastsInDim S4096x2048 (![] : Fin 0 → Fin S4096x2048.rank)

variable [Facts]

def fn {F : FTy → Type} [FloatOps F] (main_arg0 : FVec F S4096x6144 .bf16) (main_arg1 : FVec F S4096x2048 .bf16) : IVec S4096x2048 1 :=
  let main_v0 : FVec F S4096x2048 .bf16 := (extractStridedSlice S4096x2048 ![0, 0] · slices_S4096x6144_S4096x2048_0_0) main_arg0
  let main_v1 : FVec F S4096x2048 .bf16 := (extractStridedSlice S4096x2048 ![0, 2048] · slices_S4096x6144_S4096x2048_0_2048) main_arg0
  let main_v2 : FVec F S4096x2048 .bf16 := (extractStridedSlice S4096x2048 ![0, 4096] · slices_S4096x6144_S4096x2048_0_4096) main_arg0
  let main_v3 : FVec F S4096x2048 .bf16 := Host.absf main_v0
  let main_cst : FVec F S_ .bf16 := constant S_ .bf16 0x7F80#16
  let main_v4 : FVec F S4096x2048 .bf16 := broadcastInDim S4096x2048 ![] bcast_S_S4096x2048 main_cst
  let main_v5 : IVec S4096x2048 1 := cmpf .olt main_v3 main_v4
  let main_v6 : FVec F S4096x2048 .bf16 := Host.absf main_v1
  let main_cst_0 : FVec F S_ .bf16 := constant S_ .bf16 0x7F80#16
  let main_v7 : FVec F S4096x2048 .bf16 := broadcastInDim S4096x2048 ![] bcast_S_S4096x2048 main_cst_0
  let main_v8 : IVec S4096x2048 1 := cmpf .olt main_v6 main_v7
  let main_v9 : FVec F S4096x2048 .bf16 := Host.absf main_v2
  let main_cst_1 : FVec F S_ .bf16 := constant S_ .bf16 0x7F80#16
  let main_v10 : FVec F S4096x2048 .bf16 := broadcastInDim S4096x2048 ![] bcast_S_S4096x2048 main_cst_1
  let main_v11 : IVec S4096x2048 1 := cmpf .olt main_v9 main_v10
  let main_v12 : FVec F S4096x2048 .bf16 := Host.absf main_arg1
  let main_cst_2 : FVec F S_ .bf16 := constant S_ .bf16 0x7F80#16
  let main_v13 : FVec F S4096x2048 .bf16 := broadcastInDim S4096x2048 ![] bcast_S_S4096x2048 main_cst_2
  let main_v14 : IVec S4096x2048 1 := cmpf .olt main_v12 main_v13
  let main_v15 : IVec S4096x2048 1 := andi main_v5 main_v8
  let main_v16 : IVec S4096x2048 1 := andi main_v11 main_v14
  let main_v17 : IVec S4096x2048 1 := andi main_v15 main_v16
  main_v17
-- ==== Kernel.lean ====
abbrev S4096x6144 : Shape := ⟨2, ![4096, 6144]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S4096x16 : Shape := ⟨2, ![4096, 16]⟩
abbrev S512x256 : Shape := ⟨2, ![512, 256]⟩
abbrev S4096x256 : Shape := ⟨2, ![4096, 256]⟩
abbrev S128x128 : Shape := ⟨2, ![128, 128]⟩
abbrev S256x128 : Shape := ⟨2, ![256, 128]⟩
abbrev S512x128 : Shape := ⟨2, ![512, 128]⟩
abbrev S512x512 : Shape := ⟨2, ![512, 512]⟩
abbrev S2048x128 : Shape := ⟨2, ![2048, 128]⟩
abbrev S2048x256 : Shape := ⟨2, ![2048, 256]⟩
abbrev S512x1 : Shape := ⟨2, ![512, 1]⟩

abbrev nBuf : Space → Nat
  | .hbm => 50
  | .vmem => 21
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S16x4096x128, .f32⟩
  | .hbm, ⟨8, _⟩ => ⟨S4096x16x128, .f32⟩
  | .hbm, ⟨9, _⟩ => ⟨S16x4096x128, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S4096x16, .f32⟩
  | .hbm, ⟨45, _⟩ => ⟨S4096x16x128, .f32⟩
  | .hbm, ⟨46, _⟩ => ⟨S4096x2048, .f32⟩
  | .hbm, ⟨47, _⟩ => ⟨S4096x2048, .bf16⟩
  | .hbm, ⟨48, _⟩ => ⟨S4096x2048, .bf16⟩
  | .hbm, ⟨49, _⟩ => ⟨S4096x2048, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S512x256, .f32⟩
  | .local _ .vmem, ⟨17, _⟩ => ⟨S4096x256, .f32⟩
  | .local _ .vmem, ⟨18, _⟩ => ⟨S4096x256, .f32⟩
  | .local _ .vmem, ⟨19, _⟩ => ⟨S512x256, .f32⟩
  | .local _ .vmem, ⟨20, _⟩ => ⟨S512x256, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_10 : BitVec 32 := 1#32
  ⟨c0_i32_9, v32, c1_i32_10⟩
def k0_mult1 (i : grid0.Coords) (k0_t1 : Fin (k0_t1_loop i).trips) : BitVec 32 :=
  let c0_i32_9 : BitVec 32 := 0#32
  let c1_i32_10 : BitVec 32 := 1#32
  let arg15 : BitVec 32 := Scf.iv c0_i32_9 c1_i32_10 k0_t1
  let c512_i32_103 : BitVec 32 := 512#32
  let v337 : BitVec 32 := Scalar.muli arg15 c512_i32_103
  v337
def k0_off1 (i : grid0.Coords) (k0_t1 : Fin (k0_t1_loop i).trips) : Fin 2 → Nat :=
  let c0_i32_9 : BitVec 32 := 0#32
  let c1_i32_10 : BitVec 32 := 1#32
  let arg15 : BitVec 32 := Scf.iv c0_i32_9 c1_i32_10 k0_t1
  let c512_i32_103 : BitVec 32 := 512#32
  let v337 : BitVec 32 := Scalar.muli arg15 c512_i32_103
  let v338 : BitVec 32 := v337
  let v340 : Index := Scalar.indexCast v338
  let c0_106 : Index := 0#32
  ![v340.toNat, 0]
def k0_off2 (i : grid0.Coords) (k0_t1 : Fin (k0_t1_loop i).trips) : Fin 2 → Nat :=
  let c0_i32_9 : BitVec 32 := 0#32
  let c1_i32_10 : BitVec 32 := 1#32
  let arg15 : BitVec 32 := Scf.iv c0_i32_9 c1_i32_10 k0_t1
  let c512_i32_103 : BitVec 32 := 512#32
  let v337 : BitVec 32 := Scalar.muli arg15 c512_i32_103
  let v338 : BitVec 32 := v337
  let v346 : Index := Scalar.indexCast v338
  let c128_111 : Index := 128#32
  ![v346.toNat, 128]
@[reducible] def k0_t2_loop (i : grid0.Coords) : Scf.Loop 32 :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let v29 : BitVec 32 := Scalar.addi c0_i32_9 v28
  let c1_i32_11 : BitVec 32 := 1#32
  ⟨v32, v29, c1_i32_11⟩
def k0_mult2 (i : grid0.Coords) (k0_t2 : Fin (k0_t2_loop i).trips) : BitVec 32 :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_11 : BitVec 32 := 1#32
  let arg15 : BitVec 32 := Scf.iv v32 c1_i32_11 k0_t2
  let c512_i32_103 : BitVec 32 := 512#32
  let v337 : BitVec 32 := Scalar.muli arg15 c512_i32_103
  v337
def k0_off3 (i : grid0.Coords) (k0_t2 : Fin (k0_t2_loop i).trips) : Fin 2 → Nat :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_11 : BitVec 32 := 1#32
  let arg15 : BitVec 32 := Scf.iv v32 c1_i32_11 k0_t2
  let c512_i32_103 : BitVec 32 := 512#32
  let v337 : BitVec 32 := Scalar.muli arg15 c512_i32_103
  let v338 : BitVec 32 := v337
  let v340 : Index := Scalar.indexCast v338
  let c0_106 : Index := 0#32
  ![v340.toNat, 0]
def k0_off4 (i : grid0.Coords) (k0_t2 : Fin (k0_t2_loop i).trips) : Fin 2 → Nat :=
  let c0_i32_9 : BitVec 32 := 0#32
  let arg1 : BitVec 32 := BitVec.ofNat 32 (i 1).val
  let v28 : BitVec 32 := Scalar.subi arg1 c0_i32_9
  let c1_i32 : BitVec 32 := 1#32
  let v30 : BitVec 32 := Scalar.divsi v28 c1_i32
  let v31 : BitVec 32 := Scalar.muli v30 c1_i32
  let v32 : BitVec 32 := Scalar.addi c0_i32_9 v31
  let c1_i32_11 : BitVec 32 := 1#32
  let arg15 : BitVec 32 := Scf.iv v32 c1_i32_11 k0_t2
  let c512_i32_103 : BitVec 32 := 512#32
  let v337 : BitVec 32 := Scalar.muli arg15 c512_i32_103
  let v338 : BitVec 32 := v337
  let v346 : Index := Scalar.indexCast v338
  let c128_111 : Index := 128#32
  ![v346.toNat, 128]
def k0_mult3 (i : grid0.Coords) : BitVec 32 :=
  let arg1 : BitVec 32 := BitVec.ofNat 32 (i 1).val
  let c512_i32 : BitVec 32 := 512#32
  let v33 : BitVec 32 := Scalar.muli arg1 c512_i32
  v33
def k0_off5 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v36 : Index := Scalar.indexCast v34
  let c0_14 : Index := 0#32
  ![v36.toNat, 0]
def k0_off6 (i : grid0.Coords) : Fin 2 → Nat :=
  let arg1 : BitVec 32 := BitVec.ofNat 32 (i 1).val
  let c512_i32 : BitVec 32 := 512#32
  let v33 : BitVec 32 := Scalar.muli arg1 c512_i32
  let v34 : BitVec 32 := v33
  let v42 : Index := Scalar.indexCast v34
  let c128_18 : Index := 128#32
  ![v42.toNat, 128]
def k0_cond2 (i : grid0.Coords) : BitVec 1 :=
  let arg1 : BitVec 32 := BitVec.ofNat 32 (i 1).val
  let c7_i32 : BitVec 32 := 7#32
  let v334 : BitVec 1 := Scalar.cmpi .eq arg1 c7_i32
  let v335 : BitVec 32 := Scalar.extui v334
  let c0_i32_102 : BitVec 32 := 0#32
  let v336 : BitVec 1 := Scalar.cmpi .ne v335 c0_i32_102
  v336

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x6144 : Shape := ⟨2, ![4096, 6144]⟩
abbrev S4096x2048 : Shape := ⟨2, ![4096, 2048]⟩
abbrev S4096x16x128 : Shape := ⟨3, ![4096, 16, 128]⟩
abbrev S16x4096x128 : Shape := ⟨3, ![16, 4096, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩

abbrev nBuf : Space → Nat
  | .hbm => 182
  | .vmem => 0
  | .smem => 0
  | _ => 0

abbrev hbmTy0_0 (i : Nat) : BufTy := match i % 128 with
  | 0 => ⟨S4096x6144, .bf16⟩
  | 1 => ⟨S4096x2048, .bf16⟩
  | 2 => ⟨S4096x6144, .f32⟩
  | 3 => ⟨S4096x2048, .f32⟩
  | 4 => ⟨S4096x2048, .f32⟩
  | 5 => ⟨S4096x2048, .f32⟩
  | 6 => ⟨S4096x16x128, .f32⟩
  | 7 => ⟨S16x4096x128, .f32⟩
  | 8 => ⟨S4096x16x128, .f32⟩
  | 9 => ⟨S16x4096x128, .f32⟩
  | 10 => ⟨S4096x16x128, .f32⟩
  | 11 => ⟨S16x4096x128, .f32⟩
  | 12 => ⟨S16x4096x4096, .f32⟩
  | 13 => ⟨S_, .f32⟩
  | 14 => ⟨S16x4096x4096, .f32⟩
  | 15 => ⟨S16x4096x4096, .f32⟩
  | 16 => ⟨S4096, .i32⟩
  | 17 => ⟨S1x4096, .i32⟩
  | 18 => ⟨S4096x1, .i32⟩
  | 19 => ⟨S4096x4096, .i32⟩
  | 20 => ⟨S4096x4096, .i32⟩
  | 21 => ⟨S4096x4096, .i1⟩
  | 22 => ⟨S16x4096x4096, .f32⟩
  | 23 => ⟨S16x4096x4096, .f32⟩
  | 24 => ⟨S_, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .i1⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .i1⟩
  | 41 => ⟨S_, .f32⟩
  | 42 => ⟨S16x4096x4096, .f32⟩
  | 43 => ⟨S16x4096x4096, .f32⟩
  | 44 => ⟨S_, .f32⟩
  | 45 => ⟨S16x4096x4096, .f32⟩
  | 46 => ⟨S16x4096x4096, .i1⟩
  | 47 => ⟨S_, .f32⟩
  | 48 => ⟨S16x4096x4096, .f32⟩
  | 49 => ⟨S16x4096x4096, .f32⟩
  | 50 => ⟨S16x4096x4096, .f32⟩
  | 51 => ⟨S16x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16x4096x4096, .f32⟩
  | 60 => ⟨S16x4096x4096, .i1⟩
  | 61 => ⟨S_, .f32⟩
  | 62 => ⟨S16x4096x4096, .f32⟩
  | 63 => ⟨S16x4096x4096, .f32⟩
  | 64 => ⟨S16x4096x4096, .f32⟩
  | 65 => ⟨S16x4096x4096, .f32⟩
  | 66 => ⟨S16x4096x4096, .f32⟩
  | 67 => ⟨S_, .f32⟩
  | 68 => ⟨S16x4096x4096, .f32⟩
  | 69 => ⟨S16x4096x4096, .f32⟩
  | 70 => ⟨S16x4096x4096, .f32⟩
  | 71 => ⟨S_, .f32⟩
  | 72 => ⟨S_, .f32⟩
  | 73 => ⟨S16x4096x4096, .i1⟩
  | 74 => ⟨S16x4096x4096, .f32⟩
  | 75 => ⟨S16x4096x4096, .f32⟩
  | 76 => ⟨S_, .f32⟩
  | 77 => ⟨S16x4096x4096, .f32⟩
  | 78 => ⟨S_, .f32⟩
  | 79 => ⟨S_, .f32⟩
  | 80 => ⟨S16x4096x4096, .f32⟩
  | 81 => ⟨S16x4096x4096, .f32⟩
  | 82 => ⟨S16x4096x4096, .f32⟩
  | 83 => ⟨S_, .f32⟩
  | 84 => ⟨S16x4096x4096, .f32⟩
  | 85 => ⟨S16x4096x4096, .f32⟩
  | 86 => ⟨S16x4096x4096, .f32⟩
  | 87 => ⟨S16x4096x4096, .f32⟩
  | 88 => ⟨S16x4096x4096, .i1⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S16x4096x4096, .f32⟩
  | 95 => ⟨S16x4096x4096, .f32⟩
  | 96 => ⟨S16x4096x4096, .f32⟩
  | 97 => ⟨S_, .f32⟩
  | 98 => ⟨S16x4096x4096, .f32⟩
  | 99 => ⟨S16x4096x4096, .i1⟩
  | 100 => ⟨S_, .f32⟩
  | 101 => ⟨S16x4096x4096, .f32⟩
  | 102 => ⟨S16x4096x4096, .f32⟩
  | 103 => ⟨S_, .f32⟩
  | 104 => ⟨S16x4096x4096, .f32⟩
  | 105 => ⟨S16x4096x4096, .i1⟩
  | 106 => ⟨S_, .f32⟩
  | 107 => ⟨S16x4096x4096, .f32⟩
  | 108 => ⟨S16x4096x4096, .f32⟩
  | 109 => ⟨S16x4096x4096, .f32⟩
  | 110 => ⟨S16x4096x4096, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S16x4096x4096, .f32⟩
  | 119 => ⟨S16x4096x4096, .i1⟩
  | 120 => ⟨S_, .f32⟩
  | 121 => ⟨S16x4096x4096, .f32⟩
  | 122 => ⟨S16x4096x4096, .f32⟩
  | 123 => ⟨S16x4096x4096, .f32⟩
  | 124 => ⟨S16x4096x4096, .f32⟩
  | 125 => ⟨S16x4096x4096, .f32⟩
  | 126 => ⟨S_, .f32⟩
  | 127 => ⟨S16x4096x4096, .f32⟩
  | _ => ⟨S4096x6144, .bf16⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .f32⟩
  | 4 => ⟨S_, .f32⟩
  | 5 => ⟨S_, .f32⟩
  | 6 => ⟨S16x4096x4096, .i1⟩
  | 7 => ⟨S16x4096x4096, .f32⟩
  | 8 => ⟨S16x4096x4096, .f32⟩
  | 9 => ⟨S_, .f32⟩
  | 10 => ⟨S16x4096x4096, .f32⟩
  | 11 => ⟨S16x4096x128, .f32⟩
  | 12 => ⟨S4096x16x128, .f32⟩
  | 13 => ⟨S4096x2048, .f32⟩
  | 14 => ⟨S4096x2048, .f32⟩
  | 15 => ⟨S4096x16x128, .f32⟩
  | 16 => ⟨S16x4096x128, .f32⟩
  | 17 => ⟨S16x128x4096, .f32⟩
  | 18 => ⟨S16x4096x128, .f32⟩
  | 19 => ⟨S16x4096x4096, .f32⟩
  | 20 => ⟨S_, .f32⟩
  | 21 => ⟨S16x4096x4096, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S_, .f32⟩
  | 29 => ⟨S_, .f32⟩
  | 30 => ⟨S16x4096x4096, .f32⟩
  | 31 => ⟨S16x4096x4096, .f32⟩
  | 32 => ⟨S_, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S16x4096x4096, .f32⟩
  | 40 => ⟨S_, .f32⟩
  | 41 => ⟨S16x4096x4096, .f32⟩
  | 42 => ⟨S16x4096x4096, .f32⟩
  | 43 => ⟨S16x4096x128, .f32⟩
  | 44 => ⟨S16x4096x128, .f32⟩
  | 45 => ⟨S4096x16x128, .f32⟩
  | 46 => ⟨S4096x2048, .f32⟩
  | 47 => ⟨S4096x16x128, .f32⟩
  | 48 => ⟨S4096x2048, .f32⟩
  | 49 => ⟨S4096x16x128, .f32⟩
  | 50 => ⟨S4096x2048, .f32⟩
  | 51 => ⟨S4096x2048, .bf16⟩
  | 52 => ⟨S4096x2048, .bf16⟩
  | 53 => ⟨S4096x2048, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_cst : Ref sig .tc := ⟨.hbm, 78, rfl⟩
abbrev main_call2_v0 : Ref sig .tc := ⟨.hbm, 79, rfl⟩
abbrev main_v22 : Ref sig .tc := ⟨.hbm, 80, rfl⟩
abbrev main_v23 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1_0 : Ref sig .tc := ⟨.hbm, 96, rfl⟩
abbrev main_call3_call0_cst_0 : Ref sig .tc := ⟨.hbm, 97, rfl⟩
abbrev main_call3_call0_v13 : Ref sig .tc := ⟨.hbm, 98, rfl⟩
abbrev main_call3_call0_v14 : Ref sig .tc := ⟨.hbm, 99, rfl⟩
abbrev main_call3_call0_cst_1 : Ref sig .tc := ⟨.hbm, 100, rfl⟩
abbrev main_call3_call0_v15 : Ref sig .tc := ⟨.hbm, 101, rfl⟩
abbrev main_call3_call0_v16 : Ref sig .tc := ⟨.hbm, 102, rfl⟩
abbrev main_call3_call0_cst_2 : Ref sig .tc := ⟨.hbm, 103, rfl⟩
abbrev main_call3_call0_v17 : Ref sig .tc := ⟨.hbm, 104, rfl⟩
abbrev main_call3_call0_v18 : Ref sig .tc := ⟨.hbm, 105, rfl⟩
abbrev main_call3_call0_cst_3 : Ref sig .tc := ⟨.hbm, 106, rfl⟩
abbrev main_call3_call0_v19 : Ref sig .tc := ⟨.hbm, 107, rfl⟩
abbrev main_call3_call0_v20 : Ref sig .tc := ⟨.hbm, 108, rfl⟩
abbrev main_call3_call0_v21 : Ref sig .tc := ⟨.hbm, 109, rfl⟩
abbrev main_v24_1 : Ref sig .tc := ⟨.hbm, 110, rfl⟩
abbrev main_call3_call0_cst_4 : Ref sig .tc := ⟨.hbm, 111, rfl⟩
abbrev main_call3_call0_cst_5 : Ref sig .tc := ⟨.hbm, 112, rfl⟩
abbrev main_call3_call0_v23 : Ref sig .tc := ⟨.hbm, 113, rfl⟩
abbrev main_call3_call0_cst_6 : Ref sig .tc := ⟨.hbm, 114, rfl⟩
abbrev main_call3_call0_cst_7 : Ref sig .tc := ⟨.hbm, 115, rfl⟩
abbrev main_call3_call0_v24 : Ref sig .tc := ⟨.hbm, 116, rfl⟩
abbrev main_call3_call0_cst_8 : Ref sig .tc := ⟨.hbm, 117, rfl⟩
abbrev main_call3_call0_v25 : Ref sig .tc := ⟨.hbm, 118, rfl⟩
abbrev main_call3_call0_v26 : Ref sig .tc := ⟨.hbm, 119, rfl⟩
abbrev main_call3_call0_cst_9 : Ref sig .tc := ⟨.hbm, 120, rfl⟩
abbrev main_call3_call0_v27 : Ref sig .tc := ⟨.hbm, 121, rfl⟩
abbrev main_call3_call0_v28 : Ref sig .tc := ⟨.hbm, 122, rfl⟩
abbrev main_call3_call0_v29 : Ref sig .tc := ⟨.hbm, 123, rfl⟩
abbrev main_call3_call0_v30 : Ref sig .tc := ⟨.hbm, 124, rfl⟩
abbrev main_call3_call0_v31 : Ref sig .tc := ⟨.hbm, 125, rfl⟩
abbrev main_call3_call0_cst_10 : Ref sig .tc := ⟨.hbm, 126, rfl⟩
abbrev main_call3_call0_v32 : Ref sig .tc := ⟨.hbm, 127, rfl⟩
abbrev main_v24_2 : Ref sig .tc := ⟨.hbm, 128, rfl⟩
abbrev main_v24_0 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== Kernel2.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x2048, .f32⟩
  | .hbm, ⟨14, _⟩ => ⟨S4096x2048, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel3.lean ====
abbrev S4096x8192 : Shape := ⟨2, ![4096, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S2048x8192, .f32⟩
  | .hbm, ⟨3, _⟩ => ⟨S4096x8192, .f32⟩
  | .hbm, ⟨4, _⟩ => ⟨S_, .f32⟩
  | .hbm, ⟨5, _⟩ => ⟨S4096x2048, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | .hbm, ⟨5, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S2048x4x2048, .bf16⟩
  | .hbm, ⟨3, _⟩ => ⟨S4x2048x2048, .bf16⟩
  | .hbm, ⟨4, _⟩ => ⟨S4096x8192, .bf16⟩
  | .hbm, ⟨5, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S4096x2048 : Shape := ⟨2, ![4096, 2048]⟩
abbrev S2048x6144 : Shape := ⟨2, ![2048, 6144]⟩
abbrev S2048x4x1536 : Shape := ⟨3, ![2048, 4, 1536]⟩
abbrev S4x2048x1536 : Shape := ⟨3, ![4, 2048, 1536]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S2048x4x1536, .bf16⟩
  | .hbm, ⟨3, _⟩ => ⟨S4x2048x1536, .bf16⟩
  | .hbm, ⟨4, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | .hbm, ⟨5, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S4096x6144 : Shape := ⟨2, ![4096, 6144]⟩
abbrev S2048x6144 : Shape := ⟨2, ![2048, 6144]⟩
abbrev S2048x4x1536 : Shape := ⟨3, ![2048, 4, 1536]⟩
abbrev S4x2048x1536 : Shape := ⟨3, ![4, 2048, 1536]⟩
abbrev S4096x2048 : Shape := ⟨2, ![4096, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S2048x4x1536, .bf16⟩
  | .hbm, ⟨3, _⟩ => ⟨S4x2048x1536, .bf16⟩
  | .hbm, ⟨4, _⟩ => ⟨S4096x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S2048x6144, .f32⟩
  | .hbm, ⟨3, _⟩ => ⟨S4096x6144, .f32⟩
  | .hbm, ⟨4, _⟩ => ⟨S_, .f32⟩
  | .hbm, ⟨5, _⟩ => ⟨S4096x2048, .f32⟩
  | .hbm, ⟨6, _⟩ => ⟨S4096x6144, .f32⟩
  | .hbm, ⟨7, _⟩ => ⟨S4096x2048, .f32⟩
  | .hbm, ⟨8, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x8192 : Shape := ⟨2, ![4096, 8192]⟩
abbrev S4096x2048 : Shape := ⟨2, ![4096, 2048]⟩
abbrev S_ : Shape := ⟨0, ![]⟩
abbrev S1 : Shape := ⟨1, ![1]⟩
abbrev S4x1024x2048 : Shape := ⟨3, ![4, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 1
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .i32⟩
  | .hbm, ⟨3, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let c1_i32_5 : BitVec 32 := 1#32
  let v18 : BitVec 32 := Scalar.muli v17 c1_i32_5
  let c0 : Index := 0#32
  let v19 : BitVec 32 := pf.at 0 (Rect.unit (s := S1) ![0] S1.size inb_S1_S1_0) numel1_S1
  let c1_i32_6 : BitVec 32 := 1#32
  let v20 : BitVec 32 := Scalar.muli v19 c1_i32_6
  let v21 : BitVec 32 := Scalar.addi v18 v20
  let c1_i32_7 : BitVec 32 := 1#32
  let c0_i32_8 : BitVec 32 := 0#32
  let v22 : BitVec 1 := Scalar.cmpi .eq c1_i32_7 c0_i32_8
  let c1_i32_9 : BitVec 32 := 1#32
  let v23 : BitVec 32 := Scalar.select v22 c1_i32_9 c1_i32_7
  let v24 : BitVec 32 := Scalar.remsi arg0 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_13 : BitVec 32 := 0#32
  ![arg2.toNat, v32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S4096x2048, .f32⟩
  | .hbm, ⟨4, _⟩ => ⟨S_, .f32⟩
  | .hbm, ⟨5, _⟩ => ⟨S8192x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S4x2x1024x2048, .f32⟩
  | .hbm, ⟨10, _⟩ => ⟨S4x1x1024x2048, .f32⟩
  | .hbm, ⟨11, _⟩ => ⟨S4x1024x2048, .f32⟩
  | .hbm, ⟨12, _⟩ => ⟨S4x1024x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel9.lean ====
abbrev S4096x8192 : Shape := ⟨2, ![4096, 8192]⟩
abbrev S4096x2048 : Shape := ⟨2, ![4096, 2048]⟩
abbrev S4x1024x2048 : Shape := ⟨3, ![4, 1024, 2048]⟩
abbrev S_ : Shape := ⟨0, ![]⟩
abbrev S1 : Shape := ⟨1, ![1]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 9
  | .smem => 1
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4x1024x2048, .bf16⟩
  | .hbm, ⟨3, _⟩ => ⟨S_, .i32⟩
  | .hbm, ⟨4, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.muli v16 c2_i32
  let c1_i32_5 : BitVec 32 := 1#32
  let v18 : BitVec 32 := Scalar.muli v17 c1_i32_5
  let c0 : Index := 0#32
  let v19 : BitVec 32 := pf.at 0 (Rect.unit (s := S1) ![0] S1.size inb_S1_S1_0) numel1_S1
  let c1_i32_6 : BitVec 32 := 1#32
  let v20 : BitVec 32 := Scalar.muli v19 c1_i32_6
  let v21 : BitVec 32 := Scalar.addi v18 v20
  let c1_i32_7 : BitVec 32 := 1#32
  let c0_i32_8 : BitVec 32 := 0#32
  let v22 : BitVec 1 := Scalar.cmpi .eq c1_i32_7 c0_i32_8
  let c1_i32_9 : BitVec 32 := 1#32
  let v23 : BitVec 32 := Scalar.select v22 c1_i32_9 c1_i32_7
  let v24 : BitVec 32 := Scalar.remsi arg0 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let v32 : BitVec 32 := Scalar.addi v21 v31
  let c0_i32_13 : BitVec 32 := 0#32
  ![arg2.toNat, v32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x8192 : Shape := ⟨2, ![4096, 8192]⟩
abbrev S4096x2048 : Shape := ⟨2, ![4096, 2048]⟩
abbrev S4x1024x2048 : Shape := ⟨3, ![4, 1024, 2048]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩
abbrev S4x1x1024x2048 : Shape := ⟨4, ![4, 1, 1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4x1024x2048, .bf16⟩
  | .hbm, ⟨3, _⟩ => ⟨S4x1024x2048, .f32⟩
  | .hbm, ⟨4, _⟩ => ⟨S4096x8192, .f32⟩
  | .hbm, ⟨5, _⟩ => ⟨S4096x2048, .f32⟩
  | .hbm, ⟨6, _⟩ => ⟨S_, .f32⟩
  | .hbm, ⟨7, _⟩ => ⟨S8192x2048, .f32⟩
  | .hbm, ⟨8, _⟩ => ⟨S4096x2048, .f32⟩
  | .hbm, ⟨9, _⟩ => ⟨S2048x8192, .f32⟩
  | .hbm, ⟨10, _⟩ => ⟨S8192x2048, .f32⟩
  | .hbm, ⟨11, _⟩ => ⟨S4x2x1024x2048, .f32⟩
  | .hbm, ⟨12, _⟩ => ⟨S4x1x1024x2048, .f32⟩
  | .hbm, ⟨13, _⟩ => ⟨S4x1024x2048, .f32⟩
  | .hbm, ⟨14, _⟩ => ⟨S4x1024x2048, .f32⟩
  | .hbm, ⟨15, _⟩ => ⟨S4x1024x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel10.lean ====
abbrev S4096x2048 : Shape := ⟨2, ![4096, 2048]⟩
abbrev S4096x8192 : Shape := ⟨2, ![4096, 8192]⟩
abbrev S_ : Shape := ⟨0, ![]⟩
abbrev S1 : Shape := ⟨1, ![1]⟩
abbrev S4x1024x2048 : Shape := ⟨3, ![4, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .i32⟩
  | .hbm, ⟨3, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2x1024x4x2048 : Shape := ⟨4, ![2, 1024, 4, 2048]⟩
abbrev S1x1024x4x2048 : Shape := ⟨4, ![1, 1024, 4, 2048]⟩
abbrev S1024x4x2048 : Shape := ⟨3, ![1024, 4, 2048]⟩
abbrev S4x1024x2048 : Shape := ⟨3, ![4, 1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2x1024x4x2048, .f32⟩
  | .hbm, ⟨10, _⟩ => ⟨S1x1024x4x2048, .f32⟩
  | .hbm, ⟨11, _⟩ => ⟨S1024x4x2048, .f32⟩
  | .hbm, ⟨12, _⟩ => ⟨S4x1024x2048, .f32⟩
  | .hbm, ⟨13, _⟩ => ⟨S4x1024x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel11.lean ====
abbrev S4096x2048 : Shape := ⟨2, ![4096, 2048]⟩
abbrev S4096x8192 : Shape := ⟨2, ![4096, 8192]⟩
abbrev S4x1024x2048 : Shape := ⟨3, ![4, 1024, 2048]⟩
abbrev S_ : Shape := ⟨0, ![]⟩
abbrev S1 : Shape := ⟨1, ![1]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 9
  | .smem => 1
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x1024x2048, .bf16⟩
  | .hbm, ⟨3, _⟩ => ⟨S_, .i32⟩
  | .hbm, ⟨4, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S4096x8192 : Shape := ⟨2, ![4096, 8192]⟩
abbrev S4x1024x2048 : Shape := ⟨3, ![4, 1024, 2048]⟩
abbrev S_ : Shape := ⟨0, ![]⟩
abbrev S2048x8192 : Shape := ⟨2, ![2048, 8192]⟩
abbrev S8192x2048 : Shape := ⟨2, ![8192, 2048]⟩
abbrev S2x1024x4x2048 : Shape := ⟨4, ![2, 1024, 4, 2048]⟩
abbrev S1x1024x4x2048 : Shape := ⟨4, ![1, 1024, 4, 2048]⟩
abbrev S1024x4x2048 : Shape := ⟨3, ![1024, 4, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x1024x2048, .bf16⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S2048x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S2x1024x4x2048, .f32⟩
  | .hbm, ⟨11, _⟩ => ⟨S1x1024x4x2048, .f32⟩
  | .hbm, ⟨12, _⟩ => ⟨S1024x4x2048, .f32⟩
  | .hbm, ⟨13, _⟩ => ⟨S4x1024x2048, .f32⟩
  | .hbm, ⟨14, _⟩ => ⟨S4x1024x2048, .f32⟩
  | .hbm, ⟨15, _⟩ => ⟨S4x1024x2048, .f32⟩
  | .hbm, ⟨16, _⟩ => ⟨S4x1024x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel12.lean ====
abbrev S4096x2048 : Shape := ⟨2, ![4096, 2048]⟩
abbrev S4096x6144 : Shape := ⟨2, ![4096, 6144]⟩
abbrev S_ : Shape := ⟨0, ![]⟩
abbrev S1 : Shape := ⟨1, ![1]⟩
abbrev S4x1024x1536 : Shape := ⟨3, ![4, 1024, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 4
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .i32⟩
  | .hbm, ⟨3, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2x1024x4x1536 : Shape := ⟨4, ![2, 1024, 4, 1536]⟩
abbrev S1x1024x4x1536 : Shape := ⟨4, ![1, 1024, 4, 1536]⟩
abbrev S1024x4x1536 : Shape := ⟨3, ![1024, 4, 1536]⟩
abbrev S4x1024x1536 : Shape := ⟨3, ![4, 1024, 1536]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S_, .f32⟩
  | .hbm, ⟨5, _⟩ => ⟨S2048x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2x1024x4x1536, .f32⟩
  | .hbm, ⟨10, _⟩ => ⟨S1x1024x4x1536, .f32⟩
  | .hbm, ⟨11, _⟩ => ⟨S1024x4x1536, .f32⟩
  | .hbm, ⟨12, _⟩ => ⟨S4x1024x1536, .f32⟩
  | .hbm, ⟨13, _⟩ => ⟨S4x1024x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel13.lean ====
abbrev S4096x2048 : Shape := ⟨2, ![4096, 2048]⟩
abbrev S4096x6144 : Shape := ⟨2, ![4096, 6144]⟩
abbrev S4x1024x1536 : Shape := ⟨3, ![4, 1024, 1536]⟩
abbrev S_ : Shape := ⟨0, ![]⟩
abbrev S1 : Shape := ⟨1, ![1]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 9
  | .smem => 1
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x1024x1536, .bf16⟩
  | .hbm, ⟨3, _⟩ => ⟨S_, .i32⟩
  | .hbm, ⟨4, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x768, .bf16⟩
  | .local _ .vmem, ⟨7, _⟩ => ⟨S1x1024x768, .bf16⟩
  | .local _ .vmem, ⟨8, _⟩ => ⟨S1024x768, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 2], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S4096x6144 : Shape := ⟨2, ![4096, 6144]⟩
abbrev S4x1024x1536 : Shape := ⟨3, ![4, 1024, 1536]⟩
abbrev S_ : Shape := ⟨0, ![]⟩
abbrev S2048x6144 : Shape := ⟨2, ![2048, 6144]⟩
abbrev S6144x2048 : Shape := ⟨2, ![6144, 2048]⟩
abbrev S2x1024x4x1536 : Shape := ⟨4, ![2, 1024, 4, 1536]⟩
abbrev S1x1024x4x1536 : Shape := ⟨4, ![1, 1024, 4, 1536]⟩
abbrev S1024x4x1536 : Shape := ⟨3, ![1024, 4, 1536]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x1024x1536, .bf16⟩
  | .hbm, ⟨3, _⟩ => ⟨S4096x2048, .f32⟩
  | .hbm, ⟨4, _⟩ => ⟨S4096x6144, .f32⟩
  | .hbm, ⟨5, _⟩ => ⟨S_, .f32⟩
  | .hbm, ⟨6, _⟩ => ⟨S2048x6144, .f32⟩
  | .hbm, ⟨7, _⟩ => ⟨S4096x6144, .f32⟩
  | .hbm, ⟨8, _⟩ => ⟨S6144x2048, .f32⟩
  | .hbm, ⟨9, _⟩ => ⟨S2048x6144, .f32⟩
  | .hbm, ⟨10, _⟩ => ⟨S2x1024x4x1536, .f32⟩
  | .hbm, ⟨11, _⟩ => ⟨S1x1024x4x1536, .f32⟩
  | .hbm, ⟨12, _⟩ => ⟨S1024x4x1536, .f32⟩
  | .hbm, ⟨13, _⟩ => ⟨S4x1024x1536, .f32⟩
  | .hbm, ⟨14, _⟩ => ⟨S4x1024x1536, .f32⟩
  | .hbm, ⟨15, _⟩ => ⟨S4x1024x1536, .f32⟩
  | .hbm, ⟨16, _⟩ => ⟨S4x1024x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Arrays.lean ====
/- Arrays of reals among arrays of extended reals: what each operation of the program makes of arrays whose entries are
   all real. An array is given by its entries, a function of the row and the column. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Reals

open Idealize.ShloMosaic Idealize.SL.Sem
open Cert.KernelIdeal Cert.KernelIdeal.Gen

/-- The array with the real entries `f row column`. -/
def up {a b : ℕ} {φ : FTy} (f : ℕ → ℕ → ℝ) : FVec Ideal ⟨2, ![a, b]⟩ φ :=
  fun i => ((f (i 0).val (i 1).val : ℝ) : EReal)

theorem up_ix2 {a b : ℕ} {φ : FTy} (f : ℕ → ℕ → ℝ) (r : Fin a) (c : Fin b) :
    (up f : FVec Ideal ⟨2, ![a, b]⟩ φ) (ix2 r c) = ((f r.val c.val : ℝ) : EReal) := rfl

/-- Two arrays of reals are equal when their entries inside the shape are. -/
theorem up_congr {a b : ℕ} {φ : FTy} {f g : ℕ → ℕ → ℝ} (h : ∀ r, r < a → ∀ c, c < b → f r c = g r c) :
    (up f : FVec Ideal ⟨2, ![a, b]⟩ φ) = up g :=
  funext fun i => congrArg _ (h _ (i 0).isLt _ (i 1).isLt)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The scale of the scores: the value of the literal the program multiplies by. -/
def sc : ℝ := (Ideal.ofBits .f32 0x3DB504F3#32).toReal

theorem sc_coe : Ideal.ofBits .f32 0x3DB504F3#32 = ((sc : ℝ) : EReal) := by
  have h : ∃ x : ℝ, Ideal.ofBits .f32 0x3DB504F3#32 = ((x : ℝ) : EReal) := by
    simp only [Ideal.ofBits, Ideal.ieee]
    exact ⟨_, rfl⟩
  obtain ⟨x, hx⟩ := h
  rw [sc, hx, EReal.toReal_coe]

/-! ## The operations on entries -/

def addR (f g : ℕ → ℕ → ℝ) : ℕ → ℕ → ℝ := fun r c => f r c + g r c
def subR (f g : ℕ → ℕ → ℝ) : ℕ → ℕ → ℝ := fun r c => f r c - g r c
def mulR (f g : ℕ → ℕ → ℝ) : ℕ → ℕ → ℝ := fun r c => f r c * g r c
def minR (f g : ℕ → ℕ → ℝ) : ℕ → ℕ → ℝ := fun r c => min (f r c) (g r c)
def absR (f : ℕ → ℕ → ℝ) : ℕ → ℕ → ℝ := fun r c => |f r c|
def expR (f : ℕ → ℕ → ℝ) : ℕ → ℕ → ℝ := fun r c => Real.exp (f r c)
def logR (f : ℕ → ℕ → ℝ) : ℕ → ℕ → ℝ := fun r c => Real.log (f r c)
def conR (x : ℝ) : ℕ → ℕ → ℝ := fun _ _ => x
/-- Rows times rows: `Σ_d f(r, d) g(c, d)`. -/
def ntR (n : ℕ) (f g : ℕ → ℕ → ℝ) : ℕ → ℕ → ℝ := fun r c => ∑ d ∈ Finset.range n, f r d * g c d
/-- Rows times columns: `Σ_d f(r, d) g(d, c)`. -/
def nnR (n : ℕ) (f g : ℕ → ℕ → ℝ) : ℕ → ℕ → ℝ := fun r c => ∑ d ∈ Finset.range n, f r d * g d c
/-- Columns times columns: `Σ_d f(d, r) g(d, c)`. -/
def tnR (n : ℕ) (f g : ℕ → ℕ → ℝ) : ℕ → ℕ → ℝ := fun r c => ∑ d ∈ Finset.range n, f d r * g d c
/-- The array from row `o` and column `p` on. -/
def cutR (o p : ℕ) (f : ℕ → ℕ → ℝ) : ℕ → ℕ → ℝ := fun r c => f (o + r) (p + c)
/-- Every lane of row `r` is `c r`. -/
def rowR (c : ℕ → ℝ) : ℕ → ℕ → ℝ := fun r _ => c r
/-- The last lane of each row, in every lane. -/
def lastR (f : ℕ → ℕ → ℝ) : ℕ → ℕ → ℝ := fun r _ => f r 127
/-- Zero on and above the diagonal. -/
def lowR (f : ℕ → ℕ → ℝ) : ℕ → ℕ → ℝ := fun r c => if c < r then f r c else 0
/-- Four arrays of 128 lanes side by side. -/
def sideR (f0 f1 f2 f3 : ℕ → ℕ → ℝ) : ℕ → ℕ → ℝ := fun r c =>
  if c < 128 then f0 r c else if c < 256 then f1 r (c - 128) else if c < 384 then f2 r (c - 256) else f3 r (c - 384)
/-- Four arrays of 512 rows one below the other. -/
def stackR (f0 f1 f2 f3 : ℕ → ℕ → ℝ) : ℕ → ℕ → ℝ := fun r c =>
  if r < 512 then f0 r c else if r < 1024 then f1 (r - 512) c else if r < 1536 then f2 (r - 1024) c else f3 (r - 1536) c
/-- Two arrays of 128 lanes side by side. -/
def pairR (f0 f1 : ℕ → ℕ → ℝ) : ℕ → ℕ → ℝ := fun r c => if c < 128 then f0 r c else f1 r (c - 128)
/-- Two copies of the triangle `row ≤ column`, one below the other. -/
def tri2R : ℕ → ℕ → ℝ := fun r c => if r % 128 ≤ c then 1 else 0
/-- The triangle `row < column`. -/
def triR : ℕ → ℕ → ℝ := fun r c => if r < c then 1 else 0

variable {a b : ℕ} {φ ψ : FTy}

theorem addf_up (f g : ℕ → ℕ → ℝ) : addf (up f : FVec Ideal ⟨2, ![a, b]⟩ φ) (up g) = up (addR f g) := by
  funext i; simp [addf, up, addR]

theorem subf_up (f g : ℕ → ℕ → ℝ) : subf (up f : FVec Ideal ⟨2, ![a, b]⟩ φ) (up g) = up (subR f g) := by
  funext i; simp [subf, up, subR]

theorem mulf_up (f g : ℕ → ℕ → ℝ) : mulf (up f : FVec Ideal ⟨2, ![a, b]⟩ φ) (up g) = up (mulR f g) := by
  funext i; simp [mulf, up, mulR]

theorem minimumf_up (f g : ℕ → ℕ → ℝ) : minimumf (up f : FVec Ideal ⟨2, ![a, b]⟩ φ) (up g) = up (minR f g) := by
  funext i; exact (EReal.coe_strictMono.monotone.map_min).symm

theorem absf_up (f : ℕ → ℕ → ℝ) : absf (up f : FVec Ideal ⟨2, ![a, b]⟩ φ) = up (absR f) := by
  funext i
  show max ((f _ _ : ℝ) : EReal) (-((f _ _ : ℝ) : EReal)) = ((|f _ _| : ℝ) : EReal)
  rw [abs_eq_max_neg, ← EReal.coe_neg]
  exact (EReal.coe_strictMono.monotone.map_max).symm

theorem exp_up (f : ℕ → ℕ → ℝ) : exp (up f : FVec Ideal ⟨2, ![a, b]⟩ φ) = up (expR f) := by
  funext i; simp [exp, up, expR]

/-- The logarithm of one more than an exponential. -/
theorem log_up (f : ℕ → ℕ → ℝ) :
    log (up (addR (conR 1) (expR f)) : FVec Ideal ⟨2, ![a, b]⟩ φ) = up (logR (addR (conR 1) (expR f))) := by
  funext i
  have h : ¬ (1 + Real.exp (f (i 0).val (i 1).val) ≤ 0) := not_le.mpr (by positivity)
  show Ideal.log ((1 + Real.exp (f _ _) : ℝ) : EReal) = _
  rw [Ideal.log_coe, if_neg h]
  rfl

theorem truncf_up (h : ψ.bits < φ.bits) (f : ℕ → ℕ → ℝ) :
    truncf ψ (up f : FVec Ideal ⟨2, ![a, b]⟩ φ) h = up f := rfl

theorem extf_up (h : φ.bits < ψ.bits) (f : ℕ → ℕ → ℝ) :
    extf ψ (up f : FVec Ideal ⟨2, ![a, b]⟩ φ) h = up f := rfl

theorem zero_up : broadcast ⟨2, ![a, b]⟩ (Scalar.ofBits (F := Ideal) .f32 0x00000000#32) = (up (conR 0) : FVec Ideal ⟨2, ![a, b]⟩ .f32) := by
  funext i; simp [broadcast, up, conR]

theorem one_up : broadcast ⟨2, ![a, b]⟩ (Scalar.ofBits (F := Ideal) .f32 0x3F800000#32) = (up (conR 1) : FVec Ideal ⟨2, ![a, b]⟩ .f32) := by
  funext i; simp [broadcast, up, conR]

theorem sc_up : broadcast ⟨2, ![a, b]⟩ (Scalar.ofBits (F := Ideal) .f32 0x3DB504F3#32) = (up (conR sc) : FVec Ideal ⟨2, ![a, b]⟩ .f32) := by
  funext i; simp [broadcast, up, conR, sc_coe]

theorem shapeCast_up (h : Shape.ShapeCasts ⟨2, ![a, b]⟩ ⟨2, ![a, b]⟩) (f : ℕ → ℕ → ℝ) :
    shapeCast ⟨2, ![a, b]⟩ (up f : FVec Ideal ⟨2, ![a, b]⟩ φ) h = up f := by
  funext i; pointwise

theorem slice_up {a' b' o p : ℕ} (h : Shape.Slices ⟨2, ![a, b]⟩ ![o, p] ⟨2, ![a', b']⟩) (f : ℕ → ℕ → ℝ) :
    extractStridedSlice ⟨2, ![a', b']⟩ ![o, p] (up f : FVec Ideal ⟨2, ![a, b]⟩ φ) h = up (cutR o p f) := by
  rfl

theorem broadcastTo_up (h : Shape.Broadcasts ⟨2, ![512, 1]⟩ ⟨2, ![512, 128]⟩) (f : ℕ → ℕ → ℝ) :
    broadcastTo ⟨2, ![512, 128]⟩ (up (cutR 0 127 f) : FVec Ideal ⟨2, ![512, 1]⟩ φ) h = up (lastR f) := by
  funext i; idx_vars i; pointwise [up, cutR, lastR]

/-- Four lane blocks side by side, four row blocks one above the other, two halves side by side. -/
def sideV (x0 x1 x2 x3 : FVec Ideal S512x128 φ) : FVec Ideal S512x512 φ :=
  concatenate S512x512 1 [⟨S512x128, x0⟩, ⟨S512x128, x1⟩, ⟨S512x128, x2⟩, ⟨S512x128, x3⟩]
    concatenates_S512x128_S512x128_S512x128_S512x128_S512x512_d1
def stackV (x0 x1 x2 x3 : FVec Ideal S512x128 φ) : FVec Ideal S2048x128 φ :=
  concatenate S2048x128 0 [⟨S512x128, x0⟩, ⟨S512x128, x1⟩, ⟨S512x128, x2⟩, ⟨S512x128, x3⟩]
    concatenates_S512x128_S512x128_S512x128_S512x128_S2048x128_d0
def pairV (x0 x1 : FVec Ideal S2048x128 φ) : FVec Ideal S2048x256 φ :=
  concatenate S2048x256 1 [⟨S2048x128, x0⟩, ⟨S2048x128, x1⟩] concatenates_S2048x128_S2048x128_S2048x256_d1

theorem sideV_def (x0 x1 x2 x3 : FVec Ideal S512x128 φ) :
    concatenate S512x512 1 [⟨S512x128, x0⟩, ⟨S512x128, x1⟩, ⟨S512x128, x2⟩, ⟨S512x128, x3⟩]
      concatenates_S512x128_S512x128_S512x128_S512x128_S512x512_d1 = sideV x0 x1 x2 x3 := rfl
theorem stackV_def (x0 x1 x2 x3 : FVec Ideal S512x128 φ) :
    concatenate S2048x128 0 [⟨S512x128, x0⟩, ⟨S512x128, x1⟩, ⟨S512x128, x2⟩, ⟨S512x128, x3⟩]
      concatenates_S512x128_S512x128_S512x128_S512x128_S2048x128_d0 = stackV x0 x1 x2 x3 := rfl
theorem pairV_def (x0 x1 : FVec Ideal S2048x128 φ) :
    concatenate S2048x256 1 [⟨S2048x128, x0⟩, ⟨S2048x128, x1⟩] concatenates_S2048x128_S2048x128_S2048x256_d1
      = pairV x0 x1 := rfl

theorem side_up (f0 f1 f2 f3 : ℕ → ℕ → ℝ) :
    sideV (up f0) (up f1) (up f2) (up f3) = (up (sideR f0 f1 f2 f3) : FVec Ideal S512x512 φ) := by
  funext i; idx_vars i; pointwise [sideV, up, sideR]
  simp only [Nat.sub_sub]
  split_ifs <;> first | rfl | (exfalso; omega)

theorem stack_up (f0 f1 f2 f3 : ℕ → ℕ → ℝ) :
    stackV (up f0) (up f1) (up f2) (up f3) = (up (stackR f0 f1 f2 f3) : FVec Ideal S2048x128 φ) := by
  funext i; idx_vars i; pointwise [stackV, up, stackR]
  simp only [Nat.sub_sub]
  split_ifs <;> first | rfl | (exfalso; omega)

theorem pair_up (f0 f1 : ℕ → ℕ → ℝ) :
    pairV (up f0) (up f1) = (up (pairR f0 f1) : FVec Ideal S2048x256 φ) := by
  funext i; idx_vars i; pointwise [pairV, up, pairR]
  split_ifs <;> first | rfl | (exfalso; omega)

theorem nt_up (f g : ℕ → ℕ → ℝ) :
    matmul dot_S512x128_S512x128_S512x512_1_1_0_0_n_n none (up f : FVec Ideal S512x128 .bf16) (up g : FVec Ideal S512x128 .bf16)
      (constant S512x512 .f32 0x00000000#32) = up (ntR 128 f g) := by
  funext i; idx_vars i; pointwise [up, ntR, coe_sum, Finset.sum_range, EReal.coe_mul]

theorem nn_up (f g : ℕ → ℕ → ℝ) :
    matmul dot_S512x512_S512x128_S512x128_1_0_0_1_n_n none (up f : FVec Ideal S512x512 .bf16) (up g : FVec Ideal S512x128 .bf16)
      (constant S512x128 .f32 0x00000000#32) = up (nnR 512 f g) := by
  funext i; idx_vars i; pointwise [up, nnR, coe_sum, Finset.sum_range, EReal.coe_mul]

theorem tn_up (f g : ℕ → ℕ → ℝ) :
    matmul dot_S512x512_S512x128_S512x128_0_0_1_1_n_n none (up f : FVec Ideal S512x512 .bf16) (up g : FVec Ideal S512x128 .bf16)
      (constant S512x128 .f32 0x00000000#32) = up (tnR 512 f g) := by
  funext i; idx_vars i; pointwise [up, tnR, coe_sum, Finset.sum_range, EReal.coe_mul]

theorem runs_up (f g : ℕ → ℕ → ℝ) :
    matmul dot_S2048x256_S256x128_S2048x128_1_0_0_1_n_n none (up f : FVec Ideal S2048x256 .bf16) (up g : FVec Ideal S256x128 .bf16)
      (constant S2048x128 .f32 0x00000000#32) = up (nnR 256 f g) := by
  funext i; idx_vars i; pointwise [up, nnR, coe_sum, Finset.sum_range, EReal.coe_mul]

theorem runs1_up (f g : ℕ → ℕ → ℝ) :
    matmul dot_S2048x128_S128x128_S2048x128_1_0_0_1_n_n none (up f : FVec Ideal S2048x128 .bf16) (up g : FVec Ideal S128x128 .bf16)
      (constant S2048x128 .f32 0x00000000#32) = up (nnR 128 f g) := by
  funext i; idx_vars i; pointwise [up, nnR, coe_sum, Finset.sum_range, EReal.coe_mul]

theorem slt_small {m n : ℕ} (hm : m < 2 ^ 31) (hn : n < 2 ^ 31) :
    IntOp.cmpi .slt (BitVec.ofNat 32 m) (BitVec.ofNat 32 n) = BitVec.ofBool (decide (m < n)) := by
  have h : ∀ k, k < 2 ^ 31 → (BitVec.ofNat 32 k).toInt = (k : ℤ) := fun k hk => by
    rw [BitVec.toInt_eq_toNat_of_lt (by rw [BitVec.toNat_ofNat]; omega), BitVec.toNat_ofNat]
    omega
  show BitVec.ofBool (BitVec.slt _ _) = _
  rw [BitVec.slt_eq_decide, h m hm, h n hn]
  simp

theorem sle_small {m n : ℕ} (hm : m < 2 ^ 31) (hn : n < 2 ^ 31) :
    IntOp.cmpi .sle (BitVec.ofNat 32 m) (BitVec.ofNat 32 n) = BitVec.ofBool (decide (m ≤ n)) := by
  have h : ∀ k, k < 2 ^ 31 → (BitVec.ofNat 32 k).toInt = (k : ℤ) := fun k hk => by
    rw [BitVec.toInt_eq_toNat_of_lt (by rw [BitVec.toNat_ofNat]; omega), BitVec.toNat_ofNat]
    omega
  show BitVec.ofBool (BitVec.sle _ _) = _
  rw [BitVec.sle_eq_decide, h m hm, h n hn]
  simp

theorem bit_value (p : Prop) [Decidable p] :
    (FloatOps.sitofp (F := Ideal) FTy.f32 (BitVec.setWidth 32 (BitVec.ofBool (decide p))) : Ideal .f32)
      = (((if p then 1 else 0 : ℝ)) : EReal) := by
  by_cases h : p <;> simp [h, FloatOps.sitofp]

theorem tri2_up : (k0_pay131 : FVec Ideal S256x128 .bf16) = up tri2R := by
  funext i
  idx_vars i
  rw [up_ix2]
  pointwise [k0_pay131]
  rw [sle_small (by omega) (by omega), sle_small (by omega) (by omega), bit_value, bit_value]
  by_cases h : i0.val < 128
  · rw [dif_pos h, tri2R, Nat.mod_eq_of_lt h]
  · rw [dif_neg h, tri2R, show i0.val % 128 = i0.val - 128 by omega]

theorem tri_up : (k0_pay132 : FVec Ideal S128x128 .bf16) = up triR := by
  funext i
  idx_vars i
  rw [up_ix2]
  pointwise [k0_pay132]
  rw [slt_small (by omega) (by omega), bit_value, triR]

theorem low_up (f : ℕ → ℕ → ℝ) : select k0_pay140 (up f : FVec Ideal S512x512 φ) (up (conR 0)) = up (lowR f) := by
  funext i; idx_vars i; pointwise [k0_pay140, up, lowR, conR]
  rw [slt_small (by omega) (by omega)]
  by_cases h : i1.val < i0.val <;> simp [h, Scalar.select]

theorem low_up' (f : ℕ → ℕ → ℝ) : select k0_pay144 (up f : FVec Ideal S512x512 φ) (up (conR 0)) = up (lowR f) := low_up f

end Cert.KernelIdeal.Reals

end
-- ==== Proof.Cube.lean ====
/- Arrays of reals with three axes, a head, a row and a column: what each operation of the host makes of arrays whose entries
   are all real, the running sums along the columns among them. -/
module

public import proofs.«01_k».proof.Proof.Arrays
public import Idealize.ShloMosaic.PureOps.Ideal.Laws

@[expose] public section

set_option maxRecDepth 16384

noncomputable section

namespace Cert.KernelIdeal.Reals

open Idealize.ShloMosaic Idealize.SL.Sem

/-- The array of three axes with the real entries `f head row column`. -/
def up3 {a b c : ℕ} {φ : FTy} (f : ℕ → ℕ → ℕ → ℝ) : FVec Ideal ⟨3, ![a, b, c]⟩ φ :=
  fun i => ((f (i 0).val (i 1).val (i 2).val : ℝ) : EReal)

/-- Two arrays of reals are equal when their entries inside the shape are. -/
theorem up3_congr {a b c : ℕ} {φ : FTy} {f g : ℕ → ℕ → ℕ → ℝ}
    (h : ∀ x, x < a → ∀ r, r < b → ∀ s, s < c → f x r s = g x r s) :
    (up3 f : FVec Ideal ⟨3, ![a, b, c]⟩ φ) = up3 g :=
  funext fun i => congrArg _ (h _ (i 0).isLt _ (i 1).isLt _ (i 2).isLt)

section
variable {a b c : ℕ} {φ : FTy} (f g : ℕ → ℕ → ℕ → ℝ)

theorem addf_up3 : addf (up3 f : FVec Ideal ⟨3, ![a, b, c]⟩ φ) (up3 g) = up3 fun h t s => f h t s + g h t s := by
  funext i; simp [addf, up3]

theorem subf_up3 : subf (up3 f : FVec Ideal ⟨3, ![a, b, c]⟩ φ) (up3 g) = up3 fun h t s => f h t s - g h t s := by
  funext i; simp [subf, up3]

theorem mulf_up3 : mulf (up3 f : FVec Ideal ⟨3, ![a, b, c]⟩ φ) (up3 g) = up3 fun h t s => f h t s * g h t s := by
  funext i; simp [mulf, up3]

theorem maximumf_up3 : maximumf (up3 f : FVec Ideal ⟨3, ![a, b, c]⟩ φ) (up3 g) = up3 fun h t s => max (f h t s) (g h t s) := by
  funext i; exact (EReal.coe_strictMono.monotone.map_max).symm

theorem negf_up3 : Host.negf (up3 f : FVec Ideal ⟨3, ![a, b, c]⟩ φ) = up3 fun h t s => - f h t s := by
  funext i; simp [Host.negf, up3]

theorem absf_up3 : Host.absf (up3 f : FVec Ideal ⟨3, ![a, b, c]⟩ φ) = up3 fun h t s => |f h t s| := by
  funext i
  show max ((f _ _ _ : ℝ) : EReal) (-((f _ _ _ : ℝ) : EReal)) = ((|f _ _ _| : ℝ) : EReal)
  rw [abs_eq_max_neg, ← EReal.coe_neg]
  exact (EReal.coe_strictMono.monotone.map_max).symm

theorem exp_up3 : Host.exp (up3 f : FVec Ideal ⟨3, ![a, b, c]⟩ φ) = up3 fun h t s => Real.exp (f h t s) := by
  funext i; simp [Host.exp, up3]

/-- The logarithm of one more than an exponential. -/
theorem log1p_up3 : Host.log1p (up3 fun h t s => Real.exp (f h t s) : FVec Ideal ⟨3, ![a, b, c]⟩ φ)
    = up3 fun h t s => Real.log (1 + Real.exp (f h t s)) := by
  funext i
  have h : ¬ (1 + Real.exp (f (i 0).val (i 1).val (i 2).val) ≤ 0) := not_le.mpr (by positivity)
  show Ideal.log (1 + ((Real.exp (f _ _ _) : ℝ) : EReal)) = _
  rw [← EReal.coe_one, ← EReal.coe_add, Ideal.log_coe, if_neg h]
  rfl

/-- A real is equal to itself, and is not infinite. -/
theorem une_up3 (x y : FVec Ideal ⟨3, ![a, b, c]⟩ φ) :
    select (cmpf .une (up3 f : FVec Ideal ⟨3, ![a, b, c]⟩ φ) (up3 f)) x y = y := by
  funext i
  simp [select, cmpf, up3, FloatOps.cmpf, Ideal.cmp, Scalar.select]

/-- An infinity in every entry. -/
def infV (a b c : ℕ) : FVec Ideal ⟨3, ![a, b, c]⟩ .f32 := fun _ => ⊤

theorem oeq_up3 (x y : FVec Ideal ⟨3, ![a, b, c]⟩ .f32) :
    select (cmpf .oeq (up3 f : FVec Ideal ⟨3, ![a, b, c]⟩ .f32) (infV a b c)) x y = y := by
  funext i
  simp [select, cmpf, up3, infV, FloatOps.cmpf, Ideal.cmp, Scalar.select]
end

theorem con_zero {a b c : ℕ} (d) (h) :
    broadcastInDim ⟨3, ![a, b, c]⟩ d h (constant (F := Ideal) ⟨0, ![]⟩ .f32 0x00000000#32) = up3 fun _ _ _ => 0 := by
  funext i; simp [broadcastInDim, constant, up3]

theorem con_inf {a b c : ℕ} (d) (h) :
    broadcastInDim ⟨3, ![a, b, c]⟩ d h (constant (F := Ideal) ⟨0, ![]⟩ .f32 0x7F800000#32) = infV a b c := by
  funext i; simp [broadcastInDim, constant, infV, Ideal.ofBits, Ideal.ieee]

theorem con_sc {a b c : ℕ} (d) (h) :
    broadcastInDim ⟨3, ![a, b, c]⟩ d h (constant (F := Ideal) ⟨0, ![]⟩ .f32 0x3DB504F3#32) = up3 fun _ _ _ => sc := by
  funext i; simp [broadcastInDim, constant, up3, sc_coe]

/-! ## Running sums -/

theorem fold_sum {n : ℕ} (g : Fin n → EReal) (v : EReal) :
    (List.finRange n).foldl (fun r i => r + g i) v = v + ∑ i, g i := by
  have : ∀ (l : List (Fin n)) (v : EReal), l.foldl (fun r i => r + g i) v = v + (l.map g).sum := by
    intro l
    induction l with
    | nil => intro v; simp
    | cons x l ih => intro v; rw [List.foldl_cons, ih, List.map_cons, List.sum_cons, add_assoc]
  rw [this, Fin.sum_univ_def]

/-- The indices of a window of one entry in the first two axes. -/
def winEquiv (n : ℕ) : (⟨3, ![1, 1, n]⟩ : Shape).Idx ≃ Fin n where
  toFun i := ⟨(i 2).val, (i 2).isLt⟩
  invFun k := fun x => match x with
    | ⟨0, _⟩ => ⟨0, Nat.one_pos⟩
    | ⟨1, _⟩ => ⟨0, Nat.one_pos⟩
    | ⟨2, _⟩ => ⟨k.val, k.isLt⟩
  left_inv i := by
    funext x
    have h0 : (i 0).val < 1 := (i 0).isLt
    have h1 : (i 1).val < 1 := (i 1).isLt
    match x with
    | ⟨0, _⟩ => exact Fin.ext (show 0 = (i 0).val by omega)
    | ⟨1, _⟩ => exact Fin.ext (show 0 = (i 1).val by omega)
    | ⟨2, _⟩ => rfl
  right_inv k := rfl

theorem window_sum {a b c : ℕ} (l u : ℕ) (f : ℕ → ℕ → ℕ → ℝ) (z : FVec Ideal ⟨0, ![]⟩ .f32)
    (hz : z = fun _ => ((0 : ℝ) : EReal))
    (h : Shape.ReduceWindows ⟨3, ![a, b, c]⟩ ![1, 1, c] ![1, 1, 1] ![0, 0, l] ![0, 0, u] ⟨3, ![a, b, c]⟩) (hu) :
    Host.reduceWindowAdd (s := ⟨3, ![a, b, c]⟩) ![1, 1, c] ![1, 1, 1] ![0, 0, l] ![0, 0, u] (up3 f) z h hu
      = up3 fun x t s => ∑ k ∈ Finset.range c, if l ≤ s + k ∧ s + k - l < c then f x t (s + k - l) else 0 := by
  funext j
  subst hz
  unfold Host.reduceWindowAdd
  rw [Ideal.hostReduceWindowAdd_def]
  unfold Ideal.hostReduceWindowAdd Host.reduceWindow
  dsimp only
  rw [fold_sum, EReal.coe_zero, zero_add, ← Equiv.sum_comp (⟨3, ![1, 1, c]⟩ : Shape).rowMajor,
    ← Equiv.sum_comp (winEquiv c).symm]
  simp only [up3]
  rw [coe_sum, Finset.sum_range]
  refine Finset.sum_congr rfl fun k _ => ?_
  rw [Equiv.symm_apply_apply]
  have h0 : (j 0).val < a := (j 0).isLt
  have h1 : (j 1).val < b := (j 1).isLt
  by_cases hc : l ≤ (j 2).val + k.val ∧ (j 2).val + k.val - l < c
  · rw [if_pos hc, dif_pos]
    · show ((f ((j 0).val * 1 + 0 - 0) ((j 1).val * 1 + 0 - 0) ((j 2).val * 1 + k.val - l) : ℝ) : EReal) = _
      simp only [Nat.mul_one, Nat.add_zero, Nat.sub_zero]
    · intro x
      match x with
      | ⟨0, _⟩ => show 0 ≤ (j 0).val * 1 + 0 ∧ (j 0).val * 1 + 0 - 0 < a; omega
      | ⟨1, _⟩ => show 0 ≤ (j 1).val * 1 + 0 ∧ (j 1).val * 1 + 0 - 0 < b; omega
      | ⟨2, _⟩ => show l ≤ (j 2).val * 1 + k.val ∧ (j 2).val * 1 + k.val - l < c; omega
  · rw [if_neg hc, dif_neg, EReal.coe_zero]
    intro hn
    have : l ≤ (j 2).val * 1 + k.val ∧ (j 2).val * 1 + k.val - l < c := hn 2
    exact hc (by omega)

/-- The sums from each column on, -/
theorem suffix_up3 {a b c : ℕ} (f : ℕ → ℕ → ℕ → ℝ) (z : FVec Ideal ⟨0, ![]⟩ .f32)
    (hz : z = fun _ => ((0 : ℝ) : EReal)) (u : ℕ)
    (h : Shape.ReduceWindows ⟨3, ![a, b, c]⟩ ![1, 1, c] ![1, 1, 1] ![0, 0, 0] ![0, 0, u] ⟨3, ![a, b, c]⟩) (hu) :
    Host.reduceWindowAdd (s := ⟨3, ![a, b, c]⟩) ![1, 1, c] ![1, 1, 1] ![0, 0, 0] ![0, 0, u] (up3 f) z h hu
      = up3 fun x t s => ∑ i ∈ Finset.range c, f x t i - ∑ i ∈ Finset.range s, f x t i := by
  rw [window_sum 0 u f z hz h hu]
  refine up3_congr fun x _ t _ s hs => ?_
  obtain ⟨n, rfl⟩ : ∃ n, c = s + n := ⟨c - s, by omega⟩
  rw [Finset.sum_range_add (f x t) s n, add_sub_cancel_left, Nat.add_comm s n, Finset.sum_range_add _ n s]
  rw [Finset.sum_congr rfl (g := fun i => f x t (s + i)), Finset.sum_eq_zero (s := Finset.range s), add_zero]
  · intro k _; rw [if_neg (by omega)]
  · intro k hk; rw [if_pos (by have := Finset.mem_range.1 hk; omega), Nat.sub_zero]

/-- and the sums up to it. -/
theorem prefix_up3 {a b c : ℕ} (f : ℕ → ℕ → ℕ → ℝ) (z : FVec Ideal ⟨0, ![]⟩ .f32)
    (hz : z = fun _ => ((0 : ℝ) : EReal)) (u : ℕ)
    (h : Shape.ReduceWindows ⟨3, ![a, b, c + 1]⟩ ![1, 1, c + 1] ![1, 1, 1] ![0, 0, c] ![0, 0, u] ⟨3, ![a, b, c + 1]⟩) (hu) :
    Host.reduceWindowAdd (s := ⟨3, ![a, b, c + 1]⟩) ![1, 1, c + 1] ![1, 1, 1] ![0, 0, c] ![0, 0, u] (up3 f) z h hu
      = up3 fun x t s => ∑ i ∈ Finset.range (s + 1), f x t i := by
  rw [window_sum c u f z hz h hu]
  refine up3_congr fun x _ t _ s hs => ?_
  obtain ⟨n, hn⟩ : ∃ n, c = n + s := ⟨c - s, by omega⟩
  subst hn
  rw [Nat.add_assoc, Finset.sum_range_add _ n (s + 1)]
  rw [Finset.sum_eq_zero (s := Finset.range n), zero_add]
  · refine Finset.sum_congr rfl fun k hk => ?_
    have := Finset.mem_range.1 hk
    rw [if_pos (by omega)]
    congr 1; omega
  · intro k hk
    have := Finset.mem_range.1 hk
    rw [if_neg (by omega)]

end Cert.KernelIdeal.Reals
-- ==== Proof.Chain.lean ====
/- Running sums along the columns: the program takes them in four lane blocks of 128, each block's sums started from
   the last lane of the block before. Here: what the chain of the four blocks holds. -/
module

public import proofs.«01_k».proof.Proof.Arrays

@[expose] public section

noncomputable section

namespace Cert.KernelIdeal.Reals

/-- The sums along the row up to and with the column, started from `c`. -/
def incR (f : ℕ → ℕ → ℝ) (c : ℕ → ℝ) : ℕ → ℕ → ℝ := fun r j => c r + ∑ i ∈ Finset.range (j + 1), f r i
/-- The sums along the row up to and without the column, started from `c`. -/
def excR (f : ℕ → ℕ → ℝ) (c : ℕ → ℝ) : ℕ → ℕ → ℝ := fun r j => c r + ∑ i ∈ Finset.range j, f r i
/-- The sum of the row's 512 entries, started from `c`. -/
def endR (f : ℕ → ℕ → ℝ) (c : ℕ → ℝ) : ℕ → ℝ := fun r => c r + ∑ i ∈ Finset.range 512, f r i
/-- The sums inside a lane block that starts at `o`, with and without the lane itself. -/
def preI (o : ℕ) (f : ℕ → ℕ → ℝ) : ℕ → ℕ → ℝ := fun r l => ∑ i ∈ Finset.range (l + 1), f r (o + i)
def preX (o : ℕ) (f : ℕ → ℕ → ℝ) : ℕ → ℕ → ℝ := fun r l => ∑ i ∈ Finset.range l, f r (o + i)
/-- `log σ(z)`, as the program takes it. -/
def lsigR (z : ℕ → ℕ → ℝ) : ℕ → ℕ → ℝ := fun r c => min (z r c) 0 - Real.log (1 + Real.exp (0 - |z r c|))

variable (f : ℕ → ℕ → ℝ) (c : ℕ → ℝ)

/-- Row `r` of block `b` of the four lane blocks stacked is row `r` of the array, from lane `128 b` on. -/
theorem stack_at (b : ℕ) (hb : b < 4) (r x : ℕ) (hr : r < 512) :
    stackR (cutR 0 0 f) (cutR 0 128 f) (cutR 0 256 f) (cutR 0 384 f) (512 * b + r) x = f r (128 * b + x) := by
  have hb' : b = 0 ∨ b = 1 ∨ b = 2 ∨ b = 3 := by omega
  unfold stackR cutR
  rcases hb' with h | h | h | h <;> subst h
  · rw [if_pos (by omega)]; exact congrArg₂ f (by omega) (by omega)
  · rw [if_neg (by omega), if_pos (by omega)]; exact congrArg₂ f (by omega) (by omega)
  · rw [if_neg (by omega), if_neg (by omega), if_pos (by omega)]; exact congrArg₂ f (by omega) (by omega)
  · rw [if_neg (by omega), if_neg (by omega), if_neg (by omega)]; exact congrArg₂ f (by omega) (by omega)

/-- Block `b` of the stacked rows times the doubled triangle, the rows' second halves zero: the sums inside the block. -/
theorem blkI (b : ℕ) (hb : b < 4) (r l : ℕ) (hr : r < 512) (hl : l < 128) :
    nnR 256 (pairR (stackR (cutR 0 0 f) (cutR 0 128 f) (cutR 0 256 f) (cutR 0 384 f))
      (subR (stackR (cutR 0 0 f) (cutR 0 128 f) (cutR 0 256 f) (cutR 0 384 f))
        (stackR (cutR 0 0 f) (cutR 0 128 f) (cutR 0 256 f) (cutR 0 384 f)))) tri2R (512 * b + r) l
      = ∑ i ∈ Finset.range (l + 1), f r (128 * b + i) := by
  unfold nnR
  rw [show (256 : ℕ) = 128 + 128 from rfl, Finset.sum_range_add]
  have h2 : ∀ x ∈ Finset.range 128, pairR (stackR (cutR 0 0 f) (cutR 0 128 f) (cutR 0 256 f) (cutR 0 384 f))
      (subR (stackR (cutR 0 0 f) (cutR 0 128 f) (cutR 0 256 f) (cutR 0 384 f))
        (stackR (cutR 0 0 f) (cutR 0 128 f) (cutR 0 256 f) (cutR 0 384 f))) (512 * b + r) (128 + x) * tri2R (128 + x) l = 0 :=
    fun x _ => by simp [pairR, subR]
  rw [Finset.sum_eq_zero h2, add_zero]
  rw [← Finset.sum_subset (Finset.range_subset_range.mpr (show l + 1 ≤ 128 by omega))]
  · refine Finset.sum_congr rfl fun x hx => ?_
    have hx' : x < l + 1 := Finset.mem_range.mp hx
    have hxm : x % 128 = x := Nat.mod_eq_of_lt (by omega)
    rw [pairR, if_pos (by omega), tri2R, hxm, if_pos (by omega), mul_one]
    exact stack_at f b hb r x hr
  · intro x hx hx'
    have h1 : x < 128 := Finset.mem_range.mp hx
    have h3 : ¬ x < l + 1 := fun h => hx' (Finset.mem_range.mpr h)
    rw [tri2R, Nat.mod_eq_of_lt h1, if_neg (by omega), mul_zero]

/-- Block `b` of the stacked rows times the strict triangle: the sums inside the block without the column itself. -/
theorem blkX (b : ℕ) (hb : b < 4) (r l : ℕ) (hr : r < 512) (hl : l < 128) :
    nnR 128 (stackR (cutR 0 0 f) (cutR 0 128 f) (cutR 0 256 f) (cutR 0 384 f)) triR (512 * b + r) l
      = ∑ i ∈ Finset.range l, f r (128 * b + i) := by
  unfold nnR
  rw [← Finset.sum_subset (Finset.range_subset_range.mpr (show l ≤ 128 by omega))]
  · refine Finset.sum_congr rfl fun x hx => ?_
    have hx' : x < l := Finset.mem_range.mp hx
    rw [triR, if_pos (by omega), mul_one]
    exact stack_at f b hb r x hr
  · intro x hx hx'
    have h3 : ¬ x < l := fun h => hx' (Finset.mem_range.mpr h)
    rw [triR, if_neg (by omega), mul_zero]

open Idealize.ShloMosaic Cert.KernelIdeal

theorem blkI_0 : (up (cutR 0 0 (nnR 256 (pairR (stackR (cutR 0 0 f) (cutR 0 128 f) (cutR 0 256 f) (cutR 0 384 f))
      (subR (stackR (cutR 0 0 f) (cutR 0 128 f) (cutR 0 256 f) (cutR 0 384 f))
        (stackR (cutR 0 0 f) (cutR 0 128 f) (cutR 0 256 f) (cutR 0 384 f)))) tri2R)) : FVec Ideal S512x128 .f32)
      = up (preI 0 f) :=
  up_congr fun r hr l hl => (congrArg₂ _ rfl (Nat.zero_add l)).trans (blkI f 0 (by decide) r l hr hl)

theorem blkX_0 : (up (cutR 0 0 (nnR 128 (stackR (cutR 0 0 f) (cutR 0 128 f) (cutR 0 256 f) (cutR 0 384 f)) triR)) :
      FVec Ideal S512x128 .f32) = up (preX 0 f) :=
  up_congr fun r hr l hl => (congrArg₂ _ rfl (Nat.zero_add l)).trans (blkX f 0 (by decide) r l hr hl)

theorem blkI_1 : (up (cutR 512 0 (nnR 256 (pairR (stackR (cutR 0 0 f) (cutR 0 128 f) (cutR 0 256 f) (cutR 0 384 f))
      (subR (stackR (cutR 0 0 f) (cutR 0 128 f) (cutR 0 256 f) (cutR 0 384 f))
        (stackR (cutR 0 0 f) (cutR 0 128 f) (cutR 0 256 f) (cutR 0 384 f)))) tri2R)) : FVec Ideal S512x128 .f32)
      = up (preI 128 f) :=
  up_congr fun r hr l hl => (congrArg₂ _ rfl (Nat.zero_add l)).trans (blkI f 1 (by decide) r l hr hl)

theorem blkX_1 : (up (cutR 512 0 (nnR 128 (stackR (cutR 0 0 f) (cutR 0 128 f) (cutR 0 256 f) (cutR 0 384 f)) triR)) :
      FVec Ideal S512x128 .f32) = up (preX 128 f) :=
  up_congr fun r hr l hl => (congrArg₂ _ rfl (Nat.zero_add l)).trans (blkX f 1 (by decide) r l hr hl)

theorem blkI_2 : (up (cutR 1024 0 (nnR 256 (pairR (stackR (cutR 0 0 f) (cutR 0 128 f) (cutR 0 256 f) (cutR 0 384 f))
      (subR (stackR (cutR 0 0 f) (cutR 0 128 f) (cutR 0 256 f) (cutR 0 384 f))
        (stackR (cutR 0 0 f) (cutR 0 128 f) (cutR 0 256 f) (cutR 0 384 f)))) tri2R)) : FVec Ideal S512x128 .f32)
      = up (preI 256 f) :=
  up_congr fun r hr l hl => (congrArg₂ _ rfl (Nat.zero_add l)).trans (blkI f 2 (by decide) r l hr hl)

theorem blkX_2 : (up (cutR 1024 0 (nnR 128 (stackR (cutR 0 0 f) (cutR 0 128 f) (cutR 0 256 f) (cutR 0 384 f)) triR)) :
      FVec Ideal S512x128 .f32) = up (preX 256 f) :=
  up_congr fun r hr l hl => (congrArg₂ _ rfl (Nat.zero_add l)).trans (blkX f 2 (by decide) r l hr hl)

theorem blkI_3 : (up (cutR 1536 0 (nnR 256 (pairR (stackR (cutR 0 0 f) (cutR 0 128 f) (cutR 0 256 f) (cutR 0 384 f))
      (subR (stackR (cutR 0 0 f) (cutR 0 128 f) (cutR 0 256 f) (cutR 0 384 f))
        (stackR (cutR 0 0 f) (cutR 0 128 f) (cutR 0 256 f) (cutR 0 384 f)))) tri2R)) : FVec Ideal S512x128 .f32)
      = up (preI 384 f) :=
  up_congr fun r hr l hl => (congrArg₂ _ rfl (Nat.zero_add l)).trans (blkI f 3 (by decide) r l hr hl)

theorem blkX_3 : (up (cutR 1536 0 (nnR 128 (stackR (cutR 0 0 f) (cutR 0 128 f) (cutR 0 256 f) (cutR 0 384 f)) triR)) :
      FVec Ideal S512x128 .f32) = up (preX 384 f) :=
  up_congr fun r hr l hl => (congrArg₂ _ rfl (Nat.zero_add l)).trans (blkX f 3 (by decide) r l hr hl)

/-- The first block of the chain. -/
theorem inc_0 : addR (preI 0 f) (rowR c) = cutR 0 0 (incR f c) := by
  funext r l; simp only [addR, preI, rowR, cutR, incR, Nat.zero_add]; exact add_comm _ _

/-- A further block of the chain, from the last lane of the one before it. -/
theorem inc_step (o : ℕ) : addR (preI (o + 128) f) (lastR (cutR 0 o (incR f c))) = cutR 0 (o + 128) (incR f c) := by
  funext r l
  simp only [addR, preI, lastR, cutR, incR, Nat.zero_add]
  rw [show o + 128 + l + 1 = (o + 127 + 1) + (l + 1) by omega, Finset.sum_range_add _ (o + 127 + 1) (l + 1)]
  ring

theorem inc_end : lastR (cutR 0 384 (incR f c)) = rowR (endR f c) := by
  funext r l; simp only [lastR, cutR, incR, rowR, endR, Nat.zero_add]

theorem exc_0 : addR (preX 0 f) (rowR c) = cutR 0 0 (excR f c) := by
  funext r l; simp only [addR, preX, rowR, cutR, excR, Nat.zero_add]; exact add_comm _ _

theorem exc_step (o : ℕ) : addR (preX (o + 128) f) (lastR (addR (cutR 0 o (excR f c)) (cutR 0 o f)))
    = cutR 0 (o + 128) (excR f c) := by
  funext r l
  simp only [addR, preX, lastR, cutR, excR, Nat.zero_add]
  rw [show o + 128 + l = (o + 127 + 1) + l by omega, Finset.sum_range_add _ (o + 127 + 1) l, Finset.sum_range_succ _ (o + 127)]
  ring

theorem exc_end : lastR (addR (cutR 0 384 (excR f c)) (cutR 0 384 f)) = rowR (endR f c) := by
  funext r l; simp only [addR, lastR, cutR, excR, rowR, endR, Nat.zero_add]
  rw [show (512 : ℕ) = (384 + 127) + 1 from rfl, Finset.sum_range_succ _ (384 + 127)]
  ring

theorem inc_step0 : addR (preI 128 f) (lastR (cutR 0 0 (incR f c))) = cutR 0 128 (incR f c) := inc_step f c 0
theorem inc_step1 : addR (preI 256 f) (lastR (cutR 0 128 (incR f c))) = cutR 0 256 (incR f c) := inc_step f c 128
theorem inc_step2 : addR (preI 384 f) (lastR (cutR 0 256 (incR f c))) = cutR 0 384 (incR f c) := inc_step f c 256
theorem exc_step0 : addR (preX 128 f) (lastR (addR (cutR 0 0 (excR f c)) (cutR 0 0 f))) = cutR 0 128 (excR f c) :=
  exc_step f c 0
theorem exc_step1 : addR (preX 256 f) (lastR (addR (cutR 0 128 (excR f c)) (cutR 0 128 f))) = cutR 0 256 (excR f c) :=
  exc_step f c 128
theorem exc_step2 : addR (preX 384 f) (lastR (addR (cutR 0 256 (excR f c)) (cutR 0 256 f))) = cutR 0 384 (excR f c) :=
  exc_step f c 256

theorem sub_row (F : ℕ → ℕ → ℝ) (o : ℕ) : subR (rowR c) (cutR 0 o F) = cutR 0 o (subR (rowR c) F) := by
  funext r l; simp only [subR, rowR, cutR, Nat.zero_add]

/-- The four lane blocks side by side are the array. -/
theorem side_cut (F : ℕ → ℕ → ℝ) : sideR (cutR 0 0 F) (cutR 0 128 F) (cutR 0 256 F) (cutR 0 384 F) = F := by
  funext r j
  simp only [sideR, cutR, Nat.zero_add]
  split_ifs
  · rfl
  · exact congrArg (F r) (by omega)
  · exact congrArg (F r) (by omega)
  · exact congrArg (F r) (by omega)

theorem lsig_def (z : ℕ → ℕ → ℝ) :
    subR (minR z (conR 0)) (logR (addR (conR 1) (expR (subR (conR 0) (absR z))))) = lsigR z := rfl

end Cert.KernelIdeal.Reals

end
-- ==== Proof.State.lean ====
/- What a buffer of the kernel holds, as arrays of reals: what a load reads of it and what a store leaves in it. -/
module

public import proofs.«01_k».proof.Proof.Chain
public import Idealize.ShloMosaic.Lib.Pipeline.ValueKit
public import Idealize.ShloMosaic.Lib.WritesUnit

@[expose] public section

noncomputable section

namespace Cert.KernelIdeal.Reals

open Idealize.ShloMosaic Idealize.SL.Sem Cert.KernelIdeal

/-- The array `A` with the block from row `o` and column `p` on, of `n` rows and `m` columns, replaced by `B`. -/
def putR (o p n m : ℕ) (B A : ℕ → ℕ → ℝ) : ℕ → ℕ → ℝ := fun r c =>
  if (o ≤ r ∧ r < o + n) ∧ (p ≤ c ∧ c < p + m) then B (r - o) (c - p) else A r c

/-- The rows from `o` on. -/
def rowsR (o : ℕ) (A : ℕ → ℕ → ℝ) : ℕ → ℕ → ℝ := fun r c => A (o + r) c

section
variable {sig : RefSig} {κ : Kind} {sp : Space} {a b n m : ℕ} {φ : EltTy}

/-- A load of a block reads the block. -/
theorem readAt_up (v : View sig κ sp ⟨2, ![a, b]⟩ .f32) (f : v.ty.Contents (Elt Ideal)) (A : ℕ → ℕ → ℝ)
    {off : Fin 2 → ℕ} (inb : ∀ x, off x + (![n, m] : Fin 2 → ℕ) x ≤ (![a, b] : Fin 2 → ℕ) x)
    (h : v.read (Elt Ideal) f = (up A : FVec Ideal ⟨2, ![a, b]⟩ .f32)) :
    v.readAt (Elt Ideal) (Rect.unit (s := ⟨2, ![a, b]⟩) off ![n, m] inb).toLoadRect f
      = (up (cutR (off 0) (off 1) A) : FVec Ideal ⟨2, ![n, m]⟩ .f32) := by
  rw [View.readAt_eq_ld, h]
  funext i
  show ((A (off 0 + 1 * (i 0).val) (off 1 + 1 * (i 1).val) : ℝ) : EReal) = _
  rw [Nat.one_mul, Nat.one_mul]
  rfl

theorem readAt_up16 (v : View sig κ sp ⟨2, ![a, b]⟩ .bf16) (f : v.ty.Contents (Elt Ideal)) (A : ℕ → ℕ → ℝ)
    {off : Fin 2 → ℕ} (inb : ∀ x, off x + (![n, m] : Fin 2 → ℕ) x ≤ (![a, b] : Fin 2 → ℕ) x)
    (h : v.read (Elt Ideal) f = (up A : FVec Ideal ⟨2, ![a, b]⟩ .bf16)) :
    v.readAt (Elt Ideal) (Rect.unit (s := ⟨2, ![a, b]⟩) off ![n, m] inb).toLoadRect f
      = (up (cutR (off 0) (off 1) A) : FVec Ideal ⟨2, ![n, m]⟩ .bf16) := by
  rw [View.readAt_eq_ld, h]
  funext i
  show ((A (off 0 + 1 * (i 0).val) (off 1 + 1 * (i 1).val) : ℝ) : EReal) = _
  rw [Nat.one_mul, Nat.one_mul]
  rfl

/-- What the buffer holds after a store of a block. -/
theorem read_cons_up (v : View sig κ sp ⟨2, ![a, b]⟩ .f32) (f : v.ty.Contents (Elt Ideal)) (A B : ℕ → ℕ → ℝ)
    {off : Fin 2 → ℕ} (inb : ∀ x, off x + (![n, m] : Fin 2 → ℕ) x ≤ (![a, b] : Fin 2 → ℕ) x)
    (L : List (View.Piece (Elt Ideal) ⟨2, ![a, b]⟩ .f32))
    (h : v.read (Elt Ideal) (v.writes (Elt Ideal) f L) = (up A : FVec Ideal ⟨2, ![a, b]⟩ .f32)) :
    v.read (Elt Ideal) (v.writes (Elt Ideal) f (⟨Rect.unit (s := ⟨2, ![a, b]⟩) off ![n, m] inb,
        (up B : FVec Ideal ⟨2, ![n, m]⟩ .f32)⟩ :: L))
      = (up (putR (off 0) (off 1) n m B A) : FVec Ideal ⟨2, ![a, b]⟩ .f32) := by
  funext i
  rw [View.read_writes_cons_unit v f inb _ L i rfl, h]
  by_cases hi : (off 0 ≤ (i 0).val ∧ (i 0).val < off 0 + n) ∧ (off 1 ≤ (i 1).val ∧ (i 1).val < off 1 + m)
  · rw [dif_pos (Fin.forall_fin_two.mpr hi)]
    show _ = ((putR _ _ _ _ B A (i 0).val (i 1).val : ℝ) : EReal)
    rw [putR, if_pos hi]
    rfl
  · rw [dif_neg (fun h' => hi (Fin.forall_fin_two.mp h'))]
    show _ = ((putR _ _ _ _ B A (i 0).val (i 1).val : ℝ) : EReal)
    rw [putR, if_neg hi]
    rfl

/-- A buffer of two heads side by side: a load of one head's block, -/
theorem readAt_pair0 (v : View sig κ sp ⟨2, ![a, 256]⟩ .f32) (f : v.ty.Contents (Elt Ideal)) (A B : ℕ → ℕ → ℝ) {o : ℕ}
    {off : Fin 2 → ℕ} (inb : ∀ x, off x + (![512, 128] : Fin 2 → ℕ) x ≤ (![a, 256] : Fin 2 → ℕ) x)
    (h : v.read (Elt Ideal) f = (up (pairR A B) : FVec Ideal ⟨2, ![a, 256]⟩ .f32)) (ho : off = ![o, 0]) :
    v.readAt (Elt Ideal) (Rect.unit (s := ⟨2, ![a, 256]⟩) off ![512, 128] inb).toLoadRect f
      = (up (rowsR o A) : FVec Ideal ⟨2, ![512, 128]⟩ .f32) := by
  subst ho
  rw [readAt_up v f _ inb h]
  refine up_congr fun r _ c hc => ?_
  show pairR A B (o + r) (0 + c) = _
  rw [pairR, Nat.zero_add, if_pos hc]; rfl

theorem readAt_pair1 (v : View sig κ sp ⟨2, ![a, 256]⟩ .f32) (f : v.ty.Contents (Elt Ideal)) (A B : ℕ → ℕ → ℝ) {o : ℕ}
    {off : Fin 2 → ℕ} (inb : ∀ x, off x + (![512, 128] : Fin 2 → ℕ) x ≤ (![a, 256] : Fin 2 → ℕ) x)
    (h : v.read (Elt Ideal) f = (up (pairR A B) : FVec Ideal ⟨2, ![a, 256]⟩ .f32)) (ho : off = ![o, 128]) :
    v.readAt (Elt Ideal) (Rect.unit (s := ⟨2, ![a, 256]⟩) off ![512, 128] inb).toLoadRect f
      = (up (rowsR o B) : FVec Ideal ⟨2, ![512, 128]⟩ .f32) := by
  subst ho
  rw [readAt_up v f _ inb h]
  refine up_congr fun r _ c hc => ?_
  show pairR A B (o + r) (128 + c) = _
  rw [pairR, if_neg (by omega), Nat.add_sub_cancel_left]; rfl

theorem readAt_pair0_16 (v : View sig κ sp ⟨2, ![a, 256]⟩ .bf16) (f : v.ty.Contents (Elt Ideal)) (A B : ℕ → ℕ → ℝ) {o : ℕ}
    {off : Fin 2 → ℕ} (inb : ∀ x, off x + (![512, 128] : Fin 2 → ℕ) x ≤ (![a, 256] : Fin 2 → ℕ) x)
    (h : v.read (Elt Ideal) f = (up (pairR A B) : FVec Ideal ⟨2, ![a, 256]⟩ .bf16)) (ho : off = ![o, 0]) :
    v.readAt (Elt Ideal) (Rect.unit (s := ⟨2, ![a, 256]⟩) off ![512, 128] inb).toLoadRect f
      = (up (rowsR o A) : FVec Ideal ⟨2, ![512, 128]⟩ .bf16) := by
  subst ho
  rw [readAt_up16 v f _ inb h]
  refine up_congr fun r _ c hc => ?_
  show pairR A B (o + r) (0 + c) = _
  rw [pairR, Nat.zero_add, if_pos hc]; rfl

theorem readAt_pair1_16 (v : View sig κ sp ⟨2, ![a, 256]⟩ .bf16) (f : v.ty.Contents (Elt Ideal)) (A B : ℕ → ℕ → ℝ) {o : ℕ}
    {off : Fin 2 → ℕ} (inb : ∀ x, off x + (![512, 128] : Fin 2 → ℕ) x ≤ (![a, 256] : Fin 2 → ℕ) x)
    (h : v.read (Elt Ideal) f = (up (pairR A B) : FVec Ideal ⟨2, ![a, 256]⟩ .bf16)) (ho : off = ![o, 128]) :
    v.readAt (Elt Ideal) (Rect.unit (s := ⟨2, ![a, 256]⟩) off ![512, 128] inb).toLoadRect f
      = (up (rowsR o B) : FVec Ideal ⟨2, ![512, 128]⟩ .bf16) := by
  subst ho
  rw [readAt_up16 v f _ inb h]
  refine up_congr fun r _ c hc => ?_
  show pairR A B (o + r) (128 + c) = _
  rw [pairR, if_neg (by omega), Nat.add_sub_cancel_left]; rfl

theorem readAt_half0 (v : View sig κ sp ⟨2, ![512, 256]⟩ .f32) (f : v.ty.Contents (Elt Ideal)) (A B : ℕ → ℕ → ℝ)
    {off : Fin 2 → ℕ} (inb : ∀ x, off x + (![512, 128] : Fin 2 → ℕ) x ≤ (![512, 256] : Fin 2 → ℕ) x)
    (h : v.read (Elt Ideal) f = (up (pairR A B) : FVec Ideal ⟨2, ![512, 256]⟩ .f32)) (ho : off = ![0, 0]) :
    v.readAt (Elt Ideal) (Rect.unit (s := ⟨2, ![512, 256]⟩) off ![512, 128] inb).toLoadRect f
      = (up (A) : FVec Ideal ⟨2, ![512, 128]⟩ .f32) := by
  subst ho
  rw [readAt_up v f _ inb h]
  refine up_congr fun r _ c hc => ?_
  show pairR A B (0 + r) (0 + c) = _
  rw [pairR, Nat.zero_add, Nat.zero_add, if_pos hc]

theorem readAt_half1 (v : View sig κ sp ⟨2, ![512, 256]⟩ .f32) (f : v.ty.Contents (Elt Ideal)) (A B : ℕ → ℕ → ℝ)
    {off : Fin 2 → ℕ} (inb : ∀ x, off x + (![512, 128] : Fin 2 → ℕ) x ≤ (![512, 256] : Fin 2 → ℕ) x)
    (h : v.read (Elt Ideal) f = (up (pairR A B) : FVec Ideal ⟨2, ![512, 256]⟩ .f32)) (ho : off = ![0, 128]) :
    v.readAt (Elt Ideal) (Rect.unit (s := ⟨2, ![512, 256]⟩) off ![512, 128] inb).toLoadRect f
      = (up (B) : FVec Ideal ⟨2, ![512, 128]⟩ .f32) := by
  subst ho
  rw [readAt_up v f _ inb h]
  refine up_congr fun r _ c hc => ?_
  show pairR A B (0 + r) (128 + c) = _
  rw [pairR, Nat.zero_add, if_neg (by omega), Nat.add_sub_cancel_left]

theorem readAt_half0_16 (v : View sig κ sp ⟨2, ![512, 256]⟩ .bf16) (f : v.ty.Contents (Elt Ideal)) (A B : ℕ → ℕ → ℝ)
    {off : Fin 2 → ℕ} (inb : ∀ x, off x + (![512, 128] : Fin 2 → ℕ) x ≤ (![512, 256] : Fin 2 → ℕ) x)
    (h : v.read (Elt Ideal) f = (up (pairR A B) : FVec Ideal ⟨2, ![512, 256]⟩ .bf16)) (ho : off = ![0, 0]) :
    v.readAt (Elt Ideal) (Rect.unit (s := ⟨2, ![512, 256]⟩) off ![512, 128] inb).toLoadRect f
      = (up (A) : FVec Ideal ⟨2, ![512, 128]⟩ .bf16) := by
  subst ho
  rw [readAt_up16 v f _ inb h]
  refine up_congr fun r _ c hc => ?_
  show pairR A B (0 + r) (0 + c) = _
  rw [pairR, Nat.zero_add, Nat.zero_add, if_pos hc]

theorem readAt_half1_16 (v : View sig κ sp ⟨2, ![512, 256]⟩ .bf16) (f : v.ty.Contents (Elt Ideal)) (A B : ℕ → ℕ → ℝ)
    {off : Fin 2 → ℕ} (inb : ∀ x, off x + (![512, 128] : Fin 2 → ℕ) x ≤ (![512, 256] : Fin 2 → ℕ) x)
    (h : v.read (Elt Ideal) f = (up (pairR A B) : FVec Ideal ⟨2, ![512, 256]⟩ .bf16)) (ho : off = ![0, 128]) :
    v.readAt (Elt Ideal) (Rect.unit (s := ⟨2, ![512, 256]⟩) off ![512, 128] inb).toLoadRect f
      = (up (B) : FVec Ideal ⟨2, ![512, 128]⟩ .bf16) := by
  subst ho
  rw [readAt_up16 v f _ inb h]
  refine up_congr fun r _ c hc => ?_
  show pairR A B (0 + r) (128 + c) = _
  rw [pairR, Nat.zero_add, if_neg (by omega), Nat.add_sub_cancel_left]

/-- and what it holds after a store of each head's block. -/
theorem read_pair (v : View sig κ sp ⟨2, ![a, 256]⟩ .f32) (f : v.ty.Contents (Elt Ideal)) (A B A' B' : ℕ → ℕ → ℝ) {o : ℕ}
    {off0 off1 : Fin 2 → ℕ} (inb0 : ∀ x, off0 x + (![512, 128] : Fin 2 → ℕ) x ≤ (![a, 256] : Fin 2 → ℕ) x)
    (inb1 : ∀ x, off1 x + (![512, 128] : Fin 2 → ℕ) x ≤ (![a, 256] : Fin 2 → ℕ) x)
    (L : List (View.Piece (Elt Ideal) ⟨2, ![a, 256]⟩ .f32))
    (h : v.read (Elt Ideal) (v.writes (Elt Ideal) f L) = (up (pairR A B) : FVec Ideal ⟨2, ![a, 256]⟩ .f32))
    (ho0 : off0 = ![o, 0]) (ho1 : off1 = ![o, 128]) :
    v.read (Elt Ideal) (v.writes (Elt Ideal) f
        (⟨Rect.unit (s := ⟨2, ![a, 256]⟩) off1 ![512, 128] inb1, (up B' : FVec Ideal ⟨2, ![512, 128]⟩ .f32)⟩
          :: ⟨Rect.unit (s := ⟨2, ![a, 256]⟩) off0 ![512, 128] inb0, (up A' : FVec Ideal ⟨2, ![512, 128]⟩ .f32)⟩ :: L))
      = (up (pairR (fun s c => if o ≤ s ∧ s < o + 512 then A' (s - o) c else A s c)
          (fun s c => if o ≤ s ∧ s < o + 512 then B' (s - o) c else B s c)) : FVec Ideal ⟨2, ![a, 256]⟩ .f32) := by
  subst ho0 ho1
  rw [read_cons_up v f _ B' inb1 _ (read_cons_up v f _ A' inb0 _ h)]
  refine up_congr fun r _ c hc => ?_
  show putR o 128 512 128 B' (putR o 0 512 128 A' (pairR A B)) r c = _
  unfold putR pairR
  by_cases h1 : c < 128
  · rw [if_neg (by omega), if_pos h1, if_pos h1, Nat.sub_zero]
    by_cases h2 : o ≤ r ∧ r < o + 512
    · rw [if_pos ⟨h2, by omega⟩]; exact (if_pos h2).symm
    · rw [if_neg fun h => h2 h.1]; exact (if_neg h2).symm
  · rw [if_neg h1, if_neg h1]
    by_cases h2 : o ≤ r ∧ r < o + 512
    · rw [if_pos ⟨h2, by omega⟩]; exact (if_pos h2).symm
    · rw [if_neg (fun h => h2 h.1), if_neg (fun h => h2 h.1)]; exact (if_neg h2).symm

/-- A buffer of 512 rows, stored whole. -/
theorem read_pair512 (v : View sig κ sp ⟨2, ![512, 256]⟩ .f32) (f : v.ty.Contents (Elt Ideal)) (A B A' B' : ℕ → ℕ → ℝ)
    {off0 off1 : Fin 2 → ℕ} (inb0 : ∀ x, off0 x + (![512, 128] : Fin 2 → ℕ) x ≤ (![512, 256] : Fin 2 → ℕ) x)
    (inb1 : ∀ x, off1 x + (![512, 128] : Fin 2 → ℕ) x ≤ (![512, 256] : Fin 2 → ℕ) x)
    (L : List (View.Piece (Elt Ideal) ⟨2, ![512, 256]⟩ .f32))
    (h : v.read (Elt Ideal) (v.writes (Elt Ideal) f L) = (up (pairR A B) : FVec Ideal ⟨2, ![512, 256]⟩ .f32))
    (ho0 : off0 = ![0, 0]) (ho1 : off1 = ![0, 128]) :
    v.read (Elt Ideal) (v.writes (Elt Ideal) f
        (⟨Rect.unit (s := ⟨2, ![512, 256]⟩) off1 ![512, 128] inb1, (up B' : FVec Ideal ⟨2, ![512, 128]⟩ .f32)⟩
          :: ⟨Rect.unit (s := ⟨2, ![512, 256]⟩) off0 ![512, 128] inb0, (up A' : FVec Ideal ⟨2, ![512, 128]⟩ .f32)⟩ :: L))
      = (up (pairR A' B') : FVec Ideal ⟨2, ![512, 256]⟩ .f32) := by
  rw [read_pair v f A B A' B' inb0 inb1 L h ho0 ho1]
  refine up_congr fun r hr c _ => ?_
  have h2 : 0 ≤ r ∧ r < 0 + 512 := by omega
  simp only [pairR, if_pos h2, Nat.sub_zero]

/-- A load of the second head's block does not see a store of the first's. -/
theorem readAt_skip (v : View sig κ sp ⟨2, ![a, 256]⟩ .f32) (f : v.ty.Contents (Elt Ideal)) {o : ℕ} {off0 off1 : Fin 2 → ℕ}
    (inb0 : ∀ x, off0 x + (![512, 128] : Fin 2 → ℕ) x ≤ (![a, 256] : Fin 2 → ℕ) x)
    (inb1 : ∀ x, off1 x + (![512, 128] : Fin 2 → ℕ) x ≤ (![a, 256] : Fin 2 → ℕ) x)
    (w : FVec Ideal ⟨2, ![512, 128]⟩ .f32) (L : List (View.Piece (Elt Ideal) ⟨2, ![a, 256]⟩ .f32))
    (ho0 : off0 = ![o, 0]) (ho1 : off1 = ![o, 128]) :
    v.readAt (Elt Ideal) (Rect.unit (s := ⟨2, ![a, 256]⟩) off1 ![512, 128] inb1).toLoadRect
        (v.writes (Elt Ideal) f (⟨Rect.unit (s := ⟨2, ![a, 256]⟩) off0 ![512, 128] inb0, w⟩ :: L))
      = v.readAt (Elt Ideal) (Rect.unit (s := ⟨2, ![a, 256]⟩) off1 ![512, 128] inb1).toLoadRect (v.writes (Elt Ideal) f L) := by
  subst ho0 ho1
  rw [View.readAt_eq_ld, View.readAt_eq_ld]
  funext i
  show v.read (Elt Ideal) _ _ = v.read (Elt Ideal) _ _
  rw [View.read_writes_cons_unit v f inb0 w L _ rfl, dif_neg]
  intro h
  have h1 : 128 + 1 * (i 1).val < 0 + 128 := (h 1).2
  omega

/-- A load or a store of a whole buffer. -/
theorem read_whole (v : View sig κ sp ⟨2, ![a, b]⟩ φ) (f : v.ty.Contents (Elt Ideal))
    (inb : ∀ x, (![0, 0] : Fin 2 → ℕ) x + (![a, b] : Fin 2 → ℕ) x ≤ (![a, b] : Fin 2 → ℕ) x)
    (w : Shape.Idx ⟨2, ![a, b]⟩ → Elt Ideal φ) (L : List (View.Piece (Elt Ideal) ⟨2, ![a, b]⟩ φ)) :
    v.read (Elt Ideal) (v.writes (Elt Ideal) f (⟨Rect.unit (s := ⟨2, ![a, b]⟩) ![0, 0] ![a, b] inb, w⟩ :: L)) = w := by
  funext i
  rw [View.read_writes_cons_unit v f inb w L i rfl, dif_pos]
  · refine congrArg w (funext fun x => Fin.ext ?_)
    fin_cases x <;> exact Nat.sub_zero _
  · intro x
    fin_cases x
    · exact ⟨Nat.zero_le _, by have := (i 0).isLt; simpa using this⟩
    · exact ⟨Nat.zero_le _, by have := (i 1).isLt; simpa using this⟩

theorem readAt_whole (v : View sig κ sp ⟨2, ![a, b]⟩ φ) (f : v.ty.Contents (Elt Ideal))
    (inb : ∀ x, (![0, 0] : Fin 2 → ℕ) x + (![a, b] : Fin 2 → ℕ) x ≤ (![a, b] : Fin 2 → ℕ) x) :
    v.readAt (Elt Ideal) (Rect.unit (s := ⟨2, ![a, b]⟩) ![0, 0] ![a, b] inb).toLoadRect f = v.read (Elt Ideal) f := by
  rw [View.readAt_eq_ld]
  funext i
  show v.read (Elt Ideal) f _ = _
  refine congrArg _ (funext fun x => Fin.ext ?_)
  fin_cases x
  · exact (Nat.zero_add _).trans (Nat.one_mul (i 0).val)
  · exact (Nat.zero_add _).trans (Nat.one_mul (i 1).val)
end

end Cert.KernelIdeal.Reals

end
-- ==== Proof.Tile.lean ====
/- The gradient of the stick-breaking attention of one head over the reals, and one tile of it: 512 queries from row
   `512 n` on against 512 keys from row `512 m` on, the running sums along the keys carried from tile to tile. -/
module

public import proofs.«01_k».proof.Proof.State

@[expose] public section

noncomputable section

namespace Cert.KernelIdeal.Reals

section
/- The head's queries, keys, values and cotangent, a row per token; and each row's sum of `lnS`. -/
variable (q k v d : ℕ → ℕ → ℝ) (T : ℕ → ℝ)

/-- The logit of query `t` and key `s`. -/
def zS : ℕ → ℕ → ℝ := mulR (ntR 128 q k) (conR sc)
/-- `log (1 - σ(z))` where the key is before the query, and zero elsewhere. -/
def lnS (t s : ℕ) : ℝ := if s < t then lsigR (zS q k) t s - zS q k t s else 0
/-- The attention weight: `σ(z)` times the `1 - σ(z)` of the keys in between. -/
def wS (t s : ℕ) : ℝ :=
  if s < t then Real.exp (lsigR (zS q k) t s + (T t - ∑ i ∈ Finset.range (s + 1), lnS q k t i)) else 0
/-- The weight times its cotangent. -/
def gS (t s : ℕ) : ℝ := wS q k T t s * ntR 128 d v t s
/-- The cotangent of the logit. -/
def dzS (t s : ℕ) : ℝ :=
  if s < t then gS q k v d T t s - Real.exp (lsigR (zS q k) t s) * (gS q k v d T t s + ∑ i ∈ Finset.range s, gS q k v d T t i)
  else 0

/-- What the accumulators hold when query tile `n` has met `m` key tiles: the two running sums, -/
def CL (n m r : ℕ) : ℝ := ∑ i ∈ Finset.range (512 * m), lnS q k (512 * n + r) i
def CG (n m r : ℕ) : ℝ := ∑ i ∈ Finset.range (512 * m), gS q k v d T (512 * n + r) i
/-- the tile's query gradient, -/
def AQ (n m r x : ℕ) : ℝ := ∑ s ∈ Finset.range (512 * m), dzS q k v d T (512 * n + r) s * k s x
/-- the key gradient and the value gradient. -/
def AK (n m s x : ℕ) : ℝ := ∑ t ∈ Finset.range (512 * n), dzS q k v d T t s * q t x +
  if s < 512 * m then ∑ i ∈ Finset.range 512, dzS q k v d T (512 * n + i) s * q (512 * n + i) x else 0
def AV (n m s x : ℕ) : ℝ := ∑ t ∈ Finset.range (512 * n), wS q k T t s * d t x +
  if s < 512 * m then ∑ i ∈ Finset.range 512, wS q k T (512 * n + i) s * d (512 * n + i) x else 0
end

/-- A tile of the program: `mk` is the causal mask, or nothing where every key of the tile is before every query. -/
def tLn (mk : (ℕ → ℕ → ℝ) → ℕ → ℕ → ℝ) (z : ℕ → ℕ → ℝ) : ℕ → ℕ → ℝ := mk (subR (lsigR z) z)
def tW (mk : (ℕ → ℕ → ℝ) → ℕ → ℕ → ℝ) (z : ℕ → ℕ → ℝ) (T c : ℕ → ℝ) : ℕ → ℕ → ℝ :=
  mk (expR (addR (lsigR z) (subR (rowR T) (incR (tLn mk z) c))))
def tG (mk : (ℕ → ℕ → ℝ) → ℕ → ℕ → ℝ) (z : ℕ → ℕ → ℝ) (T c : ℕ → ℝ) (d v : ℕ → ℕ → ℝ) : ℕ → ℕ → ℝ :=
  mulR (tW mk z T c) (ntR 128 d v)
def tDz (mk : (ℕ → ℕ → ℝ) → ℕ → ℕ → ℝ) (z : ℕ → ℕ → ℝ) (T c : ℕ → ℝ) (d v : ℕ → ℕ → ℝ) (g : ℕ → ℝ) : ℕ → ℕ → ℝ :=
  mk (subR (tG mk z T c d v) (mulR (expR (lsigR z)) (addR (tG mk z T c d v) (excR (tG mk z T c d v) g))))

/-- The tile's arrays cut from the head's. -/
abbrev tz (q k : ℕ → ℕ → ℝ) (n m : ℕ) : ℕ → ℕ → ℝ := mulR (ntR 128 (rowsR (512 * n) q) (rowsR (512 * m) k)) (conR sc)

section
variable (q k v d : ℕ → ℕ → ℝ) (T : ℕ → ℝ) (n m : ℕ) (mk : (ℕ → ℕ → ℝ) → ℕ → ℕ → ℝ)

theorem tz_eq (r j : ℕ) : tz q k n m r j = zS q k (512 * n + r) (512 * m + j) := by
  simp only [tz, zS, mulR, ntR, rowsR, conR]

theorem tls_eq (r j : ℕ) : lsigR (tz q k n m) r j = lsigR (zS q k) (512 * n + r) (512 * m + j) := by
  simp only [lsigR, tz_eq]

/-- `mk` is the causal mask of the tile. -/
def Masks : Prop := ∀ (f : ℕ → ℕ → ℝ) (r j : ℕ), j < 512 → mk f r j = if 512 * m + j < 512 * n + r then f r j else 0

theorem masks_id (h : m < n) : Masks n m (fun f => f) := fun f r j hj => by rw [if_pos (by omega)]

theorem masks_low : Masks n n lowR := fun f r j _ => by
  unfold lowR
  by_cases h : j < r
  · rw [if_pos h, if_pos (by omega)]
  · rw [if_neg h, if_neg (by omega)]

variable {n m mk} (hm : Masks n m mk)
include hm

theorem tLn_eq (r j : ℕ) (hj : j < 512) : tLn mk (tz q k n m) r j = lnS q k (512 * n + r) (512 * m + j) := by
  rw [tLn, hm _ _ _ hj, lnS, subR, tls_eq, tz_eq]

theorem tInc_eq (r j : ℕ) (hj : j < 512) : incR (tLn mk (tz q k n m)) (CL q k n m) r j
    = ∑ i ∈ Finset.range (512 * m + j + 1), lnS q k (512 * n + r) i := by
  rw [incR, CL, Nat.add_assoc, Finset.sum_range_add _ (512 * m) (j + 1)]
  refine congrArg _ (Finset.sum_congr rfl fun i hi => tLn_eq q k hm r i ?_)
  have := Finset.mem_range.mp hi
  omega

theorem tW_eq (r j : ℕ) (hj : j < 512) : tW mk (tz q k n m) (fun r => T (512 * n + r)) (CL q k n m) r j
    = wS q k T (512 * n + r) (512 * m + j) := by
  rw [tW, hm _ _ _ hj, wS]
  simp only [expR, addR, subR, rowR, tls_eq, tInc_eq q k hm r j hj]

theorem tG_eq (r j : ℕ) (hj : j < 512) : tG mk (tz q k n m) (fun r => T (512 * n + r)) (CL q k n m)
    (rowsR (512 * n) d) (rowsR (512 * m) v) r j = gS q k v d T (512 * n + r) (512 * m + j) := by
  rw [tG, gS, mulR, tW_eq q k T hm r j hj]
  simp only [ntR, rowsR]

theorem tExc_eq (r j : ℕ) (hj : j < 512) : excR (tG mk (tz q k n m) (fun r => T (512 * n + r)) (CL q k n m)
    (rowsR (512 * n) d) (rowsR (512 * m) v)) (CG q k v d T n m) r j
    = ∑ i ∈ Finset.range (512 * m + j), gS q k v d T (512 * n + r) i := by
  rw [excR, CG, Finset.sum_range_add]
  refine congrArg _ (Finset.sum_congr rfl fun i hi => tG_eq q k v d T hm r i ?_)
  have := Finset.mem_range.mp hi
  omega

theorem tDz_eq (r j : ℕ) (hj : j < 512) : tDz mk (tz q k n m) (fun r => T (512 * n + r)) (CL q k n m)
    (rowsR (512 * n) d) (rowsR (512 * m) v) (CG q k v d T n m) r j = dzS q k v d T (512 * n + r) (512 * m + j) := by
  rw [tDz, hm _ _ _ hj, dzS]
  simp only [expR, addR, subR, mulR, tls_eq, tG_eq q k v d T hm r j hj, tExc_eq q k v d T hm r j hj]

/-- The carried sums after the tile. -/
theorem endLn_eq : endR (tLn mk (tz q k n m)) (CL q k n m) = CL q k n (m + 1) := by
  funext r
  rw [endR, CL, CL, show 512 * (m + 1) = 512 * m + 512 by omega, Finset.sum_range_add]
  exact congrArg _ (Finset.sum_congr rfl fun i hi => tLn_eq q k hm r i (Finset.mem_range.mp hi))

theorem endG_eq : endR (tG mk (tz q k n m) (fun r => T (512 * n + r)) (CL q k n m)
    (rowsR (512 * n) d) (rowsR (512 * m) v)) (CG q k v d T n m) = CG q k v d T n (m + 1) := by
  funext r
  rw [endR, CG, CG, show 512 * (m + 1) = 512 * m + 512 by omega, Finset.sum_range_add]
  exact congrArg _ (Finset.sum_congr rfl fun i hi => tG_eq q k v d T hm r i (Finset.mem_range.mp hi))

/-- The query gradient after the tile. -/
theorem addQ_eq : addR (AQ q k v d T n m) (nnR 512 (tDz mk (tz q k n m) (fun r => T (512 * n + r)) (CL q k n m)
    (rowsR (512 * n) d) (rowsR (512 * m) v) (CG q k v d T n m)) (rowsR (512 * m) k)) = AQ q k v d T n (m + 1) := by
  funext r x
  rw [addR, AQ, AQ, show 512 * (m + 1) = 512 * m + 512 by omega, Finset.sum_range_add]
  refine congrArg _ (Finset.sum_congr rfl fun i hi => ?_)
  rw [tDz_eq q k v d T hm r i (Finset.mem_range.mp hi)]
  simp only [rowsR]

/-- The key gradient after the tile: its rows `512 m` on have the tile's product added. -/
theorem addK_eq (s x : ℕ) : (if 512 * m ≤ s ∧ s < 512 * m + 512 then AK q k v d T n m s x
      + tnR 512 (tDz mk (tz q k n m) (fun r => T (512 * n + r)) (CL q k n m)
    (rowsR (512 * n) d) (rowsR (512 * m) v) (CG q k v d T n m)) (rowsR (512 * n) q) (s - 512 * m) x
      else AK q k v d T n m s x) = AK q k v d T n (m + 1) s x := by
  unfold AK
  by_cases h : 512 * m ≤ s ∧ s < 512 * m + 512
  · rw [if_pos h, if_neg (by omega), if_pos (by omega), add_zero]
    refine congrArg _ (Finset.sum_congr rfl fun i hi => ?_)
    rw [tDz_eq q k v d T hm i (s - 512 * m) (by omega)]
    simp only [rowsR]
    rw [Nat.add_sub_cancel' h.1]
  · rw [if_neg h]
    by_cases h2 : s < 512 * m
    · rw [if_pos h2, if_pos (by omega)]
    · rw [if_neg h2, if_neg (by omega)]

theorem addV_eq (s x : ℕ) : (if 512 * m ≤ s ∧ s < 512 * m + 512 then AV q k d T n m s x
      + tnR 512 (tW mk (tz q k n m) (fun r => T (512 * n + r)) (CL q k n m)) (rowsR (512 * n) d) (s - 512 * m) x
      else AV q k d T n m s x) = AV q k d T n (m + 1) s x := by
  unfold AV
  by_cases h : 512 * m ≤ s ∧ s < 512 * m + 512
  · rw [if_pos h, if_neg (by omega), if_pos (by omega), add_zero]
    refine congrArg _ (Finset.sum_congr rfl fun i hi => ?_)
    rw [tW_eq q k T hm i (s - 512 * m) (by omega)]
    simp only [rowsR]
    rw [Nat.add_sub_cancel' h.1]
  · rw [if_neg h]
    by_cases h2 : s < 512 * m
    · rw [if_pos h2, if_pos (by omega)]
    · rw [if_neg h2, if_neg (by omega)]
/-- The two as the program stores them. -/
theorem storeK_eq : (fun s x => if 512 * m ≤ s ∧ s < 512 * m + 512 then addR (rowsR (512 * m) (AK q k v d T n m))
      (tnR 512 (tDz mk (tz q k n m) (fun r => T (512 * n + r)) (CL q k n m)
    (rowsR (512 * n) d) (rowsR (512 * m) v) (CG q k v d T n m)) (rowsR (512 * n) q)) (s - 512 * m) x
      else AK q k v d T n m s x) = AK q k v d T n (m + 1) := by
  funext s x
  rw [← addK_eq q k v d T hm s x]
  by_cases h : 512 * m ≤ s ∧ s < 512 * m + 512
  · rw [if_pos h, if_pos h, addR, rowsR, Nat.add_sub_cancel' h.1]
  · rw [if_neg h, if_neg h]

theorem storeV_eq : (fun s x => if 512 * m ≤ s ∧ s < 512 * m + 512 then addR (rowsR (512 * m) (AV q k d T n m))
      (tnR 512 (tW mk (tz q k n m) (fun r => T (512 * n + r)) (CL q k n m)) (rowsR (512 * n) d)) (s - 512 * m) x
      else AV q k d T n m s x) = AV q k d T n (m + 1) := by
  funext s x
  rw [← addV_eq q k d T hm s x]
  by_cases h : 512 * m ≤ s ∧ s < 512 * m + 512
  · rw [if_pos h, if_pos h, addR, rowsR, Nat.add_sub_cancel' h.1]
  · rw [if_neg h, if_neg h]
end

section
variable (q k v d : ℕ → ℕ → ℝ) (T : ℕ → ℝ) (n : ℕ)

/-- No query of the tile sees a key past the tile, so after the diagonal tile the key and value gradients hold the
sums over all the queries so far. -/
theorem AK_next : AK q k v d T n (n + 1) = AK q k v d T (n + 1) 0 := by
  funext s x
  unfold AK
  rw [show 512 * (n + 1) = 512 * n + 512 by omega, Finset.sum_range_add, if_neg (show ¬ s < 512 * 0 by omega), add_zero]
  by_cases h : s < 512 * n + 512
  · rw [if_pos h]
  · rw [if_neg h]
    refine congrArg _ (Finset.sum_eq_zero fun i hi => ?_).symm
    have := Finset.mem_range.mp hi
    rw [dzS, if_neg (by omega), zero_mul]

theorem AV_next : AV q k d T n (n + 1) = AV q k d T (n + 1) 0 := by
  funext s x
  unfold AV
  rw [show 512 * (n + 1) = 512 * n + 512 by omega, Finset.sum_range_add, if_neg (show ¬ s < 512 * 0 by omega), add_zero]
  by_cases h : s < 512 * n + 512
  · rw [if_pos h]
  · rw [if_neg h]
    refine congrArg _ (Finset.sum_eq_zero fun i hi => ?_).symm
    have := Finset.mem_range.mp hi
    rw [wS, if_neg (by omega), zero_mul]

theorem CL_zero : CL q k n 0 = fun _ => 0 := rfl
theorem CG_zero : CG q k v d T n 0 = fun _ => 0 := rfl
theorem AQ_zero : AQ q k v d T n 0 = conR 0 := rfl
theorem AK_zero : AK q k v d T 0 0 = conR 0 := by
  funext s x; simp [AK, conR]
theorem AV_zero : AV q k d T 0 0 = conR 0 := by
  funext s x; simp [AV, conR]

/-- The query gradient of the tile is complete after the diagonal tile. -/
theorem AQ_full (hn : n < 8) (r x : ℕ) (hr : r < 512) :
    AQ q k v d T n (n + 1) r x = ∑ s ∈ Finset.range 4096, dzS q k v d T (512 * n + r) s * k s x := by
  unfold AQ
  refine Finset.sum_subset (Finset.range_subset_range.mpr (by omega)) fun s _ hs => ?_
  have : ¬ s < 512 * (n + 1) := fun h => hs (Finset.mem_range.mpr h)
  rw [dzS, if_neg (by omega), zero_mul]
end

end Cert.KernelIdeal.Reals

end
-- ==== Proof.Coords.lean ====
/- The numbers the kernel computes from its grid coordinates and loop counters: the trips of its two loops over the key
   tiles, and the rows it loads from and stores to. -/
module

public import proofs.«01_k».proof.KernelIdeal
public import Idealize.ShloMosaic.Lib.Pointwise

@[expose] public section

namespace Cert.KernelIdeal.Reals

open Idealize.ShloMosaic Cert.KernelIdeal

variable (i : grid0.Coords)

theorem tile_lt : (i 1).val < 8 := (i 1).isLt

/-- As many trips as there are key tiles before the query tile. -/
theorem trips1 : (k0_t1_loop i).trips = (i 1).val := by
  have h : ∀ x : Fin 8, (⟨0#32, Scalar.addi 0#32 (Scalar.muli (Scalar.divsi (Scalar.subi (BitVec.ofNat 32 x.val) 0#32) 1#32) 1#32), 1#32⟩ :
      Scf.Loop 32).trips = x.val := by decide
  exact h ⟨(i 1).val, tile_lt i⟩

/-- The second loop takes what the first leaves over of its unrolling by one: nothing. -/
theorem trips2 : (k0_t2_loop i).trips = 0 := by
  have h : ∀ x : Fin 8, (⟨Scalar.addi 0#32 (Scalar.muli (Scalar.divsi (Scalar.subi (BitVec.ofNat 32 x.val) 0#32) 1#32) 1#32),
      Scalar.addi 0#32 (Scalar.subi (BitVec.ofNat 32 x.val) 0#32), 1#32⟩ : Scf.Loop 32).trips = 0 := by decide
  exact h ⟨(i 1).val, tile_lt i⟩

theorem off1_eq (k : Fin (k0_t1_loop i).trips) : k0_off1 i k = ![512 * k.val, 0] := by
  have h : ∀ x : Fin 8, (Scalar.indexCast (Scalar.muli (Scf.iv 0#32 1#32 x.val) 512#32)).toNat = 512 * x.val := by decide
  have hk : k.val < 8 := lt_trans (lt_of_lt_of_eq k.isLt (trips1 i)) (tile_lt i)
  exact congrArg (fun x => ![x, 0]) (h ⟨k.val, hk⟩)

theorem off2_eq (k : Fin (k0_t1_loop i).trips) : k0_off2 i k = ![512 * k.val, 128] := by
  have h : ∀ x : Fin 8, (Scalar.indexCast (Scalar.muli (Scf.iv 0#32 1#32 x.val) 512#32)).toNat = 512 * x.val := by decide
  have hk : k.val < 8 := lt_trans (lt_of_lt_of_eq k.isLt (trips1 i)) (tile_lt i)
  exact congrArg (fun x => ![x, 128]) (h ⟨k.val, hk⟩)

theorem off5_eq : k0_off5 i = ![512 * (i 1).val, 0] := by
  have h : ∀ x : Fin 8, (Scalar.indexCast (Scalar.muli (BitVec.ofNat 32 x.val) 512#32)).toNat = 512 * x.val := by decide
  exact congrArg (fun x => ![x, 0]) (h ⟨(i 1).val, tile_lt i⟩)

theorem off6_eq : k0_off6 i = ![512 * (i 1).val, 128] := by
  have h : ∀ x : Fin 8, (Scalar.indexCast (Scalar.muli (BitVec.ofNat 32 x.val) 512#32)).toNat = 512 * x.val := by decide
  exact congrArg (fun x => ![x, 128]) (h ⟨(i 1).val, tile_lt i⟩)

end Cert.KernelIdeal.Reals
-- ==== Proof.Held.lean ====
/- What the kernel's buffers hold, over the reals: the blocks it reads, and its accumulators between two tiles. -/
module

public import proofs.«01_k».proof.Proof.Tile
public import proofs.«01_k».proof.Proof.Coords

@[expose] public section

set_option maxRecDepth 16384

noncomputable section

namespace Cert.KernelIdeal.Reals

open Idealize.ShloMosaic Idealize.SL.Sem Cert.KernelIdeal

/-- One head: its queries, keys, values and cotangent, a row per token, and each row's sum of `lnS`. -/
structure Head where
  q : ℕ → ℕ → ℝ
  k : ℕ → ℕ → ℝ
  v : ℕ → ℕ → ℝ
  d : ℕ → ℕ → ℝ
  T : ℕ → ℝ

variable (arg2 : Memref sig .tc .vmem S512x256 .bf16) (arg3 : Memref sig .tc .vmem S4096x256 .bf16)
  (arg4 : Memref sig .tc .vmem S4096x256 .bf16) (arg5 : Memref sig .tc .vmem S512x256 .f32) (arg6 : Memref sig .tc .vmem S512x256 .bf16)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)

/-- The blocks read: two heads' rows of query tile `n`, and all their keys and values. -/
structure Ins (A B : Head) (n : ℕ) : Prop where
  h2 : arg2.view.read (Elt Ideal) X2 = (up (pairR (rowsR (512 * n) A.q) (rowsR (512 * n) B.q)) : FVec Ideal S512x256 .bf16)
  h3 : arg3.view.read (Elt Ideal) X3 = (up (pairR A.k B.k) : FVec Ideal S4096x256 .bf16)
  h4 : arg4.view.read (Elt Ideal) X4 = (up (pairR A.v B.v) : FVec Ideal S4096x256 .bf16)
  h5 : arg5.view.read (Elt Ideal) X5 = (up (pairR (rowR fun r => A.T (512 * n + r)) (rowR fun r => B.T (512 * n + r))) : FVec Ideal S512x256 .f32)
  h6 : arg6.view.read (Elt Ideal) X6 = (up (pairR (rowsR (512 * n) A.d) (rowsR (512 * n) B.d)) : FVec Ideal S512x256 .bf16)

variable (arg10 : Memref sig .tc .vmem S512x256 .f32) (arg11 : Memref sig .tc .vmem S4096x256 .f32) (arg12 : Memref sig .tc .vmem S4096x256 .f32)
  (arg13 : Memref sig .tc .vmem S512x256 .f32) (arg14 : Memref sig .tc .vmem S512x256 .f32)
  (f10 : BufTy.Contents (Elt Ideal) arg10.view.ty) (f11 : BufTy.Contents (Elt Ideal) arg11.view.ty) (f12 : BufTy.Contents (Elt Ideal) arg12.view.ty)
  (f13 : BufTy.Contents (Elt Ideal) arg13.view.ty) (f14 : BufTy.Contents (Elt Ideal) arg14.view.ty)

/-- The accumulators when query tile `n` has met `m` key tiles. -/
structure Accs (A B : Head) (n m : ℕ) : Prop where
  h10 : arg10.view.read (Elt Ideal) f10 = (up (pairR (AQ A.q A.k A.v A.d A.T n m) (AQ B.q B.k B.v B.d B.T n m)) : FVec Ideal S512x256 .f32)
  h11 : arg11.view.read (Elt Ideal) f11 = (up (pairR (AK A.q A.k A.v A.d A.T n m) (AK B.q B.k B.v B.d B.T n m)) : FVec Ideal S4096x256 .f32)
  h12 : arg12.view.read (Elt Ideal) f12 = (up (pairR (AV A.q A.k A.d A.T n m) (AV B.q B.k B.d B.T n m)) : FVec Ideal S4096x256 .f32)
  h13 : arg13.view.read (Elt Ideal) f13 = (up (pairR (rowR (CL A.q A.k n m)) (rowR (CL B.q B.k n m))) : FVec Ideal S512x256 .f32)
  h14 : arg14.view.read (Elt Ideal) f14
    = (up (pairR (rowR (CG A.q A.k A.v A.d A.T n m)) (rowR (CG B.q B.k B.v B.d B.T n m))) : FVec Ideal S512x256 .f32)

end Cert.KernelIdeal.Reals

end
-- ==== Proof.Trip.lean ====
/- One trip of the loop over the key tiles before the query tile, over the reals: what it stores. -/
module

public import proofs.«01_k».proof.Proof.Tile
public import proofs.«01_k».proof.Proof.Held
public import proofs.«01_k».proof.Proof.Gen.KernelIdeal.Loops

@[expose] public section

set_option maxRecDepth 16384

noncomputable section

namespace Cert.KernelIdeal.Reals

open Idealize.ShloMosaic Idealize.SL.Sem Cert.KernelIdeal Cert.KernelIdeal.Gen

variable (𝒱 : Variants) (c : Dev nD) (bd : Option 𝒱.V) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S4096x256 .bf16) (harg8 : arg8.IsWhole) (arg9 : Memref sig .tc .vmem S4096x256 .bf16) (harg9 : arg9.IsWhole)
  (arg10 : Memref sig .tc .vmem S512x256 .f32) (harg10 : arg10.IsWhole) (arg11 : Memref sig .tc .vmem S4096x256 .f32) (harg11 : arg11.IsWhole)
  (arg12 : Memref sig .tc .vmem S4096x256 .f32) (harg12 : arg12.IsWhole) (arg13 : Memref sig .tc .vmem S512x256 .f32) (harg13 : arg13.IsWhole)
  (arg14 : Memref sig .tc .vmem S512x256 .f32) (harg14 : arg14.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (A B : Head) (k : Fin (k0_t1_loop i).trips)

/-- The running sums of `lnS`. -/
theorem trip_13
    {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty} {f14 : BufTy.Contents (Elt Ideal) arg14.view.ty}
    (hI : Ins arg2 arg3 arg4 arg5 arg6 X2 X3 X4 X5 X6 A B (i 1).val)
    (hA : Accs arg10 arg11 arg12 arg13 arg14 f10 f11 f12 f13 f14 A B (i 1).val k.val)
    : (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).2.2.2.1 =
      [⟨Rect.unit (s := S512x256) ![0, 128] ![512, 128] inb_S512x256_S512x128_0_128, (up (rowR (endR (tLn (fun f => f) (tz B.q B.k (i 1).val k.val)) (CL B.q B.k (i 1).val k.val))) : FVec Ideal S512x128 .f32)⟩,
       ⟨Rect.unit (s := S512x256) ![0, 0] ![512, 128] inb_S512x256_S512x128_0_0, (up (rowR (endR (tLn (fun f => f) (tz A.q A.k (i 1).val k.val)) (CL A.q A.k (i 1).val k.val))) : FVec Ideal S512x128 .f32)⟩] := by
  have q0 := fun inb => readAt_half0_16 arg2.view X2 _ _ (off := ![0, 0]) inb hI.h2 rfl
  have q1 := fun inb => readAt_half1_16 arg2.view X2 _ _ (off := ![0, 128]) inb hI.h2 rfl
  have d0 := fun inb => readAt_half0_16 arg6.view X6 _ _ (off := ![0, 0]) inb hI.h6 rfl
  have d1 := fun inb => readAt_half1_16 arg6.view X6 _ _ (off := ![0, 128]) inb hI.h6 rfl
  have t0 := fun inb => readAt_half0 arg5.view X5 _ _ (off := ![0, 0]) inb hI.h5 rfl
  have t1 := fun inb => readAt_half1 arg5.view X5 _ _ (off := ![0, 128]) inb hI.h5 rfl
  have k0 := fun inb => readAt_pair0_16 arg3.view X3 _ _ (off := k0_off1 i k) inb hI.h3 (off1_eq i k)
  have k1 := fun inb => readAt_pair1_16 arg3.view X3 _ _ (off := k0_off2 i k) inb hI.h3 (off2_eq i k)
  have v0 := fun inb => readAt_pair0_16 arg4.view X4 _ _ (off := k0_off1 i k) inb hI.h4 (off1_eq i k)
  have v1 := fun inb => readAt_pair1_16 arg4.view X4 _ _ (off := k0_off2 i k) inb hI.h4 (off2_eq i k)
  have a0 := fun inb => readAt_half0 arg10.view f10 _ _ (off := ![0, 0]) inb hA.h10 rfl
  have a1 := fun inb => readAt_half1 arg10.view f10 _ _ (off := ![0, 128]) inb hA.h10 rfl
  have c0 := fun inb => readAt_half0 arg13.view f13 _ _ (off := ![0, 0]) inb hA.h13 rfl
  have c1 := fun inb => readAt_half1 arg13.view f13 _ _ (off := ![0, 128]) inb hA.h13 rfl
  have g0 := fun inb => readAt_half0 arg14.view f14 _ _ (off := ![0, 0]) inb hA.h14 rfl
  have g1 := fun inb => readAt_half1 arg14.view f14 _ _ (off := ![0, 128]) inb hA.h14 rfl
  have dk0 := fun inb => readAt_pair0 arg11.view f11 _ _ (off := k0_off1 i k) inb hA.h11 (off1_eq i k)
  have dk1 := fun inb => readAt_pair1 arg11.view f11 _ _ (off := k0_off2 i k) inb hA.h11 (off2_eq i k)
  have dv0 := fun inb => readAt_pair0 arg12.view f12 _ _ (off := k0_off1 i k) inb hA.h12 (off1_eq i k)
  have dv1 := fun inb => readAt_pair1 arg12.view f12 _ _ (off := k0_off2 i k) inb hA.h12 (off2_eq i k)
  unfold tripL_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.v607, trip_k0_t1.sl.v564, trip_k0_t1.sl.v598, trip_k0_t1.sl.v439, trip_k0_t1.sl.v496,
    k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay133, k0_pay134,
    q0, q1, d0, d1, t0, t1, k0, k1, v0, v1, a0, a1, c0, c1, g0, g1, dk0, dk1, dv0, dv1,
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rfl

/-- The running sums of `gS`. -/
theorem trip_14
    {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty} {f14 : BufTy.Contents (Elt Ideal) arg14.view.ty}
    (hI : Ins arg2 arg3 arg4 arg5 arg6 X2 X3 X4 X5 X6 A B (i 1).val)
    (hA : Accs arg10 arg11 arg12 arg13 arg14 f10 f11 f12 f13 f14 A B (i 1).val k.val)
    : (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).2.2.2.2 =
      [⟨Rect.unit (s := S512x256) ![0, 128] ![512, 128] inb_S512x256_S512x128_0_128, (up (rowR (endR (tG (fun f => f) (tz B.q B.k (i 1).val k.val) (fun r => B.T (512 * (i 1).val + r)) (CL B.q B.k (i 1).val k.val) (rowsR (512 * (i 1).val) B.d) (rowsR (512 * k.val) B.v)) (CG B.q B.k B.v B.d B.T (i 1).val k.val))) : FVec Ideal S512x128 .f32)⟩,
       ⟨Rect.unit (s := S512x256) ![0, 0] ![512, 128] inb_S512x256_S512x128_0_0, (up (rowR (endR (tG (fun f => f) (tz A.q A.k (i 1).val k.val) (fun r => A.T (512 * (i 1).val + r)) (CL A.q A.k (i 1).val k.val) (rowsR (512 * (i 1).val) A.d) (rowsR (512 * k.val) A.v)) (CG A.q A.k A.v A.d A.T (i 1).val k.val))) : FVec Ideal S512x128 .f32)⟩] := by
  have q0 := fun inb => readAt_half0_16 arg2.view X2 _ _ (off := ![0, 0]) inb hI.h2 rfl
  have q1 := fun inb => readAt_half1_16 arg2.view X2 _ _ (off := ![0, 128]) inb hI.h2 rfl
  have d0 := fun inb => readAt_half0_16 arg6.view X6 _ _ (off := ![0, 0]) inb hI.h6 rfl
  have d1 := fun inb => readAt_half1_16 arg6.view X6 _ _ (off := ![0, 128]) inb hI.h6 rfl
  have t0 := fun inb => readAt_half0 arg5.view X5 _ _ (off := ![0, 0]) inb hI.h5 rfl
  have t1 := fun inb => readAt_half1 arg5.view X5 _ _ (off := ![0, 128]) inb hI.h5 rfl
  have k0 := fun inb => readAt_pair0_16 arg3.view X3 _ _ (off := k0_off1 i k) inb hI.h3 (off1_eq i k)
  have k1 := fun inb => readAt_pair1_16 arg3.view X3 _ _ (off := k0_off2 i k) inb hI.h3 (off2_eq i k)
  have v0 := fun inb => readAt_pair0_16 arg4.view X4 _ _ (off := k0_off1 i k) inb hI.h4 (off1_eq i k)
  have v1 := fun inb => readAt_pair1_16 arg4.view X4 _ _ (off := k0_off2 i k) inb hI.h4 (off2_eq i k)
  have a0 := fun inb => readAt_half0 arg10.view f10 _ _ (off := ![0, 0]) inb hA.h10 rfl
  have a1 := fun inb => readAt_half1 arg10.view f10 _ _ (off := ![0, 128]) inb hA.h10 rfl
  have c0 := fun inb => readAt_half0 arg13.view f13 _ _ (off := ![0, 0]) inb hA.h13 rfl
  have c1 := fun inb => readAt_half1 arg13.view f13 _ _ (off := ![0, 128]) inb hA.h13 rfl
  have g0 := fun inb => readAt_half0 arg14.view f14 _ _ (off := ![0, 0]) inb hA.h14 rfl
  have g1 := fun inb => readAt_half1 arg14.view f14 _ _ (off := ![0, 128]) inb hA.h14 rfl
  have dk0 := fun inb => readAt_pair0 arg11.view f11 _ _ (off := k0_off1 i k) inb hA.h11 (off1_eq i k)
  have dk1 := fun inb => readAt_pair1 arg11.view f11 _ _ (off := k0_off2 i k) inb hA.h11 (off2_eq i k)
  have dv0 := fun inb => readAt_pair0 arg12.view f12 _ _ (off := k0_off1 i k) inb hA.h12 (off1_eq i k)
  have dv1 := fun inb => readAt_pair1 arg12.view f12 _ _ (off := k0_off2 i k) inb hA.h12 (off2_eq i k)
  unfold tripL_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.v607, trip_k0_t1.sl.v564, trip_k0_t1.sl.v598, trip_k0_t1.sl.v439, trip_k0_t1.sl.v496,
    k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay133, k0_pay134,
    q0, q1, d0, d1, t0, t1, k0, k1, v0, v1, a0, a1, c0, c1, g0, g1, dk0, dk1, dv0, dv1,
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rfl

/-- The query gradient's two blocks. -/
theorem trip_10
    {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty} {f14 : BufTy.Contents (Elt Ideal) arg14.view.ty}
    (hI : Ins arg2 arg3 arg4 arg5 arg6 X2 X3 X4 X5 X6 A B (i 1).val)
    (hA : Accs arg10 arg11 arg12 arg13 arg14 f10 f11 f12 f13 f14 A B (i 1).val k.val)
    : (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).1 =
      [⟨Rect.unit (s := S512x256) ![0, 128] ![512, 128] inb_S512x256_S512x128_0_128, (up (addR (AQ B.q B.k B.v B.d B.T (i 1).val k.val) (nnR 512 (tDz (fun f => f) (tz B.q B.k (i 1).val k.val) (fun r => B.T (512 * (i 1).val + r)) (CL B.q B.k (i 1).val k.val) (rowsR (512 * (i 1).val) B.d) (rowsR (512 * k.val) B.v) (CG B.q B.k B.v B.d B.T (i 1).val k.val)) (rowsR (512 * k.val) B.k))) : FVec Ideal S512x128 .f32)⟩,
       ⟨Rect.unit (s := S512x256) ![0, 0] ![512, 128] inb_S512x256_S512x128_0_0, (up (addR (AQ A.q A.k A.v A.d A.T (i 1).val k.val) (nnR 512 (tDz (fun f => f) (tz A.q A.k (i 1).val k.val) (fun r => A.T (512 * (i 1).val + r)) (CL A.q A.k (i 1).val k.val) (rowsR (512 * (i 1).val) A.d) (rowsR (512 * k.val) A.v) (CG A.q A.k A.v A.d A.T (i 1).val k.val)) (rowsR (512 * k.val) A.k))) : FVec Ideal S512x128 .f32)⟩] := by
  have q0 := fun inb => readAt_half0_16 arg2.view X2 _ _ (off := ![0, 0]) inb hI.h2 rfl
  have q1 := fun inb => readAt_half1_16 arg2.view X2 _ _ (off := ![0, 128]) inb hI.h2 rfl
  have d0 := fun inb => readAt_half0_16 arg6.view X6 _ _ (off := ![0, 0]) inb hI.h6 rfl
  have d1 := fun inb => readAt_half1_16 arg6.view X6 _ _ (off := ![0, 128]) inb hI.h6 rfl
  have t0 := fun inb => readAt_half0 arg5.view X5 _ _ (off := ![0, 0]) inb hI.h5 rfl
  have t1 := fun inb => readAt_half1 arg5.view X5 _ _ (off := ![0, 128]) inb hI.h5 rfl
  have k0 := fun inb => readAt_pair0_16 arg3.view X3 _ _ (off := k0_off1 i k) inb hI.h3 (off1_eq i k)
  have k1 := fun inb => readAt_pair1_16 arg3.view X3 _ _ (off := k0_off2 i k) inb hI.h3 (off2_eq i k)
  have v0 := fun inb => readAt_pair0_16 arg4.view X4 _ _ (off := k0_off1 i k) inb hI.h4 (off1_eq i k)
  have v1 := fun inb => readAt_pair1_16 arg4.view X4 _ _ (off := k0_off2 i k) inb hI.h4 (off2_eq i k)
  have a0 := fun inb => readAt_half0 arg10.view f10 _ _ (off := ![0, 0]) inb hA.h10 rfl
  have a1 := fun inb => readAt_half1 arg10.view f10 _ _ (off := ![0, 128]) inb hA.h10 rfl
  have c0 := fun inb => readAt_half0 arg13.view f13 _ _ (off := ![0, 0]) inb hA.h13 rfl
  have c1 := fun inb => readAt_half1 arg13.view f13 _ _ (off := ![0, 128]) inb hA.h13 rfl
  have g0 := fun inb => readAt_half0 arg14.view f14 _ _ (off := ![0, 0]) inb hA.h14 rfl
  have g1 := fun inb => readAt_half1 arg14.view f14 _ _ (off := ![0, 128]) inb hA.h14 rfl
  have dk0 := fun inb => readAt_pair0 arg11.view f11 _ _ (off := k0_off1 i k) inb hA.h11 (off1_eq i k)
  have dk1 := fun inb => readAt_pair1 arg11.view f11 _ _ (off := k0_off2 i k) inb hA.h11 (off2_eq i k)
  have dv0 := fun inb => readAt_pair0 arg12.view f12 _ _ (off := k0_off1 i k) inb hA.h12 (off1_eq i k)
  have dv1 := fun inb => readAt_pair1 arg12.view f12 _ _ (off := k0_off2 i k) inb hA.h12 (off2_eq i k)
  unfold tripL_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.v607, trip_k0_t1.sl.v564, trip_k0_t1.sl.v598, trip_k0_t1.sl.v439, trip_k0_t1.sl.v496,
    k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay133, k0_pay134,
    q0, q1, d0, d1, t0, t1, k0, k1, v0, v1, a0, a1, c0, c1, g0, g1, dk0, dk1, dv0, dv1,
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rfl

/-- The value gradient's. -/
theorem trip_12
    {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty} {f14 : BufTy.Contents (Elt Ideal) arg14.view.ty}
    (hI : Ins arg2 arg3 arg4 arg5 arg6 X2 X3 X4 X5 X6 A B (i 1).val)
    (hA : Accs arg10 arg11 arg12 arg13 arg14 f10 f11 f12 f13 f14 A B (i 1).val k.val)
    : (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).2.2.1 =
      [⟨Rect.unit (s := S4096x256) (k0_off2 i k) ![512, 128] (k0_off2_inb i k), (up (addR (rowsR (512 * k.val) (AV B.q B.k B.d B.T (i 1).val k.val)) (tnR 512 (tW (fun f => f) (tz B.q B.k (i 1).val k.val) (fun r => B.T (512 * (i 1).val + r)) (CL B.q B.k (i 1).val k.val)) (rowsR (512 * (i 1).val) B.d))) : FVec Ideal S512x128 .f32)⟩,
       ⟨Rect.unit (s := S4096x256) (k0_off1 i k) ![512, 128] (k0_off1_inb i k), (up (addR (rowsR (512 * k.val) (AV A.q A.k A.d A.T (i 1).val k.val)) (tnR 512 (tW (fun f => f) (tz A.q A.k (i 1).val k.val) (fun r => A.T (512 * (i 1).val + r)) (CL A.q A.k (i 1).val k.val)) (rowsR (512 * (i 1).val) A.d))) : FVec Ideal S512x128 .f32)⟩] := by
  have q0 := fun inb => readAt_half0_16 arg2.view X2 _ _ (off := ![0, 0]) inb hI.h2 rfl
  have q1 := fun inb => readAt_half1_16 arg2.view X2 _ _ (off := ![0, 128]) inb hI.h2 rfl
  have d0 := fun inb => readAt_half0_16 arg6.view X6 _ _ (off := ![0, 0]) inb hI.h6 rfl
  have d1 := fun inb => readAt_half1_16 arg6.view X6 _ _ (off := ![0, 128]) inb hI.h6 rfl
  have t0 := fun inb => readAt_half0 arg5.view X5 _ _ (off := ![0, 0]) inb hI.h5 rfl
  have t1 := fun inb => readAt_half1 arg5.view X5 _ _ (off := ![0, 128]) inb hI.h5 rfl
  have k0 := fun inb => readAt_pair0_16 arg3.view X3 _ _ (off := k0_off1 i k) inb hI.h3 (off1_eq i k)
  have k1 := fun inb => readAt_pair1_16 arg3.view X3 _ _ (off := k0_off2 i k) inb hI.h3 (off2_eq i k)
  have v0 := fun inb => readAt_pair0_16 arg4.view X4 _ _ (off := k0_off1 i k) inb hI.h4 (off1_eq i k)
  have v1 := fun inb => readAt_pair1_16 arg4.view X4 _ _ (off := k0_off2 i k) inb hI.h4 (off2_eq i k)
  have a0 := fun inb => readAt_half0 arg10.view f10 _ _ (off := ![0, 0]) inb hA.h10 rfl
  have a1 := fun inb => readAt_half1 arg10.view f10 _ _ (off := ![0, 128]) inb hA.h10 rfl
  have c0 := fun inb => readAt_half0 arg13.view f13 _ _ (off := ![0, 0]) inb hA.h13 rfl
  have c1 := fun inb => readAt_half1 arg13.view f13 _ _ (off := ![0, 128]) inb hA.h13 rfl
  have g0 := fun inb => readAt_half0 arg14.view f14 _ _ (off := ![0, 0]) inb hA.h14 rfl
  have g1 := fun inb => readAt_half1 arg14.view f14 _ _ (off := ![0, 128]) inb hA.h14 rfl
  have dk0 := fun inb => readAt_pair0 arg11.view f11 _ _ (off := k0_off1 i k) inb hA.h11 (off1_eq i k)
  have dk1 := fun inb => readAt_pair1 arg11.view f11 _ _ (off := k0_off2 i k) inb hA.h11 (off2_eq i k)
  have dv0 := fun inb => readAt_pair0 arg12.view f12 _ _ (off := k0_off1 i k) inb hA.h12 (off1_eq i k)
  have dv1 := fun inb => readAt_pair1 arg12.view f12 _ _ (off := k0_off2 i k) inb hA.h12 (off2_eq i k)
  unfold tripL_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.v607, trip_k0_t1.sl.v564, trip_k0_t1.sl.v598, trip_k0_t1.sl.v439, trip_k0_t1.sl.v496,
    k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay133, k0_pay134,
    q0, q1, d0, d1, t0, t1, k0, k1, v0, v1, a0, a1, c0, c1, g0, g1, dk0, dk1, dv0, dv1,
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rfl

/-- The key gradient's. -/
theorem trip_11
    {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty} {f14 : BufTy.Contents (Elt Ideal) arg14.view.ty}
    (hI : Ins arg2 arg3 arg4 arg5 arg6 X2 X3 X4 X5 X6 A B (i 1).val)
    (hA : Accs arg10 arg11 arg12 arg13 arg14 f10 f11 f12 f13 f14 A B (i 1).val k.val)
    : (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).2.1 =
      [⟨Rect.unit (s := S4096x256) (k0_off2 i k) ![512, 128] (k0_off2_inb i k), (up (addR (rowsR (512 * k.val) (AK B.q B.k B.v B.d B.T (i 1).val k.val)) (tnR 512 (tDz (fun f => f) (tz B.q B.k (i 1).val k.val) (fun r => B.T (512 * (i 1).val + r)) (CL B.q B.k (i 1).val k.val) (rowsR (512 * (i 1).val) B.d) (rowsR (512 * k.val) B.v) (CG B.q B.k B.v B.d B.T (i 1).val k.val)) (rowsR (512 * (i 1).val) B.q))) : FVec Ideal S512x128 .f32)⟩,
       ⟨Rect.unit (s := S4096x256) (k0_off1 i k) ![512, 128] (k0_off1_inb i k), (up (addR (rowsR (512 * k.val) (AK A.q A.k A.v A.d A.T (i 1).val k.val)) (tnR 512 (tDz (fun f => f) (tz A.q A.k (i 1).val k.val) (fun r => A.T (512 * (i 1).val + r)) (CL A.q A.k (i 1).val k.val) (rowsR (512 * (i 1).val) A.d) (rowsR (512 * k.val) A.v) (CG A.q A.k A.v A.d A.T (i 1).val k.val)) (rowsR (512 * (i 1).val) A.q))) : FVec Ideal S512x128 .f32)⟩] := by
  have q0 := fun inb => readAt_half0_16 arg2.view X2 _ _ (off := ![0, 0]) inb hI.h2 rfl
  have q1 := fun inb => readAt_half1_16 arg2.view X2 _ _ (off := ![0, 128]) inb hI.h2 rfl
  have d0 := fun inb => readAt_half0_16 arg6.view X6 _ _ (off := ![0, 0]) inb hI.h6 rfl
  have d1 := fun inb => readAt_half1_16 arg6.view X6 _ _ (off := ![0, 128]) inb hI.h6 rfl
  have t0 := fun inb => readAt_half0 arg5.view X5 _ _ (off := ![0, 0]) inb hI.h5 rfl
  have t1 := fun inb => readAt_half1 arg5.view X5 _ _ (off := ![0, 128]) inb hI.h5 rfl
  have k0 := fun inb => readAt_pair0_16 arg3.view X3 _ _ (off := k0_off1 i k) inb hI.h3 (off1_eq i k)
  have k1 := fun inb => readAt_pair1_16 arg3.view X3 _ _ (off := k0_off2 i k) inb hI.h3 (off2_eq i k)
  have v0 := fun inb => readAt_pair0_16 arg4.view X4 _ _ (off := k0_off1 i k) inb hI.h4 (off1_eq i k)
  have v1 := fun inb => readAt_pair1_16 arg4.view X4 _ _ (off := k0_off2 i k) inb hI.h4 (off2_eq i k)
  have a0 := fun inb => readAt_half0 arg10.view f10 _ _ (off := ![0, 0]) inb hA.h10 rfl
  have a1 := fun inb => readAt_half1 arg10.view f10 _ _ (off := ![0, 128]) inb hA.h10 rfl
  have c0 := fun inb => readAt_half0 arg13.view f13 _ _ (off := ![0, 0]) inb hA.h13 rfl
  have c1 := fun inb => readAt_half1 arg13.view f13 _ _ (off := ![0, 128]) inb hA.h13 rfl
  have g0 := fun inb => readAt_half0 arg14.view f14 _ _ (off := ![0, 0]) inb hA.h14 rfl
  have g1 := fun inb => readAt_half1 arg14.view f14 _ _ (off := ![0, 128]) inb hA.h14 rfl
  have dk0 := fun inb => readAt_pair0 arg11.view f11 _ _ (off := k0_off1 i k) inb hA.h11 (off1_eq i k)
  have dk1 := fun inb => readAt_pair1 arg11.view f11 _ _ (off := k0_off2 i k) inb hA.h11 (off2_eq i k)
  have dv0 := fun inb => readAt_pair0 arg12.view f12 _ _ (off := k0_off1 i k) inb hA.h12 (off1_eq i k)
  have dv1 := fun inb => readAt_pair1 arg12.view f12 _ _ (off := k0_off2 i k) inb hA.h12 (off2_eq i k)
  unfold tripL_k0_t1 trip_k0_t1
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.v607, trip_k0_t1.sl.v564, trip_k0_t1.sl.v598, trip_k0_t1.sl.v439, trip_k0_t1.sl.v496,
    k0_pay1, k0_pay2, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay133, k0_pay134,
    q0, q1, d0, d1, t0, t1, k0, k1, v0, v1, a0, a1, c0, c1, g0, g1, dk0, dk1, dv0, dv1,
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rfl

end Cert.KernelIdeal.Reals

end
-- ==== Proof.Loop.lean ====
/- The loop over the key tiles before the query tile: the accumulators after any number of its trips. -/
module

public import proofs.«01_k».proof.Proof.Trip

@[expose] public section

set_option maxRecDepth 16384

noncomputable section

namespace Cert.KernelIdeal.Reals

open Idealize.ShloMosaic Idealize.SL.Sem Cert.KernelIdeal Cert.KernelIdeal.Gen

variable (𝒱 : Variants) (c : Dev nD) (bd : Option 𝒱.V) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S4096x256 .bf16) (harg8 : arg8.IsWhole) (arg9 : Memref sig .tc .vmem S4096x256 .bf16) (harg9 : arg9.IsWhole)
  (arg10 : Memref sig .tc .vmem S512x256 .f32) (harg10 : arg10.IsWhole) (arg11 : Memref sig .tc .vmem S4096x256 .f32) (harg11 : arg11.IsWhole)
  (arg12 : Memref sig .tc .vmem S4096x256 .f32) (harg12 : arg12.IsWhole) (arg13 : Memref sig .tc .vmem S512x256 .f32) (harg13 : arg13.IsWhole)
  (arg14 : Memref sig .tc .vmem S512x256 .f32) (harg14 : arg14.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (A B : Head)

/-- A trip takes the accumulators past one key tile. -/
theorem trip_held (k : Fin (k0_t1_loop i).trips)
    {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty} {f14 : BufTy.Contents (Elt Ideal) arg14.view.ty}
    (hI : Ins arg2 arg3 arg4 arg5 arg6 X2 X3 X4 X5 X6 A B (i 1).val)
    (hA : Accs arg10 arg11 arg12 arg13 arg14 f10 f11 f12 f13 f14 A B (i 1).val k.val) :
    Accs arg10 arg11 arg12 arg13 arg14 (arg10.view.writes (Elt Ideal) f10 (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).1)
      (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).2.1)
      (arg12.view.writes (Elt Ideal) f12 (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).2.2.1)
      (arg13.view.writes (Elt Ideal) f13 (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).2.2.2.1)
      (arg14.view.writes (Elt Ideal) f14 (tripL_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 k f10 f11 f12 f13 f14).2.2.2.2) A B (i 1).val (k.val + 1) := by
  have hm := masks_id (i 1).val k.val (lt_of_lt_of_eq k.isLt (trips1 i))
  constructor
  · rw [trip_10 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 A B k hI hA]
    exact (read_pair512 arg10.view f10 _ _ _ _ inb_S512x256_S512x128_0_0 inb_S512x256_S512x128_0_128 [] hA.h10 rfl rfl).trans
      (by rw [addQ_eq A.q A.k A.v A.d A.T hm, addQ_eq B.q B.k B.v B.d B.T hm])
  · rw [trip_11 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 A B k hI hA]
    exact (read_pair arg11.view f11 _ _ _ _ (k0_off1_inb i k) (k0_off2_inb i k) [] hA.h11 (off1_eq i k) (off2_eq i k)).trans
      (by rw [storeK_eq A.q A.k A.v A.d A.T hm, storeK_eq B.q B.k B.v B.d B.T hm])
  · rw [trip_12 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 A B k hI hA]
    exact (read_pair arg12.view f12 _ _ _ _ (k0_off1_inb i k) (k0_off2_inb i k) [] hA.h12 (off1_eq i k) (off2_eq i k)).trans
      (by rw [storeV_eq A.q A.k A.d A.T hm, storeV_eq B.q B.k B.d B.T hm])
  · rw [trip_13 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 A B k hI hA]
    exact (read_pair512 arg13.view f13 _ _ _ _ inb_S512x256_S512x128_0_0 inb_S512x256_S512x128_0_128 [] hA.h13 rfl rfl).trans
      (by rw [endLn_eq A.q A.k hm, endLn_eq B.q B.k hm])
  · rw [trip_14 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 A B k hI hA]
    exact (read_pair512 arg14.view f14 _ _ _ _ inb_S512x256_S512x128_0_0 inb_S512x256_S512x128_0_128 [] hA.h14 rfl rfl).trans
      (by rw [endG_eq A.q A.k A.v A.d A.T hm, endG_eq B.q B.k B.v B.d B.T hm])

/-- After `m` trips the accumulators have met `m` key tiles. -/
theorem loop_held
    {f10 : BufTy.Contents (Elt Ideal) arg10.view.ty} {f11 : BufTy.Contents (Elt Ideal) arg11.view.ty}
    {f12 : BufTy.Contents (Elt Ideal) arg12.view.ty} {f13 : BufTy.Contents (Elt Ideal) arg13.view.ty} {f14 : BufTy.Contents (Elt Ideal) arg14.view.ty}
    (hI : Ins arg2 arg3 arg4 arg5 arg6 X2 X3 X4 X5 X6 A B (i 1).val)
    (hA : Accs arg10 arg11 arg12 arg13 arg14 f10 f11 f12 f13 f14 A B (i 1).val 0) (m : ℕ) (hmn : m ≤ (k0_t1_loop i).trips) :
    Accs arg10 arg11 arg12 arg13 arg14 (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 f10 f11 f12 f13 f14 m).1)
      (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 f10 f11 f12 f13 f14 m).2.1)
      (arg12.view.writes (Elt Ideal) f12 (pb_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 f10 f11 f12 f13 f14 m).2.2.1)
      (arg13.view.writes (Elt Ideal) f13 (pb_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 f10 f11 f12 f13 f14 m).2.2.2.1)
      (arg14.view.writes (Elt Ideal) f14 (pb_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 f10 f11 f12 f13 f14 m).2.2.2.2) A B (i 1).val m := by
  induction m with
  | zero => exact hA
  | succ m ih =>
    have h := trip_held 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 A B  ⟨m, hmn⟩ hI (ih (Nat.le_of_succ_le hmn))
    rw [← View.writes_append, ← View.writes_append, ← View.writes_append, ← View.writes_append, ← View.writes_append] at h
    have e := pb_k0_t1_succ (F := Ideal) 𝒱 c bd i arg2 harg2 arg3 harg3 arg4 harg4 arg5 harg5 arg6 harg6 arg7 harg7 arg8 harg8 arg9 harg9 arg10 harg10 arg11 harg11
      arg12 harg12 arg13 harg13 arg14 harg14 X2 X3 X4 X5 X6 f10 f11 f12 f13 f14 ⟨m, hmn⟩
    rw [show m + 1 = (⟨m, hmn⟩ : Fin (k0_t1_loop i).trips).val + 1 from rfl, e]
    exact h

end Cert.KernelIdeal.Reals

end
-- ==== Proof.Fill.lean ====
/- The zero fills of the accumulators at the start of a group of query tiles, over the reals. -/
module

public import proofs.«01_k».proof.Proof.State

@[expose] public section

set_option maxRecDepth 16384

noncomputable section

namespace Cert.KernelIdeal.Reals

open Idealize.ShloMosaic Idealize.SL.Sem Cert.KernelIdeal Cert.KernelIdeal.Gen

/-- The zero fills. -/
theorem fill_4096 (f g : ℕ → ℕ → ℝ) (hf : f = conR 0) (hg : g = conR 0) :
    broadcast S4096x256 (Scalar.ofBits (F := Ideal) .f32 0x00000000#32) = (up (pairR f g) : FVec Ideal S4096x256 .f32) := by
  subst hf hg
  rw [zero_up]
  exact up_congr fun r _ c _ => by simp only [conR, pairR, ite_self]
theorem fill_512 (f g : ℕ → ℕ → ℝ) (hf : f = conR 0) (hg : g = conR 0) :
    broadcast S512x256 (Scalar.ofBits (F := Ideal) .f32 0x00000000#32) = (up (pairR f g) : FVec Ideal S512x256 .f32) := by
  subst hf hg
  rw [zero_up]
  exact up_congr fun r _ c _ => by simp only [conR, pairR, ite_self]
theorem self_4096 (x : FVec Ideal S4096x256 .f32) : shapeCast S4096x256 x shapeCasts_S4096x256_S4096x256 = x := by
  funext i; idx_vars i; pointwise
theorem self_512 (x : FVec Ideal S512x256 .f32) : shapeCast S512x256 x shapeCasts_S512x256_S512x256 = x := by
  funext i; idx_vars i; pointwise

end Cert.KernelIdeal.Reals

end
-- ==== Proof.TileA.lean ====
/- The first query tile of a group, over the reals: its diagonal key tile, and what it stores and leaves. -/
module

public import proofs.«01_k».proof.Proof.Loop
public import proofs.«01_k».proof.Proof.Fill
public import proofs.«01_k».proof.Proof.Gen.KernelIdeal.Frame

@[expose] public section

set_option maxRecDepth 16384

noncomputable section

namespace Cert.KernelIdeal.Reals

open Idealize.ShloMosaic Idealize.SL.Sem Cert.KernelIdeal Cert.KernelIdeal.Gen

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S4096x256 .bf16) (harg8 : arg8.IsWhole) (arg9 : Memref sig .tc .vmem S4096x256 .bf16) (harg9 : arg9.IsWhole)
  (arg10 : Memref sig .tc .vmem S512x256 .f32) (harg10 : arg10.IsWhole) (arg11 : Memref sig .tc .vmem S4096x256 .f32) (harg11 : arg11.IsWhole)
  (arg12 : Memref sig .tc .vmem S4096x256 .f32) (harg12 : arg12.IsWhole) (arg13 : Memref sig .tc .vmem S512x256 .f32) (harg13 : arg13.IsWhole)
  (arg14 : Memref sig .tc .vmem S512x256 .f32) (harg14 : arg14.IsWhole)
  (A B : Head)
  (x0 : Vec Ideal S512x256 .bf16) (x1 : Vec Ideal S4096x256 .bf16) (x2 : Vec Ideal S4096x256 .bf16)
  (x3 : Vec Ideal S512x256 .f32) (x4 : Vec Ideal S512x256 .bf16)

/-- The accumulators before the diagonal tile. -/
theorem before_A (h0 : (i 1).val = 0)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    :
    Ins arg2 arg3 arg4 arg5 arg6 (harg2.unread x0) (harg3.unread x1) (harg4.unread x2) (harg5.unread x3) (harg6.unread x4) A B (i 1).val ∧
    Accs arg10 arg11 arg12 arg13 arg14
      (arg10.view.writes (Elt Ideal) arg10.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_A.sl.HS0_1) (arg11.view.writes (Elt Ideal) arg11.view.junk kernelRun0_A.sl.HS1_1) (arg12.view.writes (Elt Ideal) arg12.view.junk kernelRun0_A.sl.HS2_1)
      (arg13.view.writes (Elt Ideal) arg13.view.junk kernelRun0_A.sl.HS3_1) (arg14.view.writes (Elt Ideal) arg14.view.junk kernelRun0_A.sl.HS4_1)
      (Scf.trips (k0_t1_loop i).lb (k0_t1_loop i).ub (k0_t1_loop i).st)).1 ++ kernelRun0_A.sl.HS0_1))
      (arg11.view.writes (Elt Ideal) arg11.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_A.sl.HS0_1) (arg11.view.writes (Elt Ideal) arg11.view.junk kernelRun0_A.sl.HS1_1) (arg12.view.writes (Elt Ideal) arg12.view.junk kernelRun0_A.sl.HS2_1)
      (arg13.view.writes (Elt Ideal) arg13.view.junk kernelRun0_A.sl.HS3_1) (arg14.view.writes (Elt Ideal) arg14.view.junk kernelRun0_A.sl.HS4_1)
      (Scf.trips (k0_t1_loop i).lb (k0_t1_loop i).ub (k0_t1_loop i).st)).2.1 ++ kernelRun0_A.sl.HS1_1))
      (arg12.view.writes (Elt Ideal) arg12.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_A.sl.HS0_1) (arg11.view.writes (Elt Ideal) arg11.view.junk kernelRun0_A.sl.HS1_1) (arg12.view.writes (Elt Ideal) arg12.view.junk kernelRun0_A.sl.HS2_1)
      (arg13.view.writes (Elt Ideal) arg13.view.junk kernelRun0_A.sl.HS3_1) (arg14.view.writes (Elt Ideal) arg14.view.junk kernelRun0_A.sl.HS4_1)
      (Scf.trips (k0_t1_loop i).lb (k0_t1_loop i).ub (k0_t1_loop i).st)).2.2.1 ++ kernelRun0_A.sl.HS2_1))
      (arg13.view.writes (Elt Ideal) arg13.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_A.sl.HS0_1) (arg11.view.writes (Elt Ideal) arg11.view.junk kernelRun0_A.sl.HS1_1) (arg12.view.writes (Elt Ideal) arg12.view.junk kernelRun0_A.sl.HS2_1)
      (arg13.view.writes (Elt Ideal) arg13.view.junk kernelRun0_A.sl.HS3_1) (arg14.view.writes (Elt Ideal) arg14.view.junk kernelRun0_A.sl.HS4_1)
      (Scf.trips (k0_t1_loop i).lb (k0_t1_loop i).ub (k0_t1_loop i).st)).2.2.2.1 ++ kernelRun0_A.sl.HS3_1))
      (arg14.view.writes (Elt Ideal) arg14.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_A.sl.HS0_1) (arg11.view.writes (Elt Ideal) arg11.view.junk kernelRun0_A.sl.HS1_1) (arg12.view.writes (Elt Ideal) arg12.view.junk kernelRun0_A.sl.HS2_1)
      (arg13.view.writes (Elt Ideal) arg13.view.junk kernelRun0_A.sl.HS3_1) (arg14.view.writes (Elt Ideal) arg14.view.junk kernelRun0_A.sl.HS4_1)
      (Scf.trips (k0_t1_loop i).lb (k0_t1_loop i).ub (k0_t1_loop i).st)).2.2.2.2 ++ kernelRun0_A.sl.HS4_1)) A B (i 1).val (i 1).val := by
  have hI : Ins arg2 arg3 arg4 arg5 arg6 (harg2.unread x0) (harg3.unread x1) (harg4.unread x2) (harg5.unread x3) (harg6.unread x4) A B (i 1).val :=
    ⟨(harg2.read_unread x0).trans hx0, (harg3.read_unread x1).trans hx1, (harg4.read_unread x2).trans hx2,
      (harg5.read_unread x3).trans hx3, (harg6.read_unread x4).trans hx4⟩
  refine ⟨hI, ?_⟩
  have h := loop_held (f10 := arg10.view.writes (Elt Ideal) arg10.view.junk kernelRun0_A.sl.HS0_1)
    (f11 := arg11.view.writes (Elt Ideal) arg11.view.junk kernelRun0_A.sl.HS1_1)
    (f12 := arg12.view.writes (Elt Ideal) arg12.view.junk kernelRun0_A.sl.HS2_1)
    (f13 := arg13.view.writes (Elt Ideal) arg13.view.junk kernelRun0_A.sl.HS3_1)
    (f14 := arg14.view.writes (Elt Ideal) arg14.view.junk kernelRun0_A.sl.HS4_1)
    Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14 _ _ _ _ _ A B hI
    ⟨(read_whole _ _ _ _ _).trans ((self_512 _).trans (fill_512 _ _ rfl rfl)), (read_whole _ _ _ _ _).trans ((self_4096 _).trans (fill_4096 _ _ (by rw [h0, AK_zero]) (by rw [h0, AK_zero]))), (read_whole _ _ _ _ _).trans ((self_4096 _).trans (fill_4096 _ _ (by rw [h0, AV_zero]) (by rw [h0, AV_zero]))),
      (read_whole _ _ _ _ _).trans ((self_512 _).trans (fill_512 _ _ rfl rfl)),
      (read_whole _ _ _ _ _).trans ((self_512 _).trans (fill_512 _ _ rfl rfl))⟩ _ le_rfl
  rw [← View.writes_append, ← View.writes_append, ← View.writes_append, ← View.writes_append, ← View.writes_append] at h
  exact Eq.mp (congrArg (fun m => Accs arg10 arg11 arg12 arg13 arg14 _ _ _ _ _ A B (i 1).val m) (trips1 i)) h

/-- The query gradient. -/
theorem out_A_5_eq (hc0 : cond0_0 i) (hc1 : ¬cond0_1 i) (h0 : (i 1).val = 0)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    :
    out0_A_5 (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4
      = (up (mulR (pairR (AQ A.q A.k A.v A.d A.T (i 1).val ((i 1).val + 1)) (AQ B.q B.k B.v B.d B.T (i 1).val ((i 1).val + 1))) (conR sc)) : FVec Ideal S512x256 .bf16) := by
  have hm := masks_low (i 1).val
  obtain ⟨hI, hA⟩ := before_A c i arg2 harg2 arg3 harg3 arg4 harg4 arg5 harg5 arg6 harg6 arg7 harg7 arg8 harg8 arg9 harg9 arg10 harg10 arg11 harg11
      arg12 harg12 arg13 harg13 arg14 harg14 A B x0 x1 x2 x3 x4 h0 hx0 hx1 hx2 hx3 hx4
  unfold out0_A_5 kernelRun0_A
  dsimp only
  rw [read_whole]
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view arg11.view.junk (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view arg12.view.junk (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair512 arg10.view arg10.view.junk _ _ A' B' (off0 := ![0, 0]) (off1 := ![0, 128]) inb0 inb1 _ hA.h10 rfl rfl
  simp only [kernelRun0_A.sl.v30, kernelRun0_A.sl.v33, kernelRun0_A.sl.r_15, kernelRun0_A.sl.HS0_2, kernelRun0_A.sl.v312, kernelRun0_A.sl.v321, kernelRun0_A.sl.HS1_1_1, kernelRun0_A.sl.r_3, kernelRun0_A.sl.r_18, kernelRun0_A.sl.r_6, kernelRun0_A.sl.v196, kernelRun0_A.sl.r_25, kernelRun0_A.sl.HS0_1_1, kernelRun0_A.sl.r_22, kernelRun0_A.sl.v31, kernelRun0_A.sl.HS4_1_1, kernelRun0_A.sl.v255, kernelRun0_A.sl.v0, kernelRun0_A.sl.v28, kernelRun0_A.sl.r_14, kernelRun0_A.sl.v147, kernelRun0_A.sl.r, kernelRun0_A.sl.r_13, kernelRun0_A.sl.r_12, kernelRun0_A.sl.v1, kernelRun0_A.sl.r_7, kernelRun0_A.sl.r_10, kernelRun0_A.sl.r_5, kernelRun0_A.sl.r_8, kernelRun0_A.sl.r_20, kernelRun0_A.sl.v329, kernelRun0_A.sl.r_24, kernelRun0_A.sl.r_23, kernelRun0_A.sl.v219, kernelRun0_A.sl.r_1, kernelRun0_A.sl.v264, kernelRun0_A.sl.HS2_1_1, kernelRun0_A.sl.v276, kernelRun0_A.sl.v2, kernelRun0_A.sl.r_9, kernelRun0_A.sl.r_21, kernelRun0_A.sl.HS3_1_1, kernelRun0_A.sl.r_16, kernelRun0_A.sl.r_2, kernelRun0_A.sl.r_19, kernelRun0_A.sl.r_17, kernelRun0_A.sl.v32, kernelRun0_A.sl.v111, kernelRun0_A.sl.r_4, kernelRun0_A.sl.r_11,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← addQ_eq A.q A.k A.v A.d A.T hm, ← addQ_eq B.q B.k B.v B.d B.T hm]
  rfl

/-- The key gradient so far. -/
theorem sout_A_1_eq (hc0 : cond0_0 i) (hc1 : ¬cond0_1 i) (h0 : (i 1).val = 0)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    :
    arg11.view.read (Elt Ideal) (arg11.view.writes (Elt Ideal) arg11.view.junk (kernelRun0_A (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4).2.2.2.1)
      = (up (pairR (AK A.q A.k A.v A.d A.T ((i 1).val + 1) 0) (AK B.q B.k B.v B.d B.T ((i 1).val + 1) 0)) : FVec Ideal S4096x256 .f32) := by
  have hm := masks_low (i 1).val
  obtain ⟨hI, hA⟩ := before_A c i arg2 harg2 arg3 harg3 arg4 harg4 arg5 harg5 arg6 harg6 arg7 harg7 arg8 harg8 arg9 harg9 arg10 harg10 arg11 harg11
      arg12 harg12 arg13 harg13 arg14 harg14 A B x0 x1 x2 x3 x4 h0 hx0 hx1 hx2 hx3 hx4
  unfold kernelRun0_A
  dsimp only
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view arg11.view.junk (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view arg12.view.junk (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair arg11.view arg11.view.junk _ _ A' B' (off0 := k0_off5 i) (off1 := k0_off6 i) inb0 inb1 _ hA.h11 (off5_eq i) (off6_eq i)
  simp only [kernelRun0_A.sl.v30, kernelRun0_A.sl.v33, kernelRun0_A.sl.r_15, kernelRun0_A.sl.HS0_2, kernelRun0_A.sl.v312, kernelRun0_A.sl.v321, kernelRun0_A.sl.HS1_1_1, kernelRun0_A.sl.r_3, kernelRun0_A.sl.r_18, kernelRun0_A.sl.r_6, kernelRun0_A.sl.v196, kernelRun0_A.sl.r_25, kernelRun0_A.sl.HS0_1_1, kernelRun0_A.sl.r_22, kernelRun0_A.sl.v31, kernelRun0_A.sl.HS4_1_1, kernelRun0_A.sl.v255, kernelRun0_A.sl.v0, kernelRun0_A.sl.v28, kernelRun0_A.sl.r_14, kernelRun0_A.sl.v147, kernelRun0_A.sl.r, kernelRun0_A.sl.r_13, kernelRun0_A.sl.r_12, kernelRun0_A.sl.v1, kernelRun0_A.sl.r_7, kernelRun0_A.sl.r_10, kernelRun0_A.sl.r_5, kernelRun0_A.sl.r_8, kernelRun0_A.sl.r_20, kernelRun0_A.sl.v329, kernelRun0_A.sl.r_24, kernelRun0_A.sl.r_23, kernelRun0_A.sl.v219, kernelRun0_A.sl.r_1, kernelRun0_A.sl.v264, kernelRun0_A.sl.HS2_1_1, kernelRun0_A.sl.v276, kernelRun0_A.sl.v2, kernelRun0_A.sl.r_9, kernelRun0_A.sl.r_21, kernelRun0_A.sl.HS3_1_1, kernelRun0_A.sl.r_16, kernelRun0_A.sl.r_2, kernelRun0_A.sl.r_19, kernelRun0_A.sl.r_17, kernelRun0_A.sl.v32, kernelRun0_A.sl.v111, kernelRun0_A.sl.r_4, kernelRun0_A.sl.r_11,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← AK_next, ← AK_next, ← storeK_eq A.q A.k A.v A.d A.T hm, ← storeK_eq B.q B.k B.v B.d B.T hm]
  rfl

/-- The value gradient so far. -/
theorem sout_A_2_eq (hc0 : cond0_0 i) (hc1 : ¬cond0_1 i) (h0 : (i 1).val = 0)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    :
    arg12.view.read (Elt Ideal) (arg12.view.writes (Elt Ideal) arg12.view.junk (kernelRun0_A (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4).2.2.2.2.1)
      = (up (pairR (AV A.q A.k A.d A.T ((i 1).val + 1) 0) (AV B.q B.k B.d B.T ((i 1).val + 1) 0)) : FVec Ideal S4096x256 .f32) := by
  have hm := masks_low (i 1).val
  obtain ⟨hI, hA⟩ := before_A c i arg2 harg2 arg3 harg3 arg4 harg4 arg5 harg5 arg6 harg6 arg7 harg7 arg8 harg8 arg9 harg9 arg10 harg10 arg11 harg11
      arg12 harg12 arg13 harg13 arg14 harg14 A B x0 x1 x2 x3 x4 h0 hx0 hx1 hx2 hx3 hx4
  unfold kernelRun0_A
  dsimp only
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view arg11.view.junk (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view arg12.view.junk (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair arg12.view arg12.view.junk _ _ A' B' (off0 := k0_off5 i) (off1 := k0_off6 i) inb0 inb1 _ hA.h12 (off5_eq i) (off6_eq i)
  simp only [kernelRun0_A.sl.v30, kernelRun0_A.sl.v33, kernelRun0_A.sl.r_15, kernelRun0_A.sl.HS0_2, kernelRun0_A.sl.v312, kernelRun0_A.sl.v321, kernelRun0_A.sl.HS1_1_1, kernelRun0_A.sl.r_3, kernelRun0_A.sl.r_18, kernelRun0_A.sl.r_6, kernelRun0_A.sl.v196, kernelRun0_A.sl.r_25, kernelRun0_A.sl.HS0_1_1, kernelRun0_A.sl.r_22, kernelRun0_A.sl.v31, kernelRun0_A.sl.HS4_1_1, kernelRun0_A.sl.v255, kernelRun0_A.sl.v0, kernelRun0_A.sl.v28, kernelRun0_A.sl.r_14, kernelRun0_A.sl.v147, kernelRun0_A.sl.r, kernelRun0_A.sl.r_13, kernelRun0_A.sl.r_12, kernelRun0_A.sl.v1, kernelRun0_A.sl.r_7, kernelRun0_A.sl.r_10, kernelRun0_A.sl.r_5, kernelRun0_A.sl.r_8, kernelRun0_A.sl.r_20, kernelRun0_A.sl.v329, kernelRun0_A.sl.r_24, kernelRun0_A.sl.r_23, kernelRun0_A.sl.v219, kernelRun0_A.sl.r_1, kernelRun0_A.sl.v264, kernelRun0_A.sl.HS2_1_1, kernelRun0_A.sl.v276, kernelRun0_A.sl.v2, kernelRun0_A.sl.r_9, kernelRun0_A.sl.r_21, kernelRun0_A.sl.HS3_1_1, kernelRun0_A.sl.r_16, kernelRun0_A.sl.r_2, kernelRun0_A.sl.r_19, kernelRun0_A.sl.r_17, kernelRun0_A.sl.v32, kernelRun0_A.sl.v111, kernelRun0_A.sl.r_4, kernelRun0_A.sl.r_11,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← AV_next, ← AV_next, ← storeV_eq A.q A.k A.d A.T hm, ← storeV_eq B.q B.k B.d B.T hm]
  rfl

end Cert.KernelIdeal.Reals

end
-- ==== Proof.TileB.lean ====
/- A query tile between the first and the last, over the reals: its diagonal key tile, and what it stores and leaves. -/
module

public import proofs.«01_k».proof.Proof.Loop
public import proofs.«01_k».proof.Proof.Fill
public import proofs.«01_k».proof.Proof.Gen.KernelIdeal.Frame

@[expose] public section

set_option maxRecDepth 16384

noncomputable section

namespace Cert.KernelIdeal.Reals

open Idealize.ShloMosaic Idealize.SL.Sem Cert.KernelIdeal Cert.KernelIdeal.Gen

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S4096x256 .bf16) (harg8 : arg8.IsWhole) (arg9 : Memref sig .tc .vmem S4096x256 .bf16) (harg9 : arg9.IsWhole)
  (arg10 : Memref sig .tc .vmem S512x256 .f32) (harg10 : arg10.IsWhole) (arg11 : Memref sig .tc .vmem S4096x256 .f32) (harg11 : arg11.IsWhole)
  (arg12 : Memref sig .tc .vmem S4096x256 .f32) (harg12 : arg12.IsWhole) (arg13 : Memref sig .tc .vmem S512x256 .f32) (harg13 : arg13.IsWhole)
  (arg14 : Memref sig .tc .vmem S512x256 .f32) (harg14 : arg14.IsWhole)
  (A B : Head)
  (x0 : Vec Ideal S512x256 .bf16) (x1 : Vec Ideal S4096x256 .bf16) (x2 : Vec Ideal S4096x256 .bf16)
  (x3 : Vec Ideal S512x256 .f32) (x4 : Vec Ideal S512x256 .bf16) (xs1 : Vec Ideal S4096x256 .f32) (xs2 : Vec Ideal S4096x256 .f32)

/-- The accumulators before the diagonal tile. -/
theorem before_B
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    (hs1 : xs1 = (up (pairR (AK A.q A.k A.v A.d A.T (i 1).val 0) (AK B.q B.k B.v B.d B.T (i 1).val 0)) : FVec Ideal S4096x256 .f32))
    (hs2 : xs2 = (up (pairR (AV A.q A.k A.d A.T (i 1).val 0) (AV B.q B.k B.d B.T (i 1).val 0)) : FVec Ideal S4096x256 .f32))
    :
    Ins arg2 arg3 arg4 arg5 arg6 (harg2.unread x0) (harg3.unread x1) (harg4.unread x2) (harg5.unread x3) (harg6.unread x4) A B (i 1).val ∧
    Accs arg10 arg11 arg12 arg13 arg14
      (arg10.view.writes (Elt Ideal) arg10.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_B.sl.HS0_1) (harg11.unread xs1) (harg12.unread xs2)
      (arg13.view.writes (Elt Ideal) arg13.view.junk kernelRun0_B.sl.HS3_1) (arg14.view.writes (Elt Ideal) arg14.view.junk kernelRun0_B.sl.HS4_1)
      (Scf.trips (k0_t1_loop i).lb (k0_t1_loop i).ub (k0_t1_loop i).st)).1 ++ kernelRun0_B.sl.HS0_1))
      (arg11.view.writes (Elt Ideal) (harg11.unread xs1) (pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_B.sl.HS0_1) (harg11.unread xs1) (harg12.unread xs2)
      (arg13.view.writes (Elt Ideal) arg13.view.junk kernelRun0_B.sl.HS3_1) (arg14.view.writes (Elt Ideal) arg14.view.junk kernelRun0_B.sl.HS4_1)
      (Scf.trips (k0_t1_loop i).lb (k0_t1_loop i).ub (k0_t1_loop i).st)).2.1)
      (arg12.view.writes (Elt Ideal) (harg12.unread xs2) (pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_B.sl.HS0_1) (harg11.unread xs1) (harg12.unread xs2)
      (arg13.view.writes (Elt Ideal) arg13.view.junk kernelRun0_B.sl.HS3_1) (arg14.view.writes (Elt Ideal) arg14.view.junk kernelRun0_B.sl.HS4_1)
      (Scf.trips (k0_t1_loop i).lb (k0_t1_loop i).ub (k0_t1_loop i).st)).2.2.1)
      (arg13.view.writes (Elt Ideal) arg13.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_B.sl.HS0_1) (harg11.unread xs1) (harg12.unread xs2)
      (arg13.view.writes (Elt Ideal) arg13.view.junk kernelRun0_B.sl.HS3_1) (arg14.view.writes (Elt Ideal) arg14.view.junk kernelRun0_B.sl.HS4_1)
      (Scf.trips (k0_t1_loop i).lb (k0_t1_loop i).ub (k0_t1_loop i).st)).2.2.2.1 ++ kernelRun0_B.sl.HS3_1))
      (arg14.view.writes (Elt Ideal) arg14.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_B.sl.HS0_1) (harg11.unread xs1) (harg12.unread xs2)
      (arg13.view.writes (Elt Ideal) arg13.view.junk kernelRun0_B.sl.HS3_1) (arg14.view.writes (Elt Ideal) arg14.view.junk kernelRun0_B.sl.HS4_1)
      (Scf.trips (k0_t1_loop i).lb (k0_t1_loop i).ub (k0_t1_loop i).st)).2.2.2.2 ++ kernelRun0_B.sl.HS4_1)) A B (i 1).val (i 1).val := by
  have hI : Ins arg2 arg3 arg4 arg5 arg6 (harg2.unread x0) (harg3.unread x1) (harg4.unread x2) (harg5.unread x3) (harg6.unread x4) A B (i 1).val :=
    ⟨(harg2.read_unread x0).trans hx0, (harg3.read_unread x1).trans hx1, (harg4.read_unread x2).trans hx2,
      (harg5.read_unread x3).trans hx3, (harg6.read_unread x4).trans hx4⟩
  refine ⟨hI, ?_⟩
  have h := loop_held (f10 := arg10.view.writes (Elt Ideal) arg10.view.junk kernelRun0_B.sl.HS0_1)
    (f13 := arg13.view.writes (Elt Ideal) arg13.view.junk kernelRun0_B.sl.HS3_1)
    (f14 := arg14.view.writes (Elt Ideal) arg14.view.junk kernelRun0_B.sl.HS4_1)
    Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14 _ _ _ _ _ A B hI
    ⟨(read_whole _ _ _ _ _).trans ((self_512 _).trans (fill_512 _ _ rfl rfl)), (harg11.read_unread xs1).trans hs1, (harg12.read_unread xs2).trans hs2,
      (read_whole _ _ _ _ _).trans ((self_512 _).trans (fill_512 _ _ rfl rfl)),
      (read_whole _ _ _ _ _).trans ((self_512 _).trans (fill_512 _ _ rfl rfl))⟩ _ le_rfl
  rw [← View.writes_append, ← View.writes_append, ← View.writes_append] at h
  exact Eq.mp (congrArg (fun m => Accs arg10 arg11 arg12 arg13 arg14 _ _ _ _ _ A B (i 1).val m) (trips1 i)) h

/-- The query gradient. -/
theorem out_B_5_eq (hc0 : ¬cond0_0 i) (hc1 : ¬cond0_1 i)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    (hs1 : xs1 = (up (pairR (AK A.q A.k A.v A.d A.T (i 1).val 0) (AK B.q B.k B.v B.d B.T (i 1).val 0)) : FVec Ideal S4096x256 .f32))
    (hs2 : xs2 = (up (pairR (AV A.q A.k A.d A.T (i 1).val 0) (AV B.q B.k B.d B.T (i 1).val 0)) : FVec Ideal S4096x256 .f32))
    :
    out0_B_5 (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4 xs1 xs2
      = (up (mulR (pairR (AQ A.q A.k A.v A.d A.T (i 1).val ((i 1).val + 1)) (AQ B.q B.k B.v B.d B.T (i 1).val ((i 1).val + 1))) (conR sc)) : FVec Ideal S512x256 .bf16) := by
  have hm := masks_low (i 1).val
  obtain ⟨hI, hA⟩ := before_B c i arg2 harg2 arg3 harg3 arg4 harg4 arg5 harg5 arg6 harg6 arg7 harg7 arg8 harg8 arg9 harg9 arg10 harg10 arg11 harg11
      arg12 harg12 arg13 harg13 arg14 harg14 A B x0 x1 x2 x3 x4 xs1 xs2 hx0 hx1 hx2 hx3 hx4 hs1 hs2
  unfold out0_B_5 kernelRun0_B
  dsimp only
  rw [read_whole]
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view (harg11.unread xs1) (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view (harg12.unread xs2) (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair512 arg10.view arg10.view.junk _ _ A' B' (off0 := ![0, 0]) (off1 := ![0, 128]) inb0 inb1 _ hA.h10 rfl rfl
  simp only [kernelRun0_B.sl.v329, kernelRun0_B.sl.r_3, kernelRun0_B.sl.v312, kernelRun0_B.sl.r_13, kernelRun0_B.sl.HS0_1_1, kernelRun0_B.sl.r_16, kernelRun0_B.sl.r_17, kernelRun0_B.sl.v0, kernelRun0_B.sl.r_12, kernelRun0_B.sl.r_14, kernelRun0_B.sl.v31, kernelRun0_B.sl.r_7, kernelRun0_B.sl.v264, kernelRun0_B.sl.v111, kernelRun0_B.sl.r_21, kernelRun0_B.sl.r_19, kernelRun0_B.sl.v2, kernelRun0_B.sl.HS1_1, kernelRun0_B.sl.HS0_2, kernelRun0_B.sl.v147, kernelRun0_B.sl.v196, kernelRun0_B.sl.v276, kernelRun0_B.sl.v1, kernelRun0_B.sl.r_2, kernelRun0_B.sl.r_10, kernelRun0_B.sl.HS2_1, kernelRun0_B.sl.v33, kernelRun0_B.sl.r_18, kernelRun0_B.sl.v219, kernelRun0_B.sl.r_1, kernelRun0_B.sl.r_15, kernelRun0_B.sl.r_9, kernelRun0_B.sl.v255, kernelRun0_B.sl.HS3_1_1, kernelRun0_B.sl.r_22, kernelRun0_B.sl.r, kernelRun0_B.sl.r_5, kernelRun0_B.sl.r_23, kernelRun0_B.sl.r_20, kernelRun0_B.sl.r_6, kernelRun0_B.sl.r_24, kernelRun0_B.sl.r_8, kernelRun0_B.sl.v28, kernelRun0_B.sl.v30, kernelRun0_B.sl.r_4, kernelRun0_B.sl.r_25, kernelRun0_B.sl.HS4_1_1, kernelRun0_B.sl.v32, kernelRun0_B.sl.r_11,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← addQ_eq A.q A.k A.v A.d A.T hm, ← addQ_eq B.q B.k B.v B.d B.T hm]
  rfl

/-- The key gradient so far. -/
theorem sout_B_1_eq (hc0 : ¬cond0_0 i) (hc1 : ¬cond0_1 i)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    (hs1 : xs1 = (up (pairR (AK A.q A.k A.v A.d A.T (i 1).val 0) (AK B.q B.k B.v B.d B.T (i 1).val 0)) : FVec Ideal S4096x256 .f32))
    (hs2 : xs2 = (up (pairR (AV A.q A.k A.d A.T (i 1).val 0) (AV B.q B.k B.d B.T (i 1).val 0)) : FVec Ideal S4096x256 .f32))
    :
    sout0_B_1 (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4 xs1 xs2
      = (up (pairR (AK A.q A.k A.v A.d A.T ((i 1).val + 1) 0) (AK B.q B.k B.v B.d B.T ((i 1).val + 1) 0)) : FVec Ideal S4096x256 .f32) := by
  have hm := masks_low (i 1).val
  obtain ⟨hI, hA⟩ := before_B c i arg2 harg2 arg3 harg3 arg4 harg4 arg5 harg5 arg6 harg6 arg7 harg7 arg8 harg8 arg9 harg9 arg10 harg10 arg11 harg11
      arg12 harg12 arg13 harg13 arg14 harg14 A B x0 x1 x2 x3 x4 xs1 xs2 hx0 hx1 hx2 hx3 hx4 hs1 hs2
  unfold sout0_B_1 kernelRun0_B
  dsimp only
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view (harg11.unread xs1) (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view (harg12.unread xs2) (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair arg11.view (harg11.unread xs1) _ _ A' B' (off0 := k0_off5 i) (off1 := k0_off6 i) inb0 inb1 _ hA.h11 (off5_eq i) (off6_eq i)
  simp only [kernelRun0_B.sl.v329, kernelRun0_B.sl.r_3, kernelRun0_B.sl.v312, kernelRun0_B.sl.r_13, kernelRun0_B.sl.HS0_1_1, kernelRun0_B.sl.r_16, kernelRun0_B.sl.r_17, kernelRun0_B.sl.v0, kernelRun0_B.sl.r_12, kernelRun0_B.sl.r_14, kernelRun0_B.sl.v31, kernelRun0_B.sl.r_7, kernelRun0_B.sl.v264, kernelRun0_B.sl.v111, kernelRun0_B.sl.r_21, kernelRun0_B.sl.r_19, kernelRun0_B.sl.v2, kernelRun0_B.sl.HS1_1, kernelRun0_B.sl.HS0_2, kernelRun0_B.sl.v147, kernelRun0_B.sl.v196, kernelRun0_B.sl.v276, kernelRun0_B.sl.v1, kernelRun0_B.sl.r_2, kernelRun0_B.sl.r_10, kernelRun0_B.sl.HS2_1, kernelRun0_B.sl.v33, kernelRun0_B.sl.r_18, kernelRun0_B.sl.v219, kernelRun0_B.sl.r_1, kernelRun0_B.sl.r_15, kernelRun0_B.sl.r_9, kernelRun0_B.sl.v255, kernelRun0_B.sl.HS3_1_1, kernelRun0_B.sl.r_22, kernelRun0_B.sl.r, kernelRun0_B.sl.r_5, kernelRun0_B.sl.r_23, kernelRun0_B.sl.r_20, kernelRun0_B.sl.r_6, kernelRun0_B.sl.r_24, kernelRun0_B.sl.r_8, kernelRun0_B.sl.v28, kernelRun0_B.sl.v30, kernelRun0_B.sl.r_4, kernelRun0_B.sl.r_25, kernelRun0_B.sl.HS4_1_1, kernelRun0_B.sl.v32, kernelRun0_B.sl.r_11,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← AK_next, ← AK_next, ← storeK_eq A.q A.k A.v A.d A.T hm, ← storeK_eq B.q B.k B.v B.d B.T hm]
  rfl

/-- The value gradient so far. -/
theorem sout_B_2_eq (hc0 : ¬cond0_0 i) (hc1 : ¬cond0_1 i)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    (hs1 : xs1 = (up (pairR (AK A.q A.k A.v A.d A.T (i 1).val 0) (AK B.q B.k B.v B.d B.T (i 1).val 0)) : FVec Ideal S4096x256 .f32))
    (hs2 : xs2 = (up (pairR (AV A.q A.k A.d A.T (i 1).val 0) (AV B.q B.k B.d B.T (i 1).val 0)) : FVec Ideal S4096x256 .f32))
    :
    sout0_B_2 (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4 xs1 xs2
      = (up (pairR (AV A.q A.k A.d A.T ((i 1).val + 1) 0) (AV B.q B.k B.d B.T ((i 1).val + 1) 0)) : FVec Ideal S4096x256 .f32) := by
  have hm := masks_low (i 1).val
  obtain ⟨hI, hA⟩ := before_B c i arg2 harg2 arg3 harg3 arg4 harg4 arg5 harg5 arg6 harg6 arg7 harg7 arg8 harg8 arg9 harg9 arg10 harg10 arg11 harg11
      arg12 harg12 arg13 harg13 arg14 harg14 A B x0 x1 x2 x3 x4 xs1 xs2 hx0 hx1 hx2 hx3 hx4 hs1 hs2
  unfold sout0_B_2 kernelRun0_B
  dsimp only
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view (harg11.unread xs1) (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view (harg12.unread xs2) (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair arg12.view (harg12.unread xs2) _ _ A' B' (off0 := k0_off5 i) (off1 := k0_off6 i) inb0 inb1 _ hA.h12 (off5_eq i) (off6_eq i)
  simp only [kernelRun0_B.sl.v329, kernelRun0_B.sl.r_3, kernelRun0_B.sl.v312, kernelRun0_B.sl.r_13, kernelRun0_B.sl.HS0_1_1, kernelRun0_B.sl.r_16, kernelRun0_B.sl.r_17, kernelRun0_B.sl.v0, kernelRun0_B.sl.r_12, kernelRun0_B.sl.r_14, kernelRun0_B.sl.v31, kernelRun0_B.sl.r_7, kernelRun0_B.sl.v264, kernelRun0_B.sl.v111, kernelRun0_B.sl.r_21, kernelRun0_B.sl.r_19, kernelRun0_B.sl.v2, kernelRun0_B.sl.HS1_1, kernelRun0_B.sl.HS0_2, kernelRun0_B.sl.v147, kernelRun0_B.sl.v196, kernelRun0_B.sl.v276, kernelRun0_B.sl.v1, kernelRun0_B.sl.r_2, kernelRun0_B.sl.r_10, kernelRun0_B.sl.HS2_1, kernelRun0_B.sl.v33, kernelRun0_B.sl.r_18, kernelRun0_B.sl.v219, kernelRun0_B.sl.r_1, kernelRun0_B.sl.r_15, kernelRun0_B.sl.r_9, kernelRun0_B.sl.v255, kernelRun0_B.sl.HS3_1_1, kernelRun0_B.sl.r_22, kernelRun0_B.sl.r, kernelRun0_B.sl.r_5, kernelRun0_B.sl.r_23, kernelRun0_B.sl.r_20, kernelRun0_B.sl.r_6, kernelRun0_B.sl.r_24, kernelRun0_B.sl.r_8, kernelRun0_B.sl.v28, kernelRun0_B.sl.v30, kernelRun0_B.sl.r_4, kernelRun0_B.sl.r_25, kernelRun0_B.sl.HS4_1_1, kernelRun0_B.sl.v32, kernelRun0_B.sl.r_11,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← AV_next, ← AV_next, ← storeV_eq A.q A.k A.d A.T hm, ← storeV_eq B.q B.k B.d B.T hm]
  rfl

end Cert.KernelIdeal.Reals

end
-- ==== Proof.TileC.lean ====
/- The last query tile of a group, over the reals: its diagonal key tile, and what it stores and leaves. -/
module

public import proofs.«01_k».proof.Proof.Loop
public import proofs.«01_k».proof.Proof.Fill
public import proofs.«01_k».proof.Proof.Gen.KernelIdeal.Frame

@[expose] public section

set_option maxRecDepth 16384

noncomputable section

namespace Cert.KernelIdeal.Reals

open Idealize.ShloMosaic Idealize.SL.Sem Cert.KernelIdeal Cert.KernelIdeal.Gen

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .f32) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S4096x256 .bf16) (harg8 : arg8.IsWhole) (arg9 : Memref sig .tc .vmem S4096x256 .bf16) (harg9 : arg9.IsWhole)
  (arg10 : Memref sig .tc .vmem S512x256 .f32) (harg10 : arg10.IsWhole) (arg11 : Memref sig .tc .vmem S4096x256 .f32) (harg11 : arg11.IsWhole)
  (arg12 : Memref sig .tc .vmem S4096x256 .f32) (harg12 : arg12.IsWhole) (arg13 : Memref sig .tc .vmem S512x256 .f32) (harg13 : arg13.IsWhole)
  (arg14 : Memref sig .tc .vmem S512x256 .f32) (harg14 : arg14.IsWhole)
  (A B : Head)
  (x0 : Vec Ideal S512x256 .bf16) (x1 : Vec Ideal S4096x256 .bf16) (x2 : Vec Ideal S4096x256 .bf16)
  (x3 : Vec Ideal S512x256 .f32) (x4 : Vec Ideal S512x256 .bf16) (xs1 : Vec Ideal S4096x256 .f32) (xs2 : Vec Ideal S4096x256 .f32)

/-- The accumulators before the diagonal tile. -/
theorem before_C
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    (hs1 : xs1 = (up (pairR (AK A.q A.k A.v A.d A.T (i 1).val 0) (AK B.q B.k B.v B.d B.T (i 1).val 0)) : FVec Ideal S4096x256 .f32))
    (hs2 : xs2 = (up (pairR (AV A.q A.k A.d A.T (i 1).val 0) (AV B.q B.k B.d B.T (i 1).val 0)) : FVec Ideal S4096x256 .f32))
    :
    Ins arg2 arg3 arg4 arg5 arg6 (harg2.unread x0) (harg3.unread x1) (harg4.unread x2) (harg5.unread x3) (harg6.unread x4) A B (i 1).val ∧
    Accs arg10 arg11 arg12 arg13 arg14
      (arg10.view.writes (Elt Ideal) arg10.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_C.sl.HS0_1) (harg11.unread xs1) (harg12.unread xs2)
      (arg13.view.writes (Elt Ideal) arg13.view.junk kernelRun0_C.sl.HS3_1) (arg14.view.writes (Elt Ideal) arg14.view.junk kernelRun0_C.sl.HS4_1)
      (Scf.trips (k0_t1_loop i).lb (k0_t1_loop i).ub (k0_t1_loop i).st)).1 ++ kernelRun0_C.sl.HS0_1))
      (arg11.view.writes (Elt Ideal) (harg11.unread xs1) (pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_C.sl.HS0_1) (harg11.unread xs1) (harg12.unread xs2)
      (arg13.view.writes (Elt Ideal) arg13.view.junk kernelRun0_C.sl.HS3_1) (arg14.view.writes (Elt Ideal) arg14.view.junk kernelRun0_C.sl.HS4_1)
      (Scf.trips (k0_t1_loop i).lb (k0_t1_loop i).ub (k0_t1_loop i).st)).2.1)
      (arg12.view.writes (Elt Ideal) (harg12.unread xs2) (pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_C.sl.HS0_1) (harg11.unread xs1) (harg12.unread xs2)
      (arg13.view.writes (Elt Ideal) arg13.view.junk kernelRun0_C.sl.HS3_1) (arg14.view.writes (Elt Ideal) arg14.view.junk kernelRun0_C.sl.HS4_1)
      (Scf.trips (k0_t1_loop i).lb (k0_t1_loop i).ub (k0_t1_loop i).st)).2.2.1)
      (arg13.view.writes (Elt Ideal) arg13.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_C.sl.HS0_1) (harg11.unread xs1) (harg12.unread xs2)
      (arg13.view.writes (Elt Ideal) arg13.view.junk kernelRun0_C.sl.HS3_1) (arg14.view.writes (Elt Ideal) arg14.view.junk kernelRun0_C.sl.HS4_1)
      (Scf.trips (k0_t1_loop i).lb (k0_t1_loop i).ub (k0_t1_loop i).st)).2.2.2.1 ++ kernelRun0_C.sl.HS3_1))
      (arg14.view.writes (Elt Ideal) arg14.view.junk ((pb_k0_t1 (F := Ideal) Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14
      (harg2.unread x0) (harg3.unread x1) (harg4.unread x2) (harg5.unread x3) (harg6.unread x4)
      (arg10.view.writes (Elt Ideal) arg10.view.junk kernelRun0_C.sl.HS0_1) (harg11.unread xs1) (harg12.unread xs2)
      (arg13.view.writes (Elt Ideal) arg13.view.junk kernelRun0_C.sl.HS3_1) (arg14.view.writes (Elt Ideal) arg14.view.junk kernelRun0_C.sl.HS4_1)
      (Scf.trips (k0_t1_loop i).lb (k0_t1_loop i).ub (k0_t1_loop i).st)).2.2.2.2 ++ kernelRun0_C.sl.HS4_1)) A B (i 1).val (i 1).val := by
  have hI : Ins arg2 arg3 arg4 arg5 arg6 (harg2.unread x0) (harg3.unread x1) (harg4.unread x2) (harg5.unread x3) (harg6.unread x4) A B (i 1).val :=
    ⟨(harg2.read_unread x0).trans hx0, (harg3.read_unread x1).trans hx1, (harg4.read_unread x2).trans hx2,
      (harg5.read_unread x3).trans hx3, (harg6.read_unread x4).trans hx4⟩
  refine ⟨hI, ?_⟩
  have h := loop_held (f10 := arg10.view.writes (Elt Ideal) arg10.view.junk kernelRun0_C.sl.HS0_1)
    (f13 := arg13.view.writes (Elt Ideal) arg13.view.junk kernelRun0_C.sl.HS3_1)
    (f14 := arg14.view.writes (Elt Ideal) arg14.view.junk kernelRun0_C.sl.HS4_1)
    Idealize.ShloMosaic.Variants.none c none i arg2 harg2 arg3 harg3 arg4 harg4 arg5 harg5 arg6 harg6 arg7 harg7 arg8 harg8 arg9 harg9 arg10 harg10 arg11 harg11
      arg12 harg12 arg13 harg13 arg14 harg14 _ _ _ _ _ A B hI
    ⟨(read_whole _ _ _ _ _).trans ((self_512 _).trans (fill_512 _ _ rfl rfl)), (harg11.read_unread xs1).trans hs1, (harg12.read_unread xs2).trans hs2,
      (read_whole _ _ _ _ _).trans ((self_512 _).trans (fill_512 _ _ rfl rfl)),
      (read_whole _ _ _ _ _).trans ((self_512 _).trans (fill_512 _ _ rfl rfl))⟩ _ le_rfl
  rw [← View.writes_append, ← View.writes_append, ← View.writes_append] at h
  exact Eq.mp (congrArg (fun m => Accs arg10 arg11 arg12 arg13 arg14 _ _ _ _ _ A B (i 1).val m) (trips1 i)) h

/-- The query gradient. -/
theorem out_C_5_eq (hc0 : ¬cond0_0 i) (hc1 : cond0_1 i)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    (hs1 : xs1 = (up (pairR (AK A.q A.k A.v A.d A.T (i 1).val 0) (AK B.q B.k B.v B.d B.T (i 1).val 0)) : FVec Ideal S4096x256 .f32))
    (hs2 : xs2 = (up (pairR (AV A.q A.k A.d A.T (i 1).val 0) (AV B.q B.k B.d B.T (i 1).val 0)) : FVec Ideal S4096x256 .f32))
    :
    out0_C_5 (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4 xs1 xs2
      = (up (mulR (pairR (AQ A.q A.k A.v A.d A.T (i 1).val ((i 1).val + 1)) (AQ B.q B.k B.v B.d B.T (i 1).val ((i 1).val + 1))) (conR sc)) : FVec Ideal S512x256 .bf16) := by
  have hm := masks_low (i 1).val
  obtain ⟨hI, hA⟩ := before_C c i arg2 harg2 arg3 harg3 arg4 harg4 arg5 harg5 arg6 harg6 arg7 harg7 arg8 harg8 arg9 harg9 arg10 harg10 arg11 harg11
      arg12 harg12 arg13 harg13 arg14 harg14 A B x0 x1 x2 x3 x4 xs1 xs2 hx0 hx1 hx2 hx3 hx4 hs1 hs2
  unfold out0_C_5 kernelRun0_C
  dsimp only
  rw [read_whole]
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view (harg11.unread xs1) (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view (harg12.unread xs2) (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair512 arg10.view arg10.view.junk _ _ A' B' (off0 := ![0, 0]) (off1 := ![0, 128]) inb0 inb1 _ hA.h10 rfl rfl
  simp only [kernelRun0_C.sl.r_14, kernelRun0_C.sl.r_2, kernelRun0_C.sl.r_8, kernelRun0_C.sl.r_21, kernelRun0_C.sl.HS4_1_1, kernelRun0_C.sl.HS2_2, kernelRun0_C.sl.r_7, kernelRun0_C.sl.r_15, kernelRun0_C.sl.v329, kernelRun0_C.sl.HS2_1, kernelRun0_C.sl.r_25, kernelRun0_C.sl.r_6, kernelRun0_C.sl.v28, kernelRun0_C.sl.HS0_1_1, kernelRun0_C.sl.r_9, kernelRun0_C.sl.v312, kernelRun0_C.sl.r_1, kernelRun0_C.sl.r_22, kernelRun0_C.sl.r_4, kernelRun0_C.sl.v219, kernelRun0_C.sl.HS1_2, kernelRun0_C.sl.r_20, kernelRun0_C.sl.v1, kernelRun0_C.sl.r_12, kernelRun0_C.sl.r_24, kernelRun0_C.sl.r_17, kernelRun0_C.sl.v32, kernelRun0_C.sl.r_18, kernelRun0_C.sl.v255, kernelRun0_C.sl.v147, kernelRun0_C.sl.r, kernelRun0_C.sl.v276, kernelRun0_C.sl.r_13, kernelRun0_C.sl.r_19, kernelRun0_C.sl.r_23, kernelRun0_C.sl.HS0_2, kernelRun0_C.sl.v30, kernelRun0_C.sl.r_16, kernelRun0_C.sl.HS1_1, kernelRun0_C.sl.HS3_1_1, kernelRun0_C.sl.r_5, kernelRun0_C.sl.v0, kernelRun0_C.sl.r_3, kernelRun0_C.sl.v31, kernelRun0_C.sl.r_10, kernelRun0_C.sl.v196, kernelRun0_C.sl.v33, kernelRun0_C.sl.r_11, kernelRun0_C.sl.v2, kernelRun0_C.sl.v264, kernelRun0_C.sl.v111, kernelRun0_C.sl.v342, kernelRun0_C.sl.v337,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← addQ_eq A.q A.k A.v A.d A.T hm, ← addQ_eq B.q B.k B.v B.d B.T hm]
  rfl

/-- The key gradient. -/
theorem out_C_6_eq (hc0 : ¬cond0_0 i) (hc1 : cond0_1 i)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    (hs1 : xs1 = (up (pairR (AK A.q A.k A.v A.d A.T (i 1).val 0) (AK B.q B.k B.v B.d B.T (i 1).val 0)) : FVec Ideal S4096x256 .f32))
    (hs2 : xs2 = (up (pairR (AV A.q A.k A.d A.T (i 1).val 0) (AV B.q B.k B.d B.T (i 1).val 0)) : FVec Ideal S4096x256 .f32))
    :
    out0_C_6 (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4 xs1 xs2
      = (up (mulR (pairR (AK A.q A.k A.v A.d A.T ((i 1).val + 1) 0) (AK B.q B.k B.v B.d B.T ((i 1).val + 1) 0)) (conR sc)) : FVec Ideal S4096x256 .bf16) := by
  have hm := masks_low (i 1).val
  obtain ⟨hI, hA⟩ := before_C c i arg2 harg2 arg3 harg3 arg4 harg4 arg5 harg5 arg6 harg6 arg7 harg7 arg8 harg8 arg9 harg9 arg10 harg10 arg11 harg11
      arg12 harg12 arg13 harg13 arg14 harg14 A B x0 x1 x2 x3 x4 xs1 xs2 hx0 hx1 hx2 hx3 hx4 hs1 hs2
  unfold out0_C_6 kernelRun0_C
  dsimp only
  rw [read_whole]
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view (harg11.unread xs1) (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view (harg12.unread xs2) (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair arg11.view (harg11.unread xs1) _ _ A' B' (off0 := k0_off5 i) (off1 := k0_off6 i) inb0 inb1 _ hA.h11 (off5_eq i) (off6_eq i)
  simp only [kernelRun0_C.sl.r_14, kernelRun0_C.sl.r_2, kernelRun0_C.sl.r_8, kernelRun0_C.sl.r_21, kernelRun0_C.sl.HS4_1_1, kernelRun0_C.sl.HS2_2, kernelRun0_C.sl.r_7, kernelRun0_C.sl.r_15, kernelRun0_C.sl.v329, kernelRun0_C.sl.HS2_1, kernelRun0_C.sl.r_25, kernelRun0_C.sl.r_6, kernelRun0_C.sl.v28, kernelRun0_C.sl.HS0_1_1, kernelRun0_C.sl.r_9, kernelRun0_C.sl.v312, kernelRun0_C.sl.r_1, kernelRun0_C.sl.r_22, kernelRun0_C.sl.r_4, kernelRun0_C.sl.v219, kernelRun0_C.sl.HS1_2, kernelRun0_C.sl.r_20, kernelRun0_C.sl.v1, kernelRun0_C.sl.r_12, kernelRun0_C.sl.r_24, kernelRun0_C.sl.r_17, kernelRun0_C.sl.v32, kernelRun0_C.sl.r_18, kernelRun0_C.sl.v255, kernelRun0_C.sl.v147, kernelRun0_C.sl.r, kernelRun0_C.sl.v276, kernelRun0_C.sl.r_13, kernelRun0_C.sl.r_19, kernelRun0_C.sl.r_23, kernelRun0_C.sl.HS0_2, kernelRun0_C.sl.v30, kernelRun0_C.sl.r_16, kernelRun0_C.sl.HS1_1, kernelRun0_C.sl.HS3_1_1, kernelRun0_C.sl.r_5, kernelRun0_C.sl.v0, kernelRun0_C.sl.r_3, kernelRun0_C.sl.v31, kernelRun0_C.sl.r_10, kernelRun0_C.sl.v196, kernelRun0_C.sl.v33, kernelRun0_C.sl.r_11, kernelRun0_C.sl.v2, kernelRun0_C.sl.v264, kernelRun0_C.sl.v111, kernelRun0_C.sl.v342, kernelRun0_C.sl.v337,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← AK_next, ← AK_next, ← storeK_eq A.q A.k A.v A.d A.T hm, ← storeK_eq B.q B.k B.v B.d B.T hm]
  rfl

/-- The value gradient. -/
theorem out_C_7_eq (hc0 : ¬cond0_0 i) (hc1 : cond0_1 i)
    (hx0 : x0 = (up (pairR (rowsR (512 * (i 1).val) A.q) (rowsR (512 * (i 1).val) B.q)) : FVec Ideal S512x256 .bf16))
    (hx1 : x1 = (up (pairR A.k B.k) : FVec Ideal S4096x256 .bf16))
    (hx2 : x2 = (up (pairR A.v B.v) : FVec Ideal S4096x256 .bf16))
    (hx3 : x3 = (up (pairR (rowR fun r => A.T (512 * (i 1).val + r)) (rowR fun r => B.T (512 * (i 1).val + r))) : FVec Ideal S512x256 .f32))
    (hx4 : x4 = (up (pairR (rowsR (512 * (i 1).val) A.d) (rowsR (512 * (i 1).val) B.d)) : FVec Ideal S512x256 .bf16))
    (hs1 : xs1 = (up (pairR (AK A.q A.k A.v A.d A.T (i 1).val 0) (AK B.q B.k B.v B.d B.T (i 1).val 0)) : FVec Ideal S4096x256 .f32))
    (hs2 : xs2 = (up (pairR (AV A.q A.k A.d A.T (i 1).val 0) (AV B.q B.k B.d B.T (i 1).val 0)) : FVec Ideal S4096x256 .f32))
    :
    out0_C_7 (F := Ideal) c i arg2 harg2 arg3 harg3 arg4 harg4 arg5 harg5 arg6 harg6 arg7 harg7 arg8 harg8 arg9 harg9 arg10 harg10 arg11 harg11
      arg12 harg12 arg13 harg13 arg14 harg14 hc0 hc1 x0 x1 x2 x3 x4 xs1 xs2
      = (up (pairR (AV A.q A.k A.d A.T ((i 1).val + 1) 0) (AV B.q B.k B.d B.T ((i 1).val + 1) 0)) : FVec Ideal S4096x256 .bf16) := by
  have hm := masks_low (i 1).val
  obtain ⟨hI, hA⟩ := before_C c i arg2 harg2 arg3 harg3 arg4 harg4 arg5 harg5 arg6 harg6 arg7 harg7 arg8 harg8 arg9 harg9 arg10 harg10 arg11 harg11
      arg12 harg12 arg13 harg13 arg14 harg14 A B x0 x1 x2 x3 x4 xs1 xs2 hx0 hx1 hx2 hx3 hx4 hs1 hs2
  unfold out0_C_7 kernelRun0_C
  dsimp only
  rw [read_whole]
  have q0 := fun inb => readAt_half0_16 arg2.view (harg2.unread x0) _ _ (off := ![0, 0]) inb hI.h2 rfl
  have q1 := fun inb => readAt_half1_16 arg2.view (harg2.unread x0) _ _ (off := ![0, 128]) inb hI.h2 rfl
  have d0 := fun inb => readAt_half0_16 arg6.view (harg6.unread x4) _ _ (off := ![0, 0]) inb hI.h6 rfl
  have d1 := fun inb => readAt_half1_16 arg6.view (harg6.unread x4) _ _ (off := ![0, 128]) inb hI.h6 rfl
  have t0 := fun inb => readAt_half0 arg5.view (harg5.unread x3) _ _ (off := ![0, 0]) inb hI.h5 rfl
  have t1 := fun inb => readAt_half1 arg5.view (harg5.unread x3) _ _ (off := ![0, 128]) inb hI.h5 rfl
  have k0 := fun inb => readAt_pair0_16 arg3.view (harg3.unread x1) _ _ (off := k0_off5 i) inb hI.h3 (off5_eq i)
  have k1 := fun inb => readAt_pair1_16 arg3.view (harg3.unread x1) _ _ (off := k0_off6 i) inb hI.h3 (off6_eq i)
  have v0 := fun inb => readAt_pair0_16 arg4.view (harg4.unread x2) _ _ (off := k0_off5 i) inb hI.h4 (off5_eq i)
  have v1 := fun inb => readAt_pair1_16 arg4.view (harg4.unread x2) _ _ (off := k0_off6 i) inb hI.h4 (off6_eq i)
  have a0 := fun inb => readAt_half0 arg10.view _ _ _ (off := ![0, 0]) inb hA.h10 rfl
  have a1 := fun inb => readAt_half1 arg10.view _ _ _ (off := ![0, 128]) inb hA.h10 rfl
  have sa := fun inb0 inb1 w L => readAt_skip arg10.view arg10.view.junk (off0 := ![0, 0]) (off1 := ![0, 128]) inb0 inb1 w L rfl rfl
  have c0 := fun inb => readAt_half0 arg13.view _ _ _ (off := ![0, 0]) inb hA.h13 rfl
  have c1 := fun inb => readAt_half1 arg13.view _ _ _ (off := ![0, 128]) inb hA.h13 rfl
  have sc_ := fun inb0 inb1 w L => readAt_skip arg13.view arg13.view.junk (off0 := ![0, 0]) (off1 := ![0, 128]) inb0 inb1 w L rfl rfl
  have g0 := fun inb => readAt_half0 arg14.view _ _ _ (off := ![0, 0]) inb hA.h14 rfl
  have g1 := fun inb => readAt_half1 arg14.view _ _ _ (off := ![0, 128]) inb hA.h14 rfl
  have sg := fun inb0 inb1 w L => readAt_skip arg14.view arg14.view.junk (off0 := ![0, 0]) (off1 := ![0, 128]) inb0 inb1 w L rfl rfl
  have dk0 := fun inb => readAt_pair0 arg11.view _ _ _ (off := k0_off5 i) inb hA.h11 (off5_eq i)
  have dk1 := fun inb => readAt_pair1 arg11.view _ _ _ (off := k0_off6 i) inb hA.h11 (off6_eq i)
  have sdk := fun inb0 inb1 w L => readAt_skip arg11.view (harg11.unread xs1) (off0 := k0_off5 i) (off1 := k0_off6 i) inb0 inb1 w L (off5_eq i) (off6_eq i)
  have dv0 := fun inb => readAt_pair0 arg12.view _ _ _ (off := k0_off5 i) inb hA.h12 (off5_eq i)
  have dv1 := fun inb => readAt_pair1 arg12.view _ _ _ (off := k0_off6 i) inb hA.h12 (off6_eq i)
  have sdv := fun inb0 inb1 w L => readAt_skip arg12.view (harg12.unread xs2) (off0 := k0_off5 i) (off1 := k0_off6 i) inb0 inb1 w L (off5_eq i) (off6_eq i)
  have t2 : Scf.trips (k0_t2_loop i).lb (k0_t2_loop i).ub (k0_t2_loop i).st = 0 := trips2 i
  have f0 := fun A' B' inb0 inb1 => read_pair arg12.view (harg12.unread xs2) _ _ A' B' (off0 := k0_off5 i) (off1 := k0_off6 i) inb0 inb1 _ hA.h12 (off5_eq i) (off6_eq i)
  simp only [kernelRun0_C.sl.r_14, kernelRun0_C.sl.r_2, kernelRun0_C.sl.r_8, kernelRun0_C.sl.r_21, kernelRun0_C.sl.HS4_1_1, kernelRun0_C.sl.HS2_2, kernelRun0_C.sl.r_7, kernelRun0_C.sl.r_15, kernelRun0_C.sl.v329, kernelRun0_C.sl.HS2_1, kernelRun0_C.sl.r_25, kernelRun0_C.sl.r_6, kernelRun0_C.sl.v28, kernelRun0_C.sl.HS0_1_1, kernelRun0_C.sl.r_9, kernelRun0_C.sl.v312, kernelRun0_C.sl.r_1, kernelRun0_C.sl.r_22, kernelRun0_C.sl.r_4, kernelRun0_C.sl.v219, kernelRun0_C.sl.HS1_2, kernelRun0_C.sl.r_20, kernelRun0_C.sl.v1, kernelRun0_C.sl.r_12, kernelRun0_C.sl.r_24, kernelRun0_C.sl.r_17, kernelRun0_C.sl.v32, kernelRun0_C.sl.r_18, kernelRun0_C.sl.v255, kernelRun0_C.sl.v147, kernelRun0_C.sl.r, kernelRun0_C.sl.v276, kernelRun0_C.sl.r_13, kernelRun0_C.sl.r_19, kernelRun0_C.sl.r_23, kernelRun0_C.sl.HS0_2, kernelRun0_C.sl.v30, kernelRun0_C.sl.r_16, kernelRun0_C.sl.HS1_1, kernelRun0_C.sl.HS3_1_1, kernelRun0_C.sl.r_5, kernelRun0_C.sl.v0, kernelRun0_C.sl.r_3, kernelRun0_C.sl.v31, kernelRun0_C.sl.r_10, kernelRun0_C.sl.v196, kernelRun0_C.sl.v33, kernelRun0_C.sl.r_11, kernelRun0_C.sl.v2, kernelRun0_C.sl.v264, kernelRun0_C.sl.v111, kernelRun0_C.sl.v342, kernelRun0_C.sl.v337,
    k0_pay1, k0_pay2, k0_pay3, k0_pay4, k0_pay5, k0_pay27, k0_pay28, k0_pay29, k0_pay30, k0_pay31, k0_pay32, k0_pay33, k0_pay34, k0_pay35, k0_pay36, k0_pay37, k0_pay38, k0_pay39, k0_pay40, k0_pay43, k0_pay44, k0_pay133, k0_pay134, k0_pay135, k0_pay136, k0_pay137, k0_pay138, k0_pay139, k0_pay141, k0_pay143, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay142, t2, pb_k0_t2.eq_1, List.nil_append, View.readCov, readAt_whole, f0,
    q0, q1, d0, d1, t0, t1, k0, k1, v0, v1, a0, a1, c0, c1, g0, g1, dk0, dk1, dv0, dv1, sa, sc_, sg, sdk, sdv, low_up, low_up',
    ↓sideV_def, ↓stackV_def, ↓pairV_def, slice_up, truncf_up, extf_up, shapeCast_up, broadcastTo_up, stack_up, side_up, pair_up, runs_up, runs1_up, nt_up, nn_up, tn_up,
    tri2_up, tri_up, zero_up, one_up, sc_up, addf_up, subf_up, mulf_up, minimumf_up, absf_up, exp_up, log_up, lsig_def,
    blkI_0, blkI_1, blkI_2, blkI_3, blkX_0, blkX_1, blkX_2, blkX_3, inc_0, inc_step0, inc_step1, inc_step2, inc_end,
    exc_0, exc_step0, exc_step1, exc_step2, exc_end, sub_row, side_cut]
  rw [← AV_next, ← AV_next, ← storeV_eq A.q A.k A.d A.T hm, ← storeV_eq B.q B.k B.d B.T hm]
  rfl

end Cert.KernelIdeal.Reals

end
-- ==== Proof.Sweep.lean ====
/- The kernel's results over the reals: the blocks a grid point reads, what each point leaves over what the point before
   left, and the three results at an index. -/
module

public import proofs.«01_k».proof.Proof.TileA
public import proofs.«01_k».proof.Proof.TileB
public import proofs.«01_k».proof.Proof.TileC
public import proofs.«01_k».proof.Proof.Gen.KernelIdeal.Value

@[expose] public section

set_option maxRecDepth 16384

noncomputable section

namespace Cert.KernelIdeal.Reals

open Idealize.ShloMosaic Idealize.ShloMosaic.TcCoe Idealize.SL.Sem Cert.KernelIdeal Cert.KernelIdeal.Gen Cert.KernelIdeal.Value

/-- Head `h` of the packed queries, keys and values `X`, of the cotangent `D` and of the row sums `T`. -/
def headOf (X D : ℕ → ℕ → ℝ) (T : ℕ → ℕ → ℝ) (h : ℕ) : Head where
  q := fun t x => X t (128 * h + x)
  k := fun t x => X t (2048 + 128 * h + x)
  v := fun t x => X t (4096 + 128 * h + x)
  d := fun t x => D t (128 * h + x)
  T := fun t => T h t

variable (m : (ℓ : Loc nD τ sig) → Buf (Elt Ideal) ℓ) (c : Dev nD) (X D T : ℕ → ℕ → ℝ)

/-- What the call's three arrays hold. -/
structure Fed : Prop where
  x : V m c main_arg0 = (up X : FVec Ideal S4096x6144 .bf16)
  d : V m c main_arg1 = (up D : FVec Ideal S4096x2048 .bf16)
  t : V m c main_v23 = (up fun r x => T (x / 128) r : FVec Ideal S4096x2048 .f32)

/-- Where the blocks lie: point `8·p + n` reads query tile `n` of head pair `p`. -/
theorem places : ∀ t : Fin cfg0.N,
    (grid0.coords t 0).val = t.val / 8 ∧ (grid0.coords t 1).val = t.val % 8 ∧
    win0_0.index t (0 : Fin 2) = t.val % 8 ∧ win0_0.index t (1 : Fin 2) = t.val / 8 ∧
    win0_1.index t (0 : Fin 2) = 0 ∧ win0_1.index t (1 : Fin 2) = 8 + t.val / 8 ∧
    win0_2.index t (0 : Fin 2) = 0 ∧ win0_2.index t (1 : Fin 2) = 16 + t.val / 8 ∧
    win0_3.index t (0 : Fin 2) = t.val % 8 ∧ win0_3.index t (1 : Fin 2) = t.val / 8 ∧
    win0_4.index t (0 : Fin 2) = t.val % 8 ∧ win0_4.index t (1 : Fin 2) = t.val / 8 :=
  (by decide +kernel : ∀ t : Fin grid0.N, _)

variable {m c X D T} (hF : Fed m c X D T) (t : Fin cfg0.N)
include hF

theorem blk0 : iblk m c 0 t = (up (pairR (rowsR (512 * (grid0.coords t 1).val) (headOf X D T (2 * (t.val / 8))).q)
    (rowsR (512 * (grid0.coords t 1).val) (headOf X D T (2 * (t.val / 8) + 1)).q)) : FVec Ideal S512x256 .bf16) := by
  obtain ⟨e0, e1, a0, b0, a1, b1, a2, b2, a3, b3, a4, b4⟩ := places t
  funext y
  refine (congrFun hF.x _).trans (congrArg (Real.toEReal) ?_)
  show X (win0_0.index t (0 : Fin 2) * 512 + 1 * (y 0).val) (win0_0.index t (1 : Fin 2) * 256 + 1 * (y 1).val) = _
  rw [a0, b0, e1]
  unfold pairR rowsR headOf
  dsimp only
  split
  · congr 1 <;> omega
  · congr 1 <;> omega

theorem blk1 : iblk m c 1 t = (up (pairR (headOf X D T (2 * (t.val / 8))).k (headOf X D T (2 * (t.val / 8) + 1)).k) : FVec Ideal S4096x256 .bf16) := by
  obtain ⟨e0, e1, a0, b0, a1, b1, a2, b2, a3, b3, a4, b4⟩ := places t
  funext y
  refine (congrFun hF.x _).trans (congrArg (Real.toEReal) ?_)
  show X (win0_1.index t (0 : Fin 2) * 4096 + 1 * (y 0).val) (win0_1.index t (1 : Fin 2) * 256 + 1 * (y 1).val) = _
  rw [a1, b1]
  unfold pairR headOf
  dsimp only
  split
  · congr 1 <;> omega
  · congr 1 <;> omega

theorem blk2 : iblk m c 2 t = (up (pairR (headOf X D T (2 * (t.val / 8))).v (headOf X D T (2 * (t.val / 8) + 1)).v) : FVec Ideal S4096x256 .bf16) := by
  obtain ⟨e0, e1, a0, b0, a1, b1, a2, b2, a3, b3, a4, b4⟩ := places t
  funext y
  refine (congrFun hF.x _).trans (congrArg (Real.toEReal) ?_)
  show X (win0_2.index t (0 : Fin 2) * 4096 + 1 * (y 0).val) (win0_2.index t (1 : Fin 2) * 256 + 1 * (y 1).val) = _
  rw [a2, b2]
  unfold pairR headOf
  dsimp only
  split
  · congr 1 <;> omega
  · congr 1 <;> omega

theorem blk3 : iblk m c 3 t = (up (pairR (rowR fun r => (headOf X D T (2 * (t.val / 8))).T (512 * (grid0.coords t 1).val + r))
    (rowR fun r => (headOf X D T (2 * (t.val / 8) + 1)).T (512 * (grid0.coords t 1).val + r))) : FVec Ideal S512x256 .f32) := by
  obtain ⟨e0, e1, a0, b0, a1, b1, a2, b2, a3, b3, a4, b4⟩ := places t
  funext y
  have hy : (y 1).val < 256 := (y 1).isLt
  refine (congrFun hF.t _).trans (congrArg (Real.toEReal) ?_)
  show T ((win0_3.index t (1 : Fin 2) * 256 + 1 * (y 1).val) / 128) (win0_3.index t (0 : Fin 2) * 512 + 1 * (y 0).val) = _
  rw [a3, b3, e1]
  unfold pairR rowR headOf
  dsimp only
  split
  · congr 1 <;> omega
  · congr 1 <;> omega

theorem blk4 : iblk m c 4 t = (up (pairR (rowsR (512 * (grid0.coords t 1).val) (headOf X D T (2 * (t.val / 8))).d)
    (rowsR (512 * (grid0.coords t 1).val) (headOf X D T (2 * (t.val / 8) + 1)).d)) : FVec Ideal S512x256 .bf16) := by
  obtain ⟨e0, e1, a0, b0, a1, b1, a2, b2, a3, b3, a4, b4⟩ := places t
  funext y
  refine (congrFun hF.d _).trans (congrArg (Real.toEReal) ?_)
  show D (win0_4.index t (0 : Fin 2) * 512 + 1 * (y 0).val) (win0_4.index t (1 : Fin 2) * 256 + 1 * (y 1).val) = _
  rw [a4, b4, e1]
  unfold pairR rowsR headOf
  dsimp only
  split
  · congr 1 <;> omega
  · congr 1 <;> omega
omit hF

/-- The key gradients of a head's two accumulators after `n` query tiles, and its value gradients. -/
def keysAt (A : Head) (n : ℕ) : ℕ → ℕ → ℝ := AK A.q A.k A.v A.d A.T n 0
def valsAt (A : Head) (n : ℕ) : ℕ → ℕ → ℝ := AV A.q A.k A.d A.T n 0
/-- The query gradient of tile `n`. -/
def qrysAt (A : Head) (n : ℕ) : ℕ → ℕ → ℝ := AQ A.q A.k A.v A.d A.T n (n + 1)

/-- After point `8·p + n` the carried accumulators hold the sums over query tiles `0 … n`. -/
def Carried (S : Vec Ideal S4096x256 .f32 × Vec Ideal S4096x256 .f32) (A B : Head) (n : ℕ) : Prop :=
  S.1 = (up (pairR (keysAt A n) (keysAt B n)) : FVec Ideal S4096x256 .f32) ∧
  S.2 = (up (pairR (valsAt A n) (valsAt B n)) : FVec Ideal S4096x256 .f32)

include hF
theorem step_A (h0 : t.val % 8 = 0) :
    (outsAt0 m c t.val t.isLt).1 = (up (mulR (pairR (qrysAt (headOf X D T (2 * (t.val / 8))) (t.val % 8))
      (qrysAt (headOf X D T (2 * (t.val / 8) + 1)) (t.val % 8))) (conR sc)) : FVec Ideal S512x256 .bf16) ∧
    Carried (outsAt0 m c t.val t.isLt).2.2.2 (headOf X D T (2 * (t.val / 8))) (headOf X D T (2 * (t.val / 8) + 1)) (t.val % 8 + 1) := by
  have e := (places t).2.1
  have h1 : ¬ t.val % 8 = 7 := by omega
  rw [← e, outsAt0_A m c t h0 h1]
  unfold Carried
  dsimp only
  have h0' : (grid0.coords t 1).val = 0 := e.trans h0
  refine ⟨?_, ?_, ?_⟩
  · exact out_A_5_eq _ _ _ _ _ _ _ _ _ _ _ _ _ _ _ _ _ _ _ _ _ _ _ _ _ _ _ _ _ _ _ _ _ _ _ _ _ h0' (blk0 hF t) (blk1 hF t) (blk2 hF t) (blk3 hF t) (blk4 hF t)
  · unfold sout0_A_1
    exact sout_A_1_eq _ _ _ _ _ _ _ _ _ _ _ _ _ _ _ _ _ _ _ _ _ _ _ _ _ _ _ _ _ _ _ _ _ _ _ _ _ h0' (blk0 hF t) (blk1 hF t) (blk2 hF t) (blk3 hF t) (blk4 hF t)
  · unfold sout0_A_2
    exact sout_A_2_eq _ _ _ _ _ _ _ _ _ _ _ _ _ _ _ _ _ _ _ _ _ _ _ _ _ _ _ _ _ _ _ _ _ _ _ _ _ h0' (blk0 hF t) (blk1 hF t) (blk2 hF t) (blk3 hF t) (blk4 hF t)

theorem step_B (h0 : ¬ t.val % 8 = 0) (h1 : ¬ t.val % 8 = 7)
    (hS : Carried (outsAt0 m c (t.val - 1) (Nat.lt_of_le_of_lt (Nat.sub_le _ _) t.isLt)).2.2.2 (headOf X D T (2 * (t.val / 8)))
      (headOf X D T (2 * (t.val / 8) + 1)) (t.val % 8)) :
    (outsAt0 m c t.val t.isLt).1 = (up (mulR (pairR (qrysAt (headOf X D T (2 * (t.val / 8))) (t.val % 8))
      (qrysAt (headOf X D T (2 * (t.val / 8) + 1)) (t.val % 8))) (conR sc)) : FVec Ideal S512x256 .bf16) ∧
    Carried (outsAt0 m c t.val t.isLt).2.2.2 (headOf X D T (2 * (t.val / 8))) (headOf X D T (2 * (t.val / 8) + 1)) (t.val % 8 + 1) := by
  have e := (places t).2.1
  unfold Carried at hS
  rw [← e] at hS ⊢
  obtain ⟨s1, s2⟩ := hS
  rw [outsAt0_B m c t h0 h1]
  unfold Carried
  dsimp only
  refine ⟨?_, ?_, ?_⟩
  · exact out_B_5_eq _ _ _ _ _ _ _ _ _ _ _ _ _ _ _ _ _ _ _ _ _ _ _ _ _ _ _ _ _ _ _ _ _ _ _ _ _ _ _ (blk0 hF t) (blk1 hF t) (blk2 hF t) (blk3 hF t) (blk4 hF t) s1 s2
  · exact sout_B_1_eq _ _ _ _ _ _ _ _ _ _ _ _ _ _ _ _ _ _ _ _ _ _ _ _ _ _ _ _ _ _ _ _ _ _ _ _ _ _ _ (blk0 hF t) (blk1 hF t) (blk2 hF t) (blk3 hF t) (blk4 hF t) s1 s2
  · exact sout_B_2_eq _ _ _ _ _ _ _ _ _ _ _ _ _ _ _ _ _ _ _ _ _ _ _ _ _ _ _ _ _ _ _ _ _ _ _ _ _ _ _ (blk0 hF t) (blk1 hF t) (blk2 hF t) (blk3 hF t) (blk4 hF t) s1 s2

theorem step_C (h0 : ¬ t.val % 8 = 0) (h1 : t.val % 8 = 7)
    (hS : Carried (outsAt0 m c (t.val - 1) (Nat.lt_of_le_of_lt (Nat.sub_le _ _) t.isLt)).2.2.2 (headOf X D T (2 * (t.val / 8)))
      (headOf X D T (2 * (t.val / 8) + 1)) (t.val % 8)) :
    (outsAt0 m c t.val t.isLt).1 = (up (mulR (pairR (qrysAt (headOf X D T (2 * (t.val / 8))) (t.val % 8))
      (qrysAt (headOf X D T (2 * (t.val / 8) + 1)) (t.val % 8))) (conR sc)) : FVec Ideal S512x256 .bf16) ∧
    (outsAt0 m c t.val t.isLt).2.1 = (up (mulR (pairR (keysAt (headOf X D T (2 * (t.val / 8))) (t.val % 8 + 1))
      (keysAt (headOf X D T (2 * (t.val / 8) + 1)) (t.val % 8 + 1))) (conR sc)) : FVec Ideal S4096x256 .bf16) ∧
    (outsAt0 m c t.val t.isLt).2.2.1 = (up (pairR (valsAt (headOf X D T (2 * (t.val / 8))) (t.val % 8 + 1))
      (valsAt (headOf X D T (2 * (t.val / 8) + 1)) (t.val % 8 + 1))) : FVec Ideal S4096x256 .bf16) := by
  have e := (places t).2.1
  unfold Carried at hS
  rw [← e] at hS ⊢
  obtain ⟨s1, s2⟩ := hS
  rw [outsAt0_C m c t h0 h1]
  dsimp only
  refine ⟨?_, ?_, ?_⟩
  · exact out_C_5_eq _ _ _ _ _ _ _ _ _ _ _ _ _ _ _ _ _ _ _ _ _ _ _ _ _ _ _ _ _ _ _ _ _ _ _ _ _ _ _ (blk0 hF t) (blk1 hF t) (blk2 hF t) (blk3 hF t) (blk4 hF t) s1 s2
  · exact out_C_6_eq _ _ _ _ _ _ _ _ _ _ _ _ _ _ _ _ _ _ _ _ _ _ _ _ _ _ _ _ _ _ _ _ _ _ _ _ _ _ _ (blk0 hF t) (blk1 hF t) (blk2 hF t) (blk3 hF t) (blk4 hF t) s1 s2
  · exact out_C_7_eq _ _ _ _ _ _ _ _ _ _ _ _ _ _ _ _ _ _ _ _ _ _ _ _ _ _ _ _ _ _ _ _ _ _ _ _ _ _ _ (blk0 hF t) (blk1 hF t) (blk2 hF t) (blk3 hF t) (blk4 hF t) s1 s2
omit t

/-- The carried accumulators, tile by tile. -/
theorem carried (p : ℕ) (n : ℕ) (hn : n < 7) (h : 8 * p + n < cfg0.N) :
    Carried (outsAt0 m c (8 * p + n) h).2.2.2 (headOf X D T (2 * p)) (headOf X D T (2 * p + 1)) (n + 1) := by
  induction n with
  | zero =>
    have := (step_A hF ⟨8 * p + 0, h⟩ (by show (8 * p + 0) % 8 = 0; omega)).2
    dsimp only at this
    rwa [show (8 * p + 0) / 8 = p by omega, show (8 * p + 0) % 8 = 0 by omega] at this
  | succ n ih =>
    have := (step_B hF ⟨8 * p + (n + 1), h⟩ (by show ¬ (8 * p + (n + 1)) % 8 = 0; omega) (by show ¬ (8 * p + (n + 1)) % 8 = 7; omega) (by
      dsimp only
      rw [show (8 * p + (n + 1)) / 8 = p by omega, show (8 * p + (n + 1)) % 8 = n + 1 by omega]
      exact ih (by omega) (by omega))).2
    dsimp only at this
    rwa [show (8 * p + (n + 1)) / 8 = p by omega, show (8 * p + (n + 1)) % 8 = n + 1 by omega] at this

/-- What the point before left, at a point past the first of its head pair. -/
theorem carried_before (t : Fin cfg0.N) (h0 : ¬ t.val % 8 = 0) :
    Carried (outsAt0 m c (t.val - 1) (Nat.lt_of_le_of_lt (Nat.sub_le _ _) t.isLt)).2.2.2 (headOf X D T (2 * (t.val / 8)))
      (headOf X D T (2 * (t.val / 8) + 1)) (t.val % 8) := by
  have key : ∀ j (hj : j < cfg0.N), j = 8 * (t.val / 8) + (t.val % 8 - 1) → Carried (outsAt0 m c j hj).2.2.2 (headOf X D T (2 * (t.val / 8)))
      (headOf X D T (2 * (t.val / 8) + 1)) (t.val % 8) := by
    intro j hj e
    subst e
    have := carried hF (t.val / 8) (t.val % 8 - 1) (by omega) hj
    rwa [show t.val % 8 - 1 + 1 = t.val % 8 by omega] at this
  exact key _ _ (by omega)

theorem first (t : Fin cfg0.N) : (outsAt0 m c t.val t.isLt).1 = (up (mulR (pairR (qrysAt (headOf X D T (2 * (t.val / 8))) (t.val % 8))
      (qrysAt (headOf X D T (2 * (t.val / 8) + 1)) (t.val % 8))) (conR sc)) : FVec Ideal S512x256 .bf16) := by
  by_cases h0 : t.val % 8 = 0
  · exact (step_A hF t h0).1
  · by_cases h1 : t.val % 8 = 7
    · exact (step_C hF t h0 h1 (carried_before hF t h0)).1
    · exact (step_B hF t h0 h1 (carried_before hF t h0)).1
omit hF

/-- The gradients of a head's queries, keys and values. -/
def dqS (A : Head) (t x : ℕ) : ℝ := (∑ s ∈ Finset.range 4096, dzS A.q A.k A.v A.d A.T t s * A.k s x) * sc
def dkS (A : Head) (s x : ℕ) : ℝ := (∑ t ∈ Finset.range 4096, dzS A.q A.k A.v A.d A.T t s * A.q t x) * sc
def dvS (A : Head) (s x : ℕ) : ℝ := ∑ t ∈ Finset.range 4096, wS A.q A.k A.T t s * A.d t x

include hF
/-- The first result: the queries' gradient. -/
theorem out0_eq : G5 m c = (up fun t x => dqS (headOf X D T (x / 128)) t (x % 128) : FVec Ideal S4096x2048 .bf16) := by
  funext i
  have h0 : (i 0).val < 4096 := (i 0).isLt
  have h1 : (i 1).val < 2048 := (i 1).isLt
  have hp : pt5Of i < cfg0.N := lt_of_lt_of_eq (by show 1 * ((i 0).val / 512 - 0) + 8 * ((i 1).val / 256 - 0) < 64; omega) N_0.symm
  unfold G5
  rw [dif_pos hp, ← outsAt0_sweep m c _ hp, first hF ⟨_, hp⟩]
  refine congrArg (Real.toEReal) ?_
  have e1 : pt5Of i / 8 = (i 1).val / 256 := by show (1 * ((i 0).val / 512 - 0) + 8 * ((i 1).val / 256 - 0)) / 8 = _; omega
  have e2 : pt5Of i % 8 = (i 0).val / 512 := by show (1 * ((i 0).val / 512 - 0) + 8 * ((i 1).val / 256 - 0)) % 8 = _; omega
  dsimp only
  rw [e1, e2]
  show pairR _ _ ((i 0).val % 512) ((i 1).val % 256) * sc = _
  unfold dqS
  refine congrArg (· * sc) ?_
  unfold pairR qrysAt
  split
  · rw [AQ_full _ _ _ _ _ _ (by omega) _ _ (by omega), show 512 * ((i 0).val / 512) + (i 0).val % 512 = (i 0).val by omega,
      show 2 * ((i 1).val / 256) = (i 1).val / 128 by omega, show (i 1).val % 256 = (i 1).val % 128 by omega]
  · rw [AQ_full _ _ _ _ _ _ (by omega) _ _ (by omega), show 512 * ((i 0).val / 512) + (i 0).val % 512 = (i 0).val by omega,
      show 2 * ((i 1).val / 256) + 1 = (i 1).val / 128 by omega, show (i 1).val % 256 - 128 = (i 1).val % 128 by omega]

/-- The second: the keys' gradient. -/
theorem out1_eq : G6 m c = (up fun t x => dkS (headOf X D T (x / 128)) t (x % 128) : FVec Ideal S4096x2048 .bf16) := by
  funext i
  have h0 : (i 0).val < 4096 := (i 0).isLt
  have h1 : (i 1).val < 2048 := (i 1).isLt
  have e : pt6Of i = 8 * (8 * ((i 0).val / 4096 - 0) + 1 * ((i 1).val / 256 - 0)) + 7 := rfl
  have hp : pt6Of i < cfg0.N := lt_of_lt_of_eq (by rw [e]; omega) N_0.symm
  have e1 : pt6Of i / 8 = (i 1).val / 256 := by rw [e]; omega
  have e2 : pt6Of i % 8 = 7 := by rw [e]; omega
  unfold G6
  rw [dif_pos hp, ← outsAt0_sweep m c _ hp,
    (step_C hF ⟨_, hp⟩ (by show ¬ pt6Of i % 8 = 0; omega) e2 (carried_before hF ⟨_, hp⟩ (by show ¬ pt6Of i % 8 = 0; omega))).2.1]
  refine congrArg (Real.toEReal) ?_
  dsimp only
  rw [e1, e2]
  show pairR _ _ ((i 0).val % 4096) ((i 1).val % 256) * sc = _
  unfold dkS
  refine congrArg (· * sc) ?_
  unfold pairR keysAt AK
  rw [if_neg (show ¬ (i 0).val % 4096 < 512 * 0 by omega), if_neg (show ¬ (i 0).val % 4096 < 512 * 0 by omega), show (i 0).val % 4096 = (i 0).val by omega]
  split
  · rw [add_zero, show 2 * ((i 1).val / 256) = (i 1).val / 128 by omega, show (i 1).val % 256 = (i 1).val % 128 by omega]
  · rw [add_zero, show 2 * ((i 1).val / 256) + 1 = (i 1).val / 128 by omega, show (i 1).val % 256 - 128 = (i 1).val % 128 by omega]

/-- The third: the values' gradient. -/
theorem out2_eq : G7 m c = (up fun t x => dvS (headOf X D T (x / 128)) t (x % 128) : FVec Ideal S4096x2048 .bf16) := by
  funext i
  have h0 : (i 0).val < 4096 := (i 0).isLt
  have h1 : (i 1).val < 2048 := (i 1).isLt
  have e : pt7Of i = 8 * (8 * ((i 0).val / 4096 - 0) + 1 * ((i 1).val / 256 - 0)) + 7 := rfl
  have hp : pt7Of i < cfg0.N := lt_of_lt_of_eq (by rw [e]; omega) N_0.symm
  have e1 : pt7Of i / 8 = (i 1).val / 256 := by rw [e]; omega
  have e2 : pt7Of i % 8 = 7 := by rw [e]; omega
  unfold G7
  rw [dif_pos hp, ← outsAt0_sweep m c _ hp,
    (step_C hF ⟨_, hp⟩ (by show ¬ pt7Of i % 8 = 0; omega) e2 (carried_before hF ⟨_, hp⟩ (by show ¬ pt7Of i % 8 = 0; omega))).2.2]
  refine congrArg (Real.toEReal) ?_
  dsimp only
  rw [e1, e2]
  show pairR _ _ ((i 0).val % 4096) ((i 1).val % 256) = _
  unfold dvS
  unfold pairR valsAt AV
  rw [if_neg (show ¬ (i 0).val % 4096 < 512 * 0 by omega), if_neg (show ¬ (i 0).val % 4096 < 512 * 0 by omega), show (i 0).val % 4096 = (i 0).val by omega]
  split
  · rw [add_zero, show 2 * ((i 1).val / 256) = (i 1).val / 128 by omega, show (i 1).val % 256 = (i 1).val % 128 by omega]
  · rw [add_zero, show 2 * ((i 1).val / 256) + 1 = (i 1).val / 128 by omega, show (i 1).val % 256 - 128 = (i 1).val % 128 by omega]

end Cert.KernelIdeal.Reals

end
-- ==== Proof.Formula.lean ====
/- The plain formula read over the reals: its queries, keys and values, its logits, weights and cotangents head by head, and
   its three results, the same functions of the arguments as the results of the kernel. -/
module

public import proofs.«01_k».proof.Proof.Cube
public import proofs.«01_k».proof.Proof.Sweep
public import proofs.«01_k».proof.Proof.Gen.ReferenceIdeal.Read

@[expose] public section

set_option maxRecDepth 16384

noncomputable section

namespace Cert.KernelIdeal.Reals

open Idealize.ShloMosaic Idealize.SL.Sem
open Cert.ReferenceIdeal Cert.ReferenceIdeal.Gen Cert.ReferenceIdeal.Read

variable (X D : ℕ → ℕ → ℝ)

/-- The queries, keys, values and cotangents of head `h`. -/
def qH (h t x : ℕ) : ℝ := X t (128 * h + x)
def kH (h t x : ℕ) : ℝ := X t (2048 + 128 * h + x)
def vH (h t x : ℕ) : ℝ := X t (4096 + 128 * h + x)
def dH (h t x : ℕ) : ℝ := D t (128 * h + x)

/-- The arguments as arrays. -/
abbrev aX : FVec Ideal S4096x6144 .bf16 := up X
abbrev aD : FVec Ideal S4096x2048 .bf16 := up D

theorem ref_q : val_main_v5 (F := Ideal) (aX X) = (up3 (qH X) : FVec Ideal S16x4096x128 .f32) := by
  funext i
  have h0 : (i 0).val < 16 := (i 0).isLt
  have h1 : (i 1).val < 4096 := (i 1).isLt
  have h2 : (i 2).val < 128 := (i 2).isLt
  rw [val_main_v5_apply, val_main_v4_apply, val_main_v1_apply, val_main_v0_apply]
  show ((X _ _ : ℝ) : EReal) = ((X _ _ : ℝ) : EReal)
  congr 2
  · show (((i 1).val * 16 + (i 0).val) * 128 + (i 2).val) / 2048 = _; omega
  · show (((i 1).val * 16 + (i 0).val) * 128 + (i 2).val) % 2048 = _; omega

theorem ref_k : val_main_v7 (F := Ideal) (aX X) = (up3 (kH X) : FVec Ideal S16x4096x128 .f32) := by
  funext i
  have h0 : (i 0).val < 16 := (i 0).isLt
  have h1 : (i 1).val < 4096 := (i 1).isLt
  have h2 : (i 2).val < 128 := (i 2).isLt
  rw [val_main_v7_apply, val_main_v6_apply, val_main_v2_apply, val_main_v0_apply]
  show ((X _ _ : ℝ) : EReal) = ((X _ _ : ℝ) : EReal)
  congr 2
  · show (((i 1).val * 16 + (i 0).val) * 128 + (i 2).val) / 2048 = _; omega
  · show 2048 + (((i 1).val * 16 + (i 0).val) * 128 + (i 2).val) % 2048 = _; omega

theorem ref_v : val_main_v9 (F := Ideal) (aX X) = (up3 (vH X) : FVec Ideal S16x4096x128 .f32) := by
  funext i
  have h0 : (i 0).val < 16 := (i 0).isLt
  have h1 : (i 1).val < 4096 := (i 1).isLt
  have h2 : (i 2).val < 128 := (i 2).isLt
  rw [val_main_v9_apply, val_main_v8_apply, val_main_v3_apply, val_main_v0_apply]
  show ((X _ _ : ℝ) : EReal) = ((X _ _ : ℝ) : EReal)
  congr 2
  · show (((i 1).val * 16 + (i 0).val) * 128 + (i 2).val) / 2048 = _; omega
  · show 4096 + (((i 1).val * 16 + (i 0).val) * 128 + (i 2).val) % 2048 = _; omega

theorem ref_d : val_main_v33 (F := Ideal) (aD D) = (up3 (dH D) : FVec Ideal S16x4096x128 .f32) := by
  funext i
  have h0 : (i 0).val < 16 := (i 0).isLt
  have h1 : (i 1).val < 4096 := (i 1).isLt
  have h2 : (i 2).val < 128 := (i 2).isLt
  rw [val_main_v33_apply, val_main_v32_apply, val_main_v31_apply]
  show ((D _ _ : ℝ) : EReal) = ((D _ _ : ℝ) : EReal)
  congr 2
  · show (((i 1).val * 16 + (i 0).val) * 128 + (i 2).val) / 2048 = _; omega
  · show (((i 1).val * 16 + (i 0).val) * 128 + (i 2).val) % 2048 = _; omega

/-- The logits. -/
def zH (h t s : ℕ) : ℝ := zS (qH X h) (kH X h) t s

theorem ref_z : val_main_v12 (F := Ideal) (aX X) = (up3 (zH X) : FVec Ideal S16x4096x4096 .f32) := by
  have e : val_main_v10 (F := Ideal) (aX X)
      = (up3 fun h t s => ∑ x ∈ Finset.range 128, qH X h t x * kH X h s x : FVec Ideal S16x4096x4096 .f32) := by
    funext i
    rw [val_main_v10_apply, ref_q, ref_k]
    simp only [up3, coe_sum, Finset.sum_range, EReal.coe_mul]
  unfold val_main_v12 val_main_v11 val_main_cst
  rw [e, con_sc, mulf_up3]
  rfl

/-- The mask: keys before the query. -/
theorem slt_mask (s t : ℕ) (hs : s < 4096) (ht : t < 4096) :
    IntOp.cmpi .slt (BitVec.ofNat 32 s) (BitVec.ofNat 32 t) = if s < t then 1#1 else 0#1 := by
  have e : ∀ n, n < 4096 → (BitVec.ofNat 32 n).toInt = n := fun n hn => by
    rw [BitVec.toInt_eq_toNat_of_lt (by rw [BitVec.toNat_ofNat]; omega), BitVec.toNat_ofNat]; omega
  simp only [IntOp.cmpi, BitVec.slt, e s hs, e t ht]
  by_cases h : s < t <;> simp [h]

theorem ref_mask (f g : ℕ → ℕ → ℕ → ℝ) :
    select (val_main_v21_1 (F := Ideal)) (up3 f : FVec Ideal S16x4096x4096 .f32) (up3 g)
      = up3 fun h t s => if s < t then f h t s else g h t s := by
  funext i
  have h1 : (i 1).val < 4096 := (i 1).isLt
  have h2 : (i 2).val < 4096 := (i 2).isLt
  show Scalar.select (val_main_v21_1 (F := Ideal) i) _ _ = _
  rw [val_main_v21_1_apply, val_main_v18_apply, val_main_v16_apply, val_main_v14_apply, val_main_v17_apply,
    val_main_v15_apply, val_main_v13_apply, val_main_v13_apply]
  show Scalar.select (IntOp.cmpi .slt (BitVec.ofNat 32 (i 2).val) (BitVec.ofNat 32 (i 1).val)) _ _ = _
  rw [slt_mask _ _ h2 h1]
  by_cases h : (i 2).val < (i 1).val <;> simp [h, Scalar.select, up3]

theorem ref_mask' (f g : ℕ → ℕ → ℕ → ℝ) :
    select (val_main_v27_1 (F := Ideal)) (up3 f : FVec Ideal S16x4096x4096 .f32) (up3 g)
      = up3 fun h t s => if s < t then f h t s else g h t s := ref_mask f g

/-! ## The logarithm of the logistic function -/

/-- The softplus. -/
def spR (y : ℝ) : ℝ := max y 0 + Real.log (1 + Real.exp (-|y|))

theorem ref_sp0 : val_main_call0_v1_0 (F := Ideal) (aX X)
    = (up3 fun h t s => spR (zH X h t s) : FVec Ideal S16x4096x4096 .f32) := by
  unfold val_main_call0_v1_0 val_main_call0_call0_v4 val_main_call0_call0_v11 val_main_call0_call0_v1 val_main_call0_call0_v10
    val_main_call0_call0_v9 val_main_call0_call0_v8 val_main_call0_call0_v7 val_main_call0_call0_v3 val_main_call0_call0_v0
    val_main_call0_call0_v2 val_main_call0_call0_cst val_main_call0_v0 val_main_v19
  simp only [ref_z, con_zero, negf_up3, subf_up3, une_up3, absf_up3, exp_up3, log1p_up3, maximumf_up3, addf_up3, neg_neg, sub_zero]
  rfl

theorem ref_sp3 : val_main_call3_v1_0 (F := Ideal) (aX X)
    = (up3 fun h t s => spR (- zH X h t s) : FVec Ideal S16x4096x4096 .f32) := by
  unfold val_main_call3_v1_0 val_main_call3_call0_v4 val_main_call3_call0_v11 val_main_call3_call0_v1 val_main_call3_call0_v10
    val_main_call3_call0_v9 val_main_call3_call0_v8 val_main_call3_call0_v7 val_main_call3_call0_v3 val_main_call3_call0_v0
    val_main_call3_call0_v2 val_main_call3_call0_cst val_main_call3_v0
  simp only [ref_z, con_zero, negf_up3, subf_up3, une_up3, absf_up3, exp_up3, log1p_up3, maximumf_up3, addf_up3, sub_zero]
  rfl

theorem ref_sg0 : val_main_v20_1 (F := Ideal) (aX X)
    = (up3 fun h t s => Real.exp (zH X h t s - spR (zH X h t s)) : FVec Ideal S16x4096x4096 .f32) := by
  unfold val_main_v20_1 val_main_call0_call0_v21 val_main_call0_call0_v16 val_main_call0_call0_v14 val_main_call0_call0_v13
    val_main_call0_call0_cst_0 val_main_call0_call0_v20 val_main_call0_call0_v18 val_main_call0_call0_v17
    val_main_call0_call0_cst_2 val_main_call0_v0 val_main_v19
  simp only [ref_sp0, ref_z, negf_up3, con_inf, oeq_up3, subf_up3, exp_up3, neg_neg]

theorem ref_sg3 : val_main_v24_1 (F := Ideal) (aX X)
    = (up3 fun h t s => Real.exp (- zH X h t s - spR (- zH X h t s)) : FVec Ideal S16x4096x4096 .f32) := by
  unfold val_main_v24_1 val_main_call3_call0_v21 val_main_call3_call0_v16 val_main_call3_call0_v14 val_main_call3_call0_v13
    val_main_call3_call0_cst_0 val_main_call3_call0_v20 val_main_call3_call0_v18 val_main_call3_call0_v17
    val_main_call3_call0_cst_2 val_main_call3_v0
  simp only [ref_sp3, ref_z, negf_up3, con_inf, oeq_up3, subf_up3, exp_up3]

/-! ## The weights -/

/-- The logarithm of one minus the logistic function, zero where the mask is. -/
theorem ref_ln : val_main_v21_0 (F := Ideal) (aX X)
    = (up3 fun h t s => if s < t then - spR (zH X h t s) else 0 : FVec Ideal S16x4096x4096 .f32) := by
  unfold val_main_v21_0 val_main_v20_0 val_main_call1_v2 val_main_call1_v0 val_main_cst_0
  simp only [id, ref_sp0, negf_up3, con_zero, ref_mask]

/-- The weights before the mask. -/
def eH (h t s : ℕ) : ℝ :=
  Real.exp (- spR (- zH X h t s) + (∑ i ∈ Finset.range 4096, (if i < t then - spR (zH X h t i) else 0)
    - ∑ i ∈ Finset.range s, (if i < t then - spR (zH X h t i) else 0) - (if s < t then - spR (zH X h t s) else 0)))

theorem zero_scalar : broadcastInDim S_ ![] bcast_S_S_ (constant (F := Ideal) S_ .f32 0x00000000#32) = fun _ => ((0 : ℝ) : EReal) := by
  funext i; simp [broadcastInDim, constant]

theorem ref_e : val_main_v26 (F := Ideal) (aX X) = (up3 (eH X) : FVec Ideal S16x4096x4096 .f32) := by
  have e : val_main_v22 (F := Ideal) (aX X) = (up3 fun h t s => ∑ i ∈ Finset.range 4096, (if i < t then - spR (zH X h t i) else 0)
      - ∑ i ∈ Finset.range s, (if i < t then - spR (zH X h t i) else 0) : FVec Ideal S16x4096x4096 .f32) := by
    unfold val_main_v22
    rw [ref_ln]
    exact suffix_up3 _ _ zero_scalar _ _ _
  unfold val_main_v26 val_main_v25 val_main_v24_0 val_main_v23
  simp only [e, ref_ln, ref_sp3, negf_up3, subf_up3, addf_up3, exp_up3]
  rfl

theorem ref_w : val_main_v27_0 (F := Ideal) (aX X)
    = (up3 fun h t s => if s < t then eH X h t s else 0 : FVec Ideal S16x4096x4096 .f32) := by
  unfold val_main_v27_0 val_main_call4_v2 val_main_call4_v0 val_main_cst_1
  simp only [id, ref_e, con_zero, ref_mask']

/-! ## The cotangents -/

/-- The weight times its cotangent. -/
def pH (h t s : ℕ) : ℝ := (if s < t then ∑ x ∈ Finset.range 128, dH D h t x * vH X h s x else 0) * eH X h t s

theorem ref_g : val_main_v38 (F := Ideal) (aX X) (aD D) = (up3 (pH X D) : FVec Ideal S16x4096x4096 .f32) := by
  have e : val_main_v36 (F := Ideal) (aX X) (aD D)
      = (up3 fun h t s => ∑ x ∈ Finset.range 128, dH D h t x * vH X h s x : FVec Ideal S16x4096x4096 .f32) := by
    funext i
    rw [val_main_v36_apply, ref_d, ref_v]
    simp only [up3, coe_sum, Finset.sum_range, EReal.coe_mul]
  unfold val_main_v38 val_main_v37 val_main_call5_v0 val_main_call5_cst
  simp only [e, con_zero, ref_mask', ref_e, mulf_up3]
  rfl

/-- The cotangent of the logit, times the scale. -/
def zzH (h t s : ℕ) : ℝ :=
  (-(-pH X D h t s * Real.exp (- zH X h t s - spR (- zH X h t s)))
    + - -(-(if s < t then -pH X D h t s + ∑ i ∈ Finset.range (s + 1), pH X D h t i else 0) * Real.exp (zH X h t s - spR (zH X h t s)))) * sc

theorem ref_zz : val_main_v48 (F := Ideal) (aX X) (aD D) = (up3 (zzH X D) : FVec Ideal S16x4096x4096 .f32) := by
  have e : val_main_v41 (F := Ideal) (aX X) (aD D)
      = (up3 fun h t s => ∑ i ∈ Finset.range (s + 1), pH X D h t i : FVec Ideal S16x4096x4096 .f32) := by
    unfold val_main_v41
    rw [ref_g]
    exact prefix_up3 (c := 4095) _ _ zero_scalar _ _ _
  unfold val_main_v48 val_main_v47 val_main_cst_2 val_main_v46 val_main_v45 val_main_v44 val_main_call9_v1 val_main_call9_v0
    val_main_v43 val_main_call8_v0 val_main_call8_cst val_main_v42 val_main_v40 val_main_v39 val_main_call6_v1 val_main_call6_v0
  simp only [e, ref_g, con_zero, con_sc, ref_mask, ref_sg0, ref_sg3, mulf_up3, negf_up3, addf_up3]
  rfl

/-! ## The same values by the names of the proof of the kernel -/

/-- Each row's sum of the logarithms. -/
def totR (h t : ℕ) : ℝ := ∑ s ∈ Finset.range 4096, lnS (qH X h) (kH X h) t s

/-- The head with its row sums. -/
def hH (h : ℕ) : Head := headOf X D (totR X) h

theorem sp_neg (z : ℕ → ℕ → ℝ) (t s : ℕ) : - spR (- z t s) = lsigR z t s := by
  simp only [spR, lsigR, abs_neg, zero_sub]
  rcases le_total (z t s) 0 with h | h
  · rw [max_eq_left (by linarith), min_eq_left h]; ring
  · rw [max_eq_right (by linarith), min_eq_right h]; ring

theorem sp_pos (z : ℕ → ℕ → ℝ) (t s : ℕ) : - spR (z t s) = lsigR z t s - z t s := by
  simp only [spR, lsigR, zero_sub]
  rcases le_total (z t s) 0 with h | h
  · rw [max_eq_right h, min_eq_left h]; ring
  · rw [max_eq_left h, min_eq_right h]; ring

/-- The two logistic values add up to one. -/
theorem sig_add (z : ℕ → ℕ → ℝ) (t s : ℕ) : Real.exp (lsigR z t s - z t s) = 1 - Real.exp (lsigR z t s) := by
  have hp : ∀ y : ℝ, 0 < 1 + Real.exp y := fun y => by positivity
  simp only [lsigR, zero_sub]
  rcases le_total (z t s) 0 with h | h
  · rw [min_eq_left h, abs_of_nonpos h, neg_neg, sub_right_comm, sub_self, zero_sub, Real.exp_neg, Real.exp_sub, Real.exp_log (hp _)]
    field_simp [(hp (z t s)).ne']
    ring
  · rw [min_eq_right h, abs_of_nonneg h, zero_sub, sub_eq_add_neg, Real.exp_add, Real.exp_neg (Real.log _), Real.exp_log (hp _)]
    field_simp [(hp (-(z t s))).ne']
    ring

theorem ln_eq (h t i : ℕ) : (if i < t then - spR (zH X h t i) else 0) = lnS (qH X h) (kH X h) t i := by
  unfold lnS zH
  rw [sp_pos]

theorem p_eq (h t s : ℕ) : pH X D h t s = gS (qH X h) (kH X h) (vH X h) (dH D h) (totR X h) t s := by
  unfold pH gS wS
  by_cases hs : s < t
  · rw [if_pos hs, if_pos hs, mul_comm]
    congr 1
    unfold eH
    simp only [ln_eq]
    rw [show zH X h t s = zS (qH X h) (kH X h) t s from rfl, sp_neg, Finset.sum_range_succ (lnS (qH X h) (kH X h) t) s, totR]
    congr 2
    ring
  · rw [if_neg hs, if_neg hs, zero_mul, zero_mul]

theorem zz_eq (h t s : ℕ) : zzH X D h t s = dzS (qH X h) (kH X h) (vH X h) (dH D h) (totR X h) t s * sc := by
  unfold zzH dzS
  congr 1
  simp only [p_eq]
  by_cases hs : s < t
  · rw [if_pos hs, if_pos hs, sub_eq_add_neg (- zH X h t s), show zH X h t s = zS (qH X h) (kH X h) t s from rfl, sp_neg,
      sub_eq_add_neg (zS _ _ t s), sp_pos, show - zS (qH X h) (kH X h) t s + lsigR (zS (qH X h) (kH X h)) t s
        = lsigR (zS (qH X h) (kH X h)) t s - zS (qH X h) (kH X h) t s by ring, sig_add, Finset.sum_range_succ,
      show zS (qH X h) (kH X h) t s + (lsigR (zS (qH X h) (kH X h)) t s - zS (qH X h) (kH X h) t s)
        = lsigR (zS (qH X h) (kH X h)) t s by ring]
    ring
  · rw [if_neg hs, if_neg hs, gS, wS, if_neg hs]
    ring

theorem w_eq (h t s : ℕ) : (if s < t then eH X h t s else 0) = wS (qH X h) (kH X h) (totR X h) t s := by
  unfold wS
  by_cases hs : s < t
  · rw [if_pos hs, if_pos hs]
    unfold eH
    simp only [ln_eq]
    rw [show zH X h t s = zS (qH X h) (kH X h) t s from rfl, sp_neg, Finset.sum_range_succ (lnS (qH X h) (kH X h) t) s, totR]
    congr 2
    ring
  · rw [if_neg hs, if_neg hs]

/-! ## The three results -/

/-- From the layout by heads to the layout by rows. -/
theorem rows_of {f : ℕ → ℕ → ℕ → ℝ} {a b t x : ℕ} (ha : a = t * 2048 + x) (hx : x < 2048) (hb : b = a) :
    ((f (b / 128 % 16) (a / 2048) (a % 128) : ℝ) : EReal) = ((f (x / 128) t (x % 128) : ℝ) : EReal) := by
  rw [hb, show a / 128 % 16 = x / 128 by omega, show a / 2048 = t by omega, show a % 128 = x % 128 by omega]

theorem ref_dq : val_main_v57 (F := Ideal) (aX X) (aD D)
    = (up fun t x => dqS (hH X D (x / 128)) t (x % 128) : FVec Ideal S4096x2048 .bf16) := by
  have e : val_main_v50 (F := Ideal) (aX X) (aD D) = (up3 fun h t x => dqS (hH X D h) t x : FVec Ideal S16x4096x128 .f32) := by
    funext i
    rw [val_main_v50_apply, ref_zz, ref_k]
    simp only [up3, dqS, Finset.sum_mul, coe_sum]
    rw [Finset.sum_range]
    refine Finset.sum_congr rfl fun k _ => ?_
    rw [← EReal.coe_mul, zz_eq]
    congr 1
    exact mul_right_comm _ _ _
  funext i
  rw [val_main_v57_apply, val_main_v56_apply, val_main_v55_apply, e]
  exact rows_of (f := fun h t x => dqS (hH X D h) t x) rfl (i 1).isLt rfl

theorem ref_dk : val_main_v58 (F := Ideal) (aX X) (aD D)
    = (up fun t x => dkS (hH X D (x / 128)) t (x % 128) : FVec Ideal S4096x2048 .bf16) := by
  have e : val_main_v49 (F := Ideal) (aX X) (aD D) = (up3 fun h t x => dkS (hH X D h) t x : FVec Ideal S16x4096x128 .f32) := by
    funext i
    rw [val_main_v49_apply, ref_zz, ref_q]
    simp only [up3, dkS, Finset.sum_mul, coe_sum]
    rw [Finset.sum_range]
    refine Finset.sum_congr rfl fun k _ => ?_
    rw [← EReal.coe_mul, zz_eq]
    congr 1
    exact mul_right_comm _ _ _
  funext i
  rw [val_main_v58_apply, val_main_v54_apply, val_main_v53_apply, e]
  exact rows_of (f := fun h t x => dkS (hH X D h) t x) rfl (i 1).isLt rfl

theorem ref_dv : val_main_v59 (F := Ideal) (aX X) (aD D)
    = (up fun t x => dvS (hH X D (x / 128)) t (x % 128) : FVec Ideal S4096x2048 .bf16) := by
  have e : val_main_v35 (F := Ideal) (aX X) (aD D) = (up3 fun h t x => dvS (hH X D h) t x : FVec Ideal S16x4096x128 .f32) := by
    funext i
    rw [val_main_v35_apply, val_main_v34_apply, ref_w, ref_d]
    simp only [up3, dvS, coe_sum]
    rw [Finset.sum_range]
    refine Finset.sum_congr rfl fun k _ => ?_
    rw [← EReal.coe_mul, w_eq, mul_comm]
    rfl
  funext i
  rw [val_main_v59_apply, val_main_v52_apply, val_main_v51_apply, e]
  exact rows_of (f := fun h t x => dvS (hH X D h) t x) rfl (i 1).isLt rfl

end Cert.KernelIdeal.Reals
-- ==== Proof.Host.lean ====
/- The host side of the kernel: the row sums it hands the call are those of the plain formula, and arguments of finite
   entries are arrays of reals; so the call is fed what the proof of its results asks for. -/
module

public import proofs.«01_k».proof.Proof.Formula
public import proofs.«01_k».proof.Pre_finite
public import Idealize.ShloMosaic.Lib.StableHlo.Run

@[expose] public section

set_option maxRecDepth 16384

noncomputable section

namespace Cert.KernelIdeal.Reals

open Idealize.ShloMosaic Idealize.SL.Sem Idealize.ShloMosaic.StableHlo Idealize.ShloMosaic.TcCoe
open Cert.KernelIdeal Cert.KernelIdeal.Gen Cert.KernelIdeal.Facts

/-- The row sums, a row per token and a lane per column, from the masked logarithms. -/
def totV (l : FVec Ideal S16x4096x4096 .f32) : FVec Ideal S4096x2048 .f32 :=
  shapeCast S4096x2048 (broadcastInDim S4096x16x128 ![0, 1] bcast_S4096x16_S4096x16x128_0_1
    (transpose S4096x16 [1, 0] (Host.reduceAdd l (constant S_ .f32 0x00000000#32) reducesTo_S16x4096x4096_S16x4096_d2 h_S_)
      transposes_S16x4096_S4096x16_1_0)) shapeCasts_S4096x16x128_S4096x2048

theorem tot_up (f : ℕ → ℕ → ℕ → ℝ) : totV (up3 f)
    = (up fun r x => ∑ s ∈ Finset.range 4096, f (x / 128) r s : FVec Ideal S4096x2048 .f32) := by
  funext i
  have h0 : (i 0).val < 4096 := (i 0).isLt
  have h1 : (i 1).val < 2048 := (i 1).isLt
  unfold totV
  rw [shapeCast_apply _ shapeCasts_S4096x16x128_S4096x2048 i (Cert.ReferenceIdeal.Read.idx_main_v56 i)
    (by rewrite [Shape.rowMajor_val_two, Shape.rowMajor_val_three]
        show ((((i 0).val * 2048 + (i 1).val) / 2048) * 16 + ((i 0).val * 2048 + (i 1).val) / 128 % 16) * 128
          + ((i 0).val * 2048 + (i 1).val) % 128 = (i 0).val * 2048 + (i 1).val
        omega)]
  show Host.reduceAdd (up3 f : FVec Ideal S16x4096x4096 .f32) (constant S_ .f32 0x00000000#32)
    reducesTo_S16x4096x4096_S16x4096_d2 h_S_ _ = _
  unfold Host.reduceAdd
  rw [Ideal.hostReduceAdd_def, Ideal.hostReduceAdd_single _ (by decide)]
  have hz : (constant (F := Ideal) S_ .f32 0x00000000#32) (Shape.Idx.first h_S_) = ((0 : ℝ) : EReal) := by simp [constant]
  rw [hz, EReal.coe_zero, zero_add]
  refine (Finset.sum_congr rfl fun k _ => (?_ : _ = ((f (((i 0).val * 2048 + (i 1).val) / 128 % 16)
    (((i 0).val * 2048 + (i 1).val) / 2048) k.val : ℝ) : EReal))).trans ?_
  · rfl
  · show ∑ k : Fin 4096, _ = ((∑ s ∈ Finset.range 4096, f ((i 1).val / 128) (i 0).val s : ℝ) : EReal)
    rw [coe_sum, Finset.sum_range, show ((i 0).val * 2048 + (i 1).val) / 128 % 16 = (i 1).val / 128 by omega,
      show ((i 0).val * 2048 + (i 1).val) / 2048 = (i 0).val by omega]

/-- An extended real of finite magnitude is a real. -/
theorem real_of (x : EReal) (h : FloatOps.cmpf (F := Ideal) (φ := .bf16) .olt (FloatOps.hostAbsf (F := Ideal) (φ := .bf16) x) (Ideal.ofBits .bf16 0x7F80#16) = 1#1) :
    x = ((x.toReal : ℝ) : EReal) := by
  have ht : Ideal.ofBits .bf16 0x7F80#16 = ⊤ := by simp [Ideal.ofBits, Ideal.ieee]
  rw [ht] at h
  have h' : max x (-x) < ⊤ := by
    by_contra hn
    have : FloatOps.cmpf (F := Ideal) (φ := .bf16) .olt (FloatOps.hostAbsf (F := Ideal) (φ := .bf16) x) ⊤ = 0#1 := by
      show BitVec.ofBool (decide (max x (-x) < ⊤)) = 0#1
      rw [decide_eq_false hn]; rfl
    rw [this] at h
    exact absurd h (by decide)
  rw [EReal.coe_toReal]
  · intro e; rw [e] at h'; simp at h'
  · intro e; rw [e] at h'; simp at h'

variable (m : (ℓ : Loc nD τ sig) → Buf (Elt Ideal) ℓ) (c : Dev nD)

set_option maxHeartbeats 4000000 in
theorem tot_read : V m c main_v23 = totV (Cert.ReferenceIdeal.Read.val_main_v21_0 (F := Ideal) (m ((c : Thread nD τ).loc main_arg0))) := by
  unfold V
  simp only [hostOps0, hostOps0_1, hostOps0_2, hostOps0_3, hostOps0_4, List.flatten_cons, List.flatten_nil, List.append_nil, List.cons_append,
      List.nil_append, TRef.binary, TRef.nullary, TRef.ternary, TRef.unary, TRef.toBuf, TRef.ofBuf, cast_eq]
  after_results_simp
  rfl

/-- The entries of the arguments. -/
def eX : ℕ → ℕ → ℝ := fun r s => if h : r < 4096 ∧ s < 6144 then
  EReal.toReal ((m ((c : Thread nD τ).loc main_arg0) : FVec Ideal S4096x6144 .bf16) (ix2 ⟨r, h.1⟩ ⟨s, h.2⟩)) else 0
def eD : ℕ → ℕ → ℝ := fun r s => if h : r < 4096 ∧ s < 2048 then
  EReal.toReal ((m ((c : Thread nD τ).loc main_arg1) : FVec Ideal S4096x2048 .bf16) (ix2 ⟨r, h.1⟩ ⟨s, h.2⟩)) else 0

theorem and_one (a b : BitVec 1) (h : IntOp.andi a b = 1#1) : a = 1#1 ∧ b = 1#1 := by
  revert a b; decide

variable [Cert.Pre_finite.Facts] (hp : ∀ c : Dev nD, Cert.Pre_finite.fn (F := Ideal)
  (m ((c.tc : Thread nD τ).loc main_arg0)) (m ((c.tc : Thread nD τ).loc main_arg1)) = fun _ => 1#1)
include hp

/-- The precondition at one place: the query, the key, the value and the cotangent there are real. -/
theorem pre_at (r : Fin 4096) (s : Fin 2048) :
    (∀ o (ho : o = 0 ∨ o = 2048 ∨ o = 4096), ∃ x : ℝ, (m ((c : Thread nD τ).loc main_arg0) : FVec Ideal S4096x6144 .bf16)
        (ix2 r ⟨o + s.val, by omega⟩) = ((x : ℝ) : EReal))
    ∧ ∃ x : ℝ, (m ((c : Thread nD τ).loc main_arg1) : FVec Ideal S4096x2048 .bf16) (ix2 r s) = ((x : ℝ) : EReal) := by
  have h := congrFun (hp c) (ix2 r s)
  obtain ⟨h1, h2⟩ := and_one _ _ h
  obtain ⟨hq, hk⟩ := and_one _ _ h1
  obtain ⟨hv, hd⟩ := and_one _ _ h2
  refine ⟨fun o ho => ?_, ⟨_, real_of _ hd⟩⟩
  have go : ∀ (o : ℕ) (h : Shape.Slices S4096x6144 ![0, o] S4096x2048) (hb : o + s.val < 6144)
      (x : FVec Ideal S4096x6144 .bf16), x (ix2 r ⟨o + s.val, hb⟩) = extractStridedSlice S4096x2048 ![0, o] x h (ix2 r s) := by
    intro o h hb x
    refine congrArg x (funext fun a => ?_)
    match a with
    | ⟨0, _⟩ => exact Fin.ext (show r.val = 0 + r.val by omega)
    | ⟨1, _⟩ => rfl
  rcases ho with rfl | rfl | rfl
  · exact ⟨_, (go 0 Cert.Pre_finite.Facts.slices_S4096x6144_S4096x2048_0_0 _ _).trans (real_of _ hq)⟩
  · exact ⟨_, (go 2048 Cert.Pre_finite.Facts.slices_S4096x6144_S4096x2048_0_2048 _ _).trans (real_of _ hk)⟩
  · exact ⟨_, (go 4096 Cert.Pre_finite.Facts.slices_S4096x6144_S4096x2048_0_4096 _ _).trans (real_of _ hv)⟩

theorem arg0_eq : m ((c : Thread nD τ).loc main_arg0) = (up (eX m c) : FVec Ideal S4096x6144 .bf16) := by
  funext i
  have h0 : (i 0).val < 4096 := (i 0).isLt
  have h1 : (i 1).val < 6144 := (i 1).isLt
  have key : ∃ x : ℝ, (m ((c : Thread nD τ).loc main_arg0) : FVec Ideal S4096x6144 .bf16) (ix2 ⟨(i 0).val, h0⟩ ⟨(i 1).val, h1⟩)
      = ((x : ℝ) : EReal) := by
    have e : ∀ o l : ℕ, (ho : o = 0 ∨ o = 2048 ∨ o = 4096) → (hl : l < 2048) → (i 1).val = o + l →
        ∃ x : ℝ, (m ((c : Thread nD τ).loc main_arg0) : FVec Ideal S4096x6144 .bf16) (ix2 ⟨(i 0).val, h0⟩ ⟨(i 1).val, h1⟩)
          = ((x : ℝ) : EReal) := by
      intro o l ho hl e
      obtain ⟨x, hx⟩ := (pre_at m c hp ⟨(i 0).val, h0⟩ ⟨l, hl⟩).1 o ho
      exact ⟨x, by simp only [e]; exact hx⟩
    rcases Nat.lt_or_ge (i 1).val 2048 with h | h
    · exact e 0 (i 1).val (by simp) h (by omega)
    · rcases Nat.lt_or_ge (i 1).val 4096 with h' | h'
      · exact e 2048 ((i 1).val - 2048) (by simp) (by omega) (by omega)
      · exact e 4096 ((i 1).val - 4096) (by simp) (by omega) (by omega)
  obtain ⟨x, hx⟩ := key
  show _ = ((eX m c (i 0).val (i 1).val : ℝ) : EReal)
  unfold eX
  rw [dif_pos ⟨h0, h1⟩, hx, EReal.toReal_coe, ← hx]
  congr 1
  funext a
  match a with
  | ⟨0, _⟩ => rfl
  | ⟨1, _⟩ => rfl

theorem arg1_eq : m ((c : Thread nD τ).loc main_arg1) = (up (eD m c) : FVec Ideal S4096x2048 .bf16) := by
  funext i
  have h0 : (i 0).val < 4096 := (i 0).isLt
  have h1 : (i 1).val < 2048 := (i 1).isLt
  obtain ⟨x, hx⟩ := (pre_at m c hp ⟨(i 0).val, h0⟩ ⟨(i 1).val, h1⟩).2
  show _ = ((eD m c (i 0).val (i 1).val : ℝ) : EReal)
  unfold eD
  rw [dif_pos ⟨h0, h1⟩, hx, EReal.toReal_coe, ← hx]
  congr 1
  funext a
  match a with
  | ⟨0, _⟩ => rfl
  | ⟨1, _⟩ => rfl

/-- The call is fed what the proof of its results asks for. -/
theorem fed : Fed m c (eX m c) (eD m c) (totR (eX m c)) where
  x := (V_main_arg0 m c).trans (arg0_eq m c hp)
  d := (V_main_arg1 m c).trans (arg1_eq m c hp)
  t := by
    rw [tot_read, arg0_eq m c hp]
    show totV (Cert.ReferenceIdeal.Read.val_main_v21_0 (F := Ideal) (aX (eX m c))) = _
    rw [ref_ln]
    simp only [ln_eq]
    exact tot_up _

end Cert.KernelIdeal.Reals
-- ==== Proof.Tables.lean ====
/- The one-word tables of the kernels of the weights' gradients: the half of the rows they work on. -/
module

public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame

@[expose] public section

set_option maxRecDepth 16384

namespace Cert.Kernel8.Table

open Idealize.ShloMosaic Idealize.ShloMosaic.TcCoe Idealize.ShloMosaic.StableHlo Cert.Kernel8 Cert.Kernel8.Gen

variable {F : FTy → Type} [FloatOps F] (m : (ℓ : Loc nD τ sig) → Buf (Elt F) ℓ)

/-- The table's one word. -/
theorem word (r : Rect S1) (h : r.shape.numel = 1) : (tbl m).at 0 r h = 1#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 2 * (i 0).val + 1] := by
  unfold cc0_transform_0
  dsimp only
  rw [word]
  revert i
  decide +kernel

/-- Every such block lies inside the array. -/
theorem ok : Ok m := by
  unfold Ok ok0
  rw [funext (place m)]
  decide +kernel

end Cert.Kernel8.Table

namespace Cert.Kernel9.Table

open Idealize.ShloMosaic Idealize.ShloMosaic.TcCoe Idealize.ShloMosaic.StableHlo Cert.Kernel9 Cert.Kernel9.Gen

variable {F : FTy → Type} [FloatOps F] (m : (ℓ : Loc nD τ sig) → Buf (Elt F) ℓ)

/-- The table's one word. -/
theorem word (r : Rect S1) (h : r.shape.numel = 1) : (tbl m).at 0 r h = 0#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 2 * (i 0).val] := by
  unfold cc0_transform_0
  dsimp only
  rw [word]
  revert i
  decide +kernel

/-- Every such block lies inside the array. -/
theorem ok : Ok m := by
  unfold Ok ok0
  rw [funext (place m)]
  decide +kernel

end Cert.Kernel9.Table

namespace Cert.Kernel10.Table

open Idealize.ShloMosaic Idealize.ShloMosaic.TcCoe Idealize.ShloMosaic.StableHlo Cert.Kernel10 Cert.Kernel10.Gen

variable {F : FTy → Type} [FloatOps F] (m : (ℓ : Loc nD τ sig) → Buf (Elt F) ℓ)

/-- The table's one word. -/
theorem word (r : Rect S1) (h : r.shape.numel = 1) : (tbl m).at 0 r h = 1#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 1] := by
  unfold cc0_transform_0
  dsimp only
  rw [word]
  revert i
  decide +kernel

/-- Every such block lies inside the array. -/
theorem ok : Ok m := by
  unfold Ok ok0
  rw [funext (place m)]
  decide +kernel

end Cert.Kernel10.Table

namespace Cert.Kernel11.Table

open Idealize.ShloMosaic Idealize.ShloMosaic.TcCoe Idealize.ShloMosaic.StableHlo Cert.Kernel11 Cert.Kernel11.Gen

variable {F : FTy → Type} [FloatOps F] (m : (ℓ : Loc nD τ sig) → Buf (Elt F) ℓ)

/-- The table's one word. -/
theorem word (r : Rect S1) (h : r.shape.numel = 1) : (tbl m).at 0 r h = 0#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 0] := by
  unfold cc0_transform_0
  dsimp only
  rw [word]
  revert i
  decide +kernel

/-- Every such block lies inside the array. -/
theorem ok : Ok m := by
  unfold Ok ok0
  rw [funext (place m)]
  decide +kernel

end Cert.Kernel11.Table

namespace Cert.Kernel12.Table

open Idealize.ShloMosaic Idealize.ShloMosaic.TcCoe Idealize.ShloMosaic.StableHlo Cert.Kernel12 Cert.Kernel12.Gen

variable {F : FTy → Type} [FloatOps F] (m : (ℓ : Loc nD τ sig) → Buf (Elt F) ℓ)

/-- The table's one word. -/
theorem word (r : Rect S1) (h : r.shape.numel = 1) : (tbl m).at 0 r h = 1#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 1] := by
  unfold cc0_transform_0
  dsimp only
  rw [word]
  revert i
  decide +kernel

/-- Every such block lies inside the array. -/
theorem ok : Ok m := by
  unfold Ok ok0
  rw [funext (place m)]
  decide +kernel

end Cert.Kernel12.Table

namespace Cert.Kernel13.Table

open Idealize.ShloMosaic Idealize.ShloMosaic.TcCoe Idealize.ShloMosaic.StableHlo Cert.Kernel13 Cert.Kernel13.Gen

variable {F : FTy → Type} [FloatOps F] (m : (ℓ : Loc nD τ sig) → Buf (Elt F) ℓ)

/-- The table's one word. -/
theorem word (r : Rect S1) (h : r.shape.numel = 1) : (tbl m).at 0 r h = 0#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 0] := by
  unfold cc0_transform_0
  dsimp only
  rw [word]
  revert i
  decide +kernel

/-- Every such block lies inside the array. -/
theorem ok : Ok m := by
  unfold Ok ok0
  rw [funext (place m)]
  decide +kernel

end Cert.Kernel13.Table

end
-- ==== Proof.Product.lean ====
/- Arrays of extended reals by their entries, and sums of products of them: what the matrix products of the step have in
   common. -/
module

public import Idealize.ShloMosaic.Lib.Pointwise
public import Idealize.ShloMosaic.Lib.Pipeline.ValueKit

@[expose] public section

set_option maxRecDepth 16384

noncomputable section

namespace Cert.Product

open Idealize.ShloMosaic Idealize.SL.Sem

/-- The matrix with the entries `f row column`. -/
def on {a b : ℕ} {φ : FTy} (f : ℕ → ℕ → EReal) : FVec Ideal ⟨2, ![a, b]⟩ φ := fun i => f (i 0).val (i 1).val

/-- The array of matrices with the entries `f slot row column`. -/
def on3 {a b d : ℕ} {φ : FTy} (f : ℕ → ℕ → ℕ → EReal) : FVec Ideal ⟨3, ![a, b, d]⟩ φ :=
  fun i => f (i 0).val (i 1).val (i 2).val

/-- The entries of a matrix, zero outside it. -/
def of {a b : ℕ} {φ : FTy} (x : FVec Ideal ⟨2, ![a, b]⟩ φ) : ℕ → ℕ → EReal := fun r c =>
  if h : r < a ∧ c < b then x (ix2 ⟨r, h.1⟩ ⟨c, h.2⟩) else 0

variable {a b d : ℕ} {φ ψ : FTy}

theorem on_of (x : FVec Ideal ⟨2, ![a, b]⟩ φ) : on (of x) = x := by
  funext i
  have h : (i 0).val < a ∧ (i 1).val < b := ⟨(i 0).isLt, (i 1).isLt⟩
  unfold on of
  rw [dif_pos h]
  exact congrArg x (funext fun k => by match k with | ⟨0, _⟩ => rfl | ⟨1, _⟩ => rfl)

/-- Two matrices are equal when their entries inside the shape are. -/
theorem on_congr {f g : ℕ → ℕ → EReal} (h : ∀ r, r < a → ∀ c, c < b → f r c = g r c) :
    (on f : FVec Ideal ⟨2, ![a, b]⟩ φ) = on g :=
  funext fun i => h _ (i 0).isLt _ (i 1).isLt

/-- Rows times rows: `Σ_d f(r, d) g(c, d)`. -/
def rows (n : ℕ) (f g : ℕ → ℕ → EReal) : ℕ → ℕ → EReal := fun r c => ∑ d ∈ Finset.range n, f r d * g c d
/-- Rows times columns: `Σ_d f(r, d) g(d, c)`. -/
def cols (n : ℕ) (f g : ℕ → ℕ → EReal) : ℕ → ℕ → EReal := fun r c => ∑ d ∈ Finset.range n, f r d * g d c
/-- Columns times columns: `Σ_d f(d, r) g(d, c)`. -/
def downs (n : ℕ) (f g : ℕ → ℕ → EReal) : ℕ → ℕ → EReal := fun r c => ∑ d ∈ Finset.range n, f d r * g d c
/-- The matrix from row `o` and column `p` on. -/
def cut (o p : ℕ) (f : ℕ → ℕ → EReal) : ℕ → ℕ → EReal := fun r c => f (o + r) (p + c)

/-- A sum over four stretches of equal length, one after the other. -/
theorem sum_four (n : ℕ) (f : ℕ → EReal) :
    ∑ k ∈ Finset.range (4 * n), f k = ((∑ k ∈ Finset.range n, f k + ∑ k ∈ Finset.range n, f (n + k))
      + ∑ k ∈ Finset.range n, f (2 * n + k)) + ∑ k ∈ Finset.range n, f (3 * n + k) := by
  rw [show 4 * n = n + n + n + n by ring, Finset.sum_range_add f (n + n + n) n, Finset.sum_range_add f (n + n) n,
    Finset.sum_range_add f n n, show n + n + n = 3 * n by ring, show n + n = 2 * n by ring]

theorem truncf_on (h : ψ.bits < φ.bits) (f : ℕ → ℕ → EReal) :
    truncf ψ (on f : FVec Ideal ⟨2, ![a, b]⟩ φ) h = on f := rfl

theorem extf_on (h : φ.bits < ψ.bits) (f : ℕ → ℕ → EReal) :
    extf ψ (on f : FVec Ideal ⟨2, ![a, b]⟩ φ) h = on f := rfl

theorem addf_on (f g : ℕ → ℕ → EReal) : addf (on f : FVec Ideal ⟨2, ![a, b]⟩ φ) (on g) = on fun r c => f r c + g r c := rfl

theorem mulf_on (f g : ℕ → ℕ → EReal) : mulf (on f : FVec Ideal ⟨2, ![a, b]⟩ φ) (on g) = on fun r c => f r c * g r c := rfl

/-- The first and only slot of an array of matrices. -/
theorem slot_on (h : (⟨3, ![1, a, b]⟩ : Shape).ShapeCasts ⟨2, ![a, b]⟩) (f : ℕ → ℕ → ℕ → EReal) :
    shapeCast ⟨2, ![a, b]⟩ (on3 f : FVec Ideal ⟨3, ![1, a, b]⟩ φ) h = on (f 0) := by
  funext i
  exact shapeCast_dropUnit_apply ![a, b] _ h i

/-- Twice a nonnegative factor. -/
theorem twice (g u : EReal) (h : 0 ≤ u) : g * (2 * u) = u * g + g * u := by
  have h2 : (2 : EReal) * u = u + u := by
    rw [show (2 : EReal) = 1 + 1 from one_add_one_eq_two.symm, EReal.right_distrib_of_nonneg zero_le_one zero_le_one, one_mul]
  rw [h2, EReal.left_distrib_of_nonneg h h, mul_comm u g]

/-- The derivative of the squared relu, chosen by the sign of the argument, times a factor. -/
theorem relu_grad (z g : EReal) :
    Scalar.select (Ideal.cmp .ogt z 0) (max z 0 * g + g * max z 0) 0 = g * (2 * max z 0) := by
  rw [twice g (max z 0) (le_max_right z 0)]
  by_cases h : 0 < z
  · have e : Ideal.cmp .ogt z 0 = 1#1 := by
      show BitVec.ofBool (decide (0 < z)) = 1#1
      rw [decide_eq_true h]; rfl
    rw [e]; rfl
  · have e : Ideal.cmp .ogt z 0 = 0#1 := by
      show BitVec.ofBool (decide (0 < z)) = 0#1
      rw [decide_eq_false h]; rfl
    rw [e, max_eq_right (not_lt.mp h), zero_mul, mul_zero, add_zero]; rfl

theorem two_lit : Ideal.ofBits .f32 0x40000000#32 = 2 := by
  have h : ((8388608 : ℝ) : EReal) * ((1 / 4194304 : ℝ) : EReal) = 2 := by
    rw [← EReal.coe_mul, show (8388608 : ℝ) * (1 / 4194304) = 2 by norm_num]
    rfl
  simp [Ideal.ofBits, Ideal.ieee]
  norm_num
  exact h

theorem zero_lit : Ideal.ofBits .f32 0x00000000#32 = 0 := by
  simp [Ideal.ofBits, Ideal.ieee]

end Cert.Product

end
-- ==== Proof.DownBack.lean ====
/- The backward product of the MLP's down projection with the derivative of the squared relu: the kernel's array and the
   reference's, both by the same formula. -/
module

public import proofs.«01_k».proof.Proof.Product
public import proofs.«01_k».proof.Proof.Gen.Kernel2Ideal.Value
public import proofs.«01_k».proof.Proof.Gen.Reference2Ideal.Read

@[expose] public section

set_option maxRecDepth 16384

noncomputable section

namespace Cert.Kernel2Ideal.Back

open Idealize.ShloMosaic Idealize.ShloMosaic.TcCoe Idealize.SL.Sem Idealize.ShloMosaic.StableHlo Cert.Kernel2Ideal Cert.Kernel2Ideal.Gen Cert.Kernel2Ideal.Value Cert.Product

/-- Row `r` of the cotangent times row `c` of the weights, times twice the activation. -/
def grad (Z W D : ℕ → ℕ → EReal) : ℕ → ℕ → EReal := fun r c => rows 2048 D W r c * (2 * max (Z r c) 0)

theorem tile (f g u : ℕ → ℕ → EReal) :
    k0_pay1 (F := Ideal) (on f : FVec Ideal S1024x2048 .bf16) (on g : FVec Ideal S1024x2048 .bf16) (on u : FVec Ideal S1024x1024 .bf16)
      = (on (fun r c => rows 2048 f g r c * (2 * u r c)) : FVec Ideal S1024x1024 .bf16) := by
  unfold k0_pay1
  dsimp only
  funext i; idx_vars i; pointwise [on, rows, Finset.sum_range, two_lit]

theorem out (f g u : ℕ → ℕ → EReal) :
    out0_3 (F := Ideal) (on f : FVec Ideal S1024x2048 .bf16) (on g : FVec Ideal S1024x2048 .bf16) (on u : FVec Ideal S1024x1024 .bf16)
      = (on (fun r c => rows 2048 f g r c * (2 * u r c)) : FVec Ideal S1024x1024 .bf16) := by
  have hz : (![0, 0] : Fin 2 → ℕ) = fun _ => 0 := by decide
  unfold out0_3
  rw [View.canon_unit_zero (S := S1024x1024) hz, View.ld_unit_zero hz, View.ld_unit_zero hz, View.ld_unit_zero hz]
  exact tile f g u

variable (m : (ℓ : Loc nD τ sig) → Buf (Elt Ideal) ℓ) (c : Dev nD) (Z W D : ℕ → ℕ → EReal)

/-- What the program's arguments hold. -/
structure Fed : Prop where
  z : m ((c : Thread nD τ).loc main_arg0) = (on Z : FVec Ideal S4096x8192 .f32)
  w : m ((c : Thread nD τ).loc main_arg1) = (on W : FVec Ideal S8192x2048 .bf16)
  d : m ((c : Thread nD τ).loc main_arg2) = (on D : FVec Ideal S4096x2048 .bf16)

variable {m c Z W D} (hF : Fed m c Z W D) (t : Fin cfg0.N)
include hF

/-- The activations, as the host prepares them. -/
theorem act : V m c main_v2 = (on fun r k => max (Z r k) 0 : FVec Ideal S4096x8192 .bf16) := by
  unfold V
  simp only [hostOps0, List.flatten_cons, List.flatten_nil, List.append_nil, List.cons_append,
      List.nil_append, TRef.binary, TRef.nullary, TRef.ternary, TRef.unary, TRef.toBuf, TRef.ofBuf, cast_eq]
  after_results_simp
  rw [hF.z]
  funext i; idx_vars i; pointwise [on, zero_lit]

omit hF in
theorem places : ∀ t : Fin cfg0.N,
    win0_0.index t (0 : Fin 2) = t.val / 8 ∧ win0_0.index t (1 : Fin 2) = 0 ∧
    win0_1.index t (0 : Fin 2) = t.val % 8 ∧ win0_1.index t (1 : Fin 2) = 0 ∧
    win0_2.index t (0 : Fin 2) = t.val / 8 ∧ win0_2.index t (1 : Fin 2) = t.val % 8 ∧
    win0_3.index t (0 : Fin 2) = t.val / 8 ∧ win0_3.index t (1 : Fin 2) = t.val % 8 ∧ win0_3.flush t = true :=
  (by decide +kernel : ∀ t : Fin grid0.N, _)

theorem blk0 : iblk m c 0 t = (on (cut (1024 * (t.val / 8)) 0 D) : FVec Ideal S1024x2048 .bf16) := by
  obtain ⟨a0, b0, a1, b1, a2, b2, a3, b3, hf⟩ := places t
  funext y
  refine (congrFun ((V_main_arg2 m c).trans hF.d) _).trans ?_
  show D (win0_0.index t (0 : Fin 2) * 1024 + 1 * (y 0).val) (win0_0.index t (1 : Fin 2) * 2048 + 1 * (y 1).val) = _
  rw [a0, b0]
  unfold on cut
  congr 1 <;> omega

theorem blk1 : iblk m c 1 t = (on (cut (1024 * (t.val % 8)) 0 W) : FVec Ideal S1024x2048 .bf16) := by
  obtain ⟨a0, b0, a1, b1, a2, b2, a3, b3, hf⟩ := places t
  funext y
  refine (congrFun ((V_main_arg1 m c).trans hF.w) _).trans ?_
  show W (win0_1.index t (0 : Fin 2) * 1024 + 1 * (y 0).val) (win0_1.index t (1 : Fin 2) * 2048 + 1 * (y 1).val) = _
  rw [a1, b1]
  unfold on cut
  congr 1 <;> omega

theorem blk2 : iblk m c 2 t = (on (cut (1024 * (t.val / 8)) (1024 * (t.val % 8)) fun r k => max (Z r k) 0) : FVec Ideal S1024x1024 .bf16) := by
  obtain ⟨a0, b0, a1, b1, a2, b2, a3, b3, hf⟩ := places t
  funext y
  refine (congrFun (act hF) _).trans ?_
  show max (Z (win0_2.index t (0 : Fin 2) * 1024 + 1 * (y 0).val) (win0_2.index t (1 : Fin 2) * 1024 + 1 * (y 1).val)) 0 = _
  rw [a2, b2]
  unfold on cut
  congr 2 <;> omega

/-- The kernel's array. -/
theorem array : (dats m 0 c).arrAt 3 cfg0.N = (on (grad Z W D) : FVec Ideal S4096x8192 .bf16) := by
  funext i
  have h0 : (i 0).val < 4096 := (i 0).isLt
  have h1 : (i 1).val < 8192 := (i 1).isLt
  let t : Fin cfg0.N := ⟨8 * ((i 0).val / 1024) + (i 1).val / 1024, by rw [show cfg0.N = 32 from N_0]; omega⟩
  have ht : t.val = 8 * ((i 0).val / 1024) + (i 1).val / 1024 := rfl
  let y : S1024x1024.Idx := ix2 ⟨(i 0).val % 1024, Nat.mod_lt _ (by decide)⟩ ⟨(i 1).val % 1024, Nat.mod_lt _ (by decide)⟩
  obtain ⟨a0, b0, a1, b1, a2, b2, a3, b3, hf⟩ := places t
  have e := congrFun ((blocks3 m c t hf).trans (flushed3 m c t)) y
  have hi : ((cfg0.win 3).blk t).view.emb y = i := by
    funext a
    match a with
    | ⟨0, _⟩ =>
      apply Fin.ext
      show win0_3.index t (0 : Fin 2) * 1024 + 1 * ((i 0).val % 1024) = (i 0).val
      rw [a3]; omega
    | ⟨1, _⟩ =>
      apply Fin.ext
      show win0_3.index t (1 : Fin 2) * 1024 + 1 * ((i 1).val % 1024) = (i 1).val
      rw [b3]; omega
  refine (congrArg ((dats m 0 c).arrAt 3 cfg0.N) hi.symm).trans (e.trans ?_)
  rw [blk0 hF t, blk1 hF t, blk2 hF t, out]
  show rows 2048 (cut (1024 * (t.val / 8)) 0 D) (cut (1024 * (t.val % 8)) 0 W) ((i 0).val % 1024) ((i 1).val % 1024)
    * (2 * max (Z (1024 * (t.val / 8) + (i 0).val % 1024) (1024 * (t.val % 8) + (i 1).val % 1024)) 0) = _
  unfold grad rows cut on
  rw [show 1024 * (t.val / 8) + (i 0).val % 1024 = (i 0).val by omega, show 1024 * (t.val % 8) + (i 1).val % 1024 = (i 1).val by omega]
  simp only [zero_add]
omit hF

/-- The reference's array. -/
theorem formula : Cert.Reference2Ideal.Read.val_main_v14 (F := Ideal) (on Z : FVec Ideal S4096x8192 .f32) (on W : FVec Ideal S8192x2048 .bf16)
    (on D : FVec Ideal S4096x2048 .bf16) = (on (grad Z W D) : FVec Ideal S4096x8192 .bf16) := by
  funext i; idx_vars i
  simp only [Cert.Reference2Ideal.Read.val_main_v14_apply, Cert.Reference2Ideal.Read.val_main_v13_apply, Cert.Reference2Ideal.Read.val_main_v12_apply,
    Cert.Reference2Ideal.Read.val_main_v11_apply, Cert.Reference2Ideal.Read.val_main_v10_apply, Cert.Reference2Ideal.Read.val_main_v9_apply,
    Cert.Reference2Ideal.Read.val_main_v8_apply, Cert.Reference2Ideal.Read.val_main_v7_apply, Cert.Reference2Ideal.Read.val_main_v3_apply,
    Cert.Reference2Ideal.Read.val_main_v2_apply, Cert.Reference2Ideal.Read.val_main_v1_apply, Cert.Reference2Ideal.Read.val_main_v0_apply,
    Cert.Reference2Ideal.Read.val_main_call0_v0_apply, Cert.Reference2Ideal.Read.val_main_call0_cst_apply,
    Cert.Reference2Ideal.Read.val_main_cst_apply, Cert.Reference2Ideal.Read.val_main_cst_1_apply]
  show Scalar.select (Ideal.cmp .ogt (Z i0 i1) (Ideal.ofBits .f32 0x00000000#32))
      (max (Z i0 i1) (Ideal.ofBits .f32 0x00000000#32) * (∑ k : Fin 2048, D i0 k * W i1 k)
        + (∑ k : Fin 2048, D i0 k * W i1 k) * max (Z i0 i1) (Ideal.ofBits .f32 0x00000000#32)) (Ideal.ofBits .f32 0x00000000#32)
    = rows 2048 D W i0 i1 * (2 * max (Z i0 i1) 0)
  rw [zero_lit, relu_grad]
  unfold rows
  rw [Finset.sum_range]

end Cert.Kernel2Ideal.Back

end
-- ==== Proof.UpBack.lean ====
/- The backward product of the MLP's up projection: the kernel's array, its four partial products added one after the other
   in an accumulator, and the reference's. -/
module

public import proofs.«01_k».proof.Proof.Product
public import proofs.«01_k».proof.Proof.Gen.Kernel3Ideal.Value
public import proofs.«01_k».proof.Proof.Gen.Reference3Ideal.Read

@[expose] public section

set_option maxRecDepth 16384

noncomputable section

namespace Cert.Kernel3Ideal.Back

open Idealize.ShloMosaic Idealize.ShloMosaic.TcCoe Idealize.SL.Sem Idealize.ShloMosaic.StableHlo Cert.Kernel3Ideal Cert.Kernel3Ideal.Gen Cert.Kernel3Ideal.Value Cert.Product

theorem first (f : ℕ → ℕ → EReal) (g : ℕ → ℕ → ℕ → EReal) :
    k0_pay1 (F := Ideal) (on f : FVec Ideal S1024x2048 .bf16) (on3 g : FVec Ideal S1x1024x2048 .bf16) = on (rows 2048 f (g 0)) := by
  unfold k0_pay1
  rw [slot_on]
  dsimp only
  funext i; idx_vars i; pointwise [on, rows, Finset.sum_range]

theorem next (s f : ℕ → ℕ → EReal) (g : ℕ → ℕ → ℕ → EReal) :
    k0_pay2 (F := Ideal) (on s : FVec Ideal S1024x1024 .f32) (on f : FVec Ideal S1024x2048 .bf16) (on3 g : FVec Ideal S1x1024x2048 .bf16)
      = on fun r c => s r c + rows 2048 f (g 0) r c := by
  unfold k0_pay2
  rw [slot_on]
  dsimp only
  funext i; idx_vars i; pointwise [on, rows, Finset.sum_range]

section Bodies

variable {c : Dev nD} {i : grid0.Coords}
  {arg3 : Memref sig .tc .vmem S1024x2048 .bf16} {harg3 : arg3.IsWhole} {arg4 : Memref sig .tc .vmem S1x1024x2048 .bf16} {harg4 : arg4.IsWhole}
  {arg5 : Memref sig .tc .vmem S1024x1024 .bf16} {harg5 : arg5.IsWhole} {arg6 : Memref sig .tc .vmem S1024x1024 .f32} {harg6 : arg6.IsWhole}
  {s f : ℕ → ℕ → EReal} {g : ℕ → ℕ → ℕ → EReal}
  {x0 : Vec Ideal S1024x2048 .bf16} {x1 : Vec Ideal S1x1024x2048 .bf16} {xs : Vec Ideal S1024x1024 .f32}
  (h0 : x0 = (on f : FVec Ideal S1024x2048 .bf16)) (h1 : x1 = (on3 g : FVec Ideal S1x1024x2048 .bf16)) (hs : xs = (on s : FVec Ideal S1024x1024 .f32))

theorem two : (![0, 0] : Fin 2 → ℕ) = fun _ => 0 := by decide
theorem three : (![0, 0, 0] : Fin 3 → ℕ) = fun _ => 0 := by decide

include h0 h1

/-- The first part of the sum. -/
theorem left_A {hc0 : cond0_0 i} {hc1 : ¬cond0_1 i} {hc2 : ¬cond0_2 i} :
    sout0_A_0 (F := Ideal) c i arg3 harg3 arg4 harg4 arg5 harg5 arg6 harg6 hc0 hc1 hc2 x0 x1
      = (on (rows 2048 f (g 0)) : FVec Ideal S1024x1024 .f32) := by
  subst h0 h1
  unfold sout0_A_0
  rw [View.read_writes_eq_canon _ _ _ (scover0_A_0 c i arg3 harg3 arg4 harg4 arg5 harg5 arg6 harg6 hc0 hc1 hc2 _ _)]
  unfold kernelRun0_A
  dsimp only
  simp only [View.canon_unit_zero (S := S1024x1024) two, View.readAt_eq_ld, harg3.read_unread, harg4.read_unread, View.ld_unit_zero (S := S1024x2048) two,
    View.ld_unit_zero (S := S1x1024x2048) three]
  exact first f g

include hs
/-- A further part of the sum. -/
theorem left_B {hc0 : ¬cond0_0 i} {hc1 : cond0_1 i} {hc2 : ¬cond0_2 i} :
    sout0_B_0 (F := Ideal) c i arg3 harg3 arg4 harg4 arg5 harg5 arg6 harg6 hc0 hc1 hc2 x0 x1 xs
      = (on (fun r c => s r c + rows 2048 f (g 0) r c) : FVec Ideal S1024x1024 .f32) := by
  subst h0 h1 hs
  unfold sout0_B_0
  rw [View.read_writes_eq_canon _ _ _ (scover0_B_0 c i arg3 harg3 arg4 harg4 arg5 harg5 arg6 harg6 hc0 hc1 hc2 _ _ _)]
  unfold kernelRun0_B
  dsimp only
  simp only [View.canon_unit_zero (S := S1024x1024) two, View.readAt_eq_ld, harg3.read_unread, harg4.read_unread, harg6.read_unread, View.ld_unit_zero (S := S1024x2048) two,
    View.ld_unit_zero (S := S1x1024x2048) three, View.ld_unit_zero (S := S1024x1024) two]
  exact next s f g

/-- The whole sum, stored. -/
theorem out_C {hc0 : ¬cond0_0 i} {hc1 : cond0_1 i} {hc2 : cond0_2 i} :
    out0_C_2 (F := Ideal) c i arg3 harg3 arg4 harg4 arg5 harg5 arg6 harg6 hc0 hc1 hc2 x0 x1 xs
      = (on (fun r c => s r c + rows 2048 f (g 0) r c) : FVec Ideal S1024x1024 .bf16) := by
  subst h0 h1 hs
  unfold out0_C_2
  rw [View.read_writes_eq_canon _ _ _ (cover0_C_2 c i arg3 harg3 arg4 harg4 arg5 harg5 arg6 harg6 hc0 hc1 hc2 _ _ _)]
  unfold kernelRun0_C
  dsimp only
  sl_unfold_words
  simp only [View.canon_unit_zero (S := S1024x1024) two, View.readAt_eq_ld, harg3.read_unread, harg4.read_unread, harg6.read_unread, View.ld_unit_zero (S := S1024x2048) two,
    View.ld_unit_zero (S := S1x1024x2048) three, View.ld_unit_zero (S := S1024x1024) two]
  exact (congrArg k0_pay3 ((View.readCov_unit_zero (S := S1024x1024) arg6.view two _ _).trans (next s f g))).trans rfl

end Bodies

variable (m : (ℓ : Loc nD τ sig) → Buf (Elt Ideal) ℓ) (c : Dev nD) (U W : ℕ → ℕ → EReal)

/-- What the program's arguments hold. -/
structure Fed : Prop where
  u : m ((c : Thread nD τ).loc main_arg0) = (on U : FVec Ideal S4096x8192 .bf16)
  w : m ((c : Thread nD τ).loc main_arg1) = (on W : FVec Ideal S2048x8192 .bf16)

variable {m c U W} (hF : Fed m c U W) (t : Fin cfg0.N)
include hF

/-- The weights, as the host lays them out: one slot for each 2048 columns. -/
theorem slots : V m c main_v1 = (on3 fun s r k => W r (2048 * s + k) : FVec Ideal S4x2048x2048 .bf16) := by
  unfold V
  simp only [hostOps0, List.flatten_cons, List.flatten_nil, List.append_nil, List.cons_append,
      List.nil_append, TRef.binary, TRef.nullary, TRef.ternary, TRef.unary, TRef.toBuf, TRef.ofBuf, cast_eq]
  after_results_simp
  rw [hF.w]
  funext i; idx_vars i; pointwise [on, on3]
  rw [Nat.mul_comm]

omit hF in
theorem places : ∀ t : Fin cfg0.N,
    win0_0.index t (0 : Fin 2) = t.val / 8 ∧ win0_0.index t (1 : Fin 2) = t.val % 4 ∧
    win0_1.index t (0 : Fin 3) = t.val % 4 ∧ win0_1.index t (1 : Fin 3) = t.val / 4 % 2 ∧ win0_1.index t (2 : Fin 3) = 0 :=
  (by decide +kernel : ∀ t : Fin grid0.N, _)

theorem blk0 : iblk m c 0 t = (on (cut (1024 * (t.val / 8)) (2048 * (t.val % 4)) U) : FVec Ideal S1024x2048 .bf16) := by
  obtain ⟨a0, b0, a1, b1, c1⟩ := places t
  funext y
  refine (congrFun ((V_main_arg0 m c).trans hF.u) _).trans ?_
  show U (win0_0.index t (0 : Fin 2) * 1024 + 1 * (y 0).val) (win0_0.index t (1 : Fin 2) * 2048 + 1 * (y 1).val) = _
  rw [a0, b0]
  unfold on cut
  congr 1 <;> omega

theorem blk1 : iblk m c 1 t = (on3 (fun _ => cut (1024 * (t.val / 4 % 2)) (2048 * (t.val % 4)) W) : FVec Ideal S1x1024x2048 .bf16) := by
  obtain ⟨a0, b0, a1, b1, c1⟩ := places t
  funext y
  have hy : (y 0).val < 1 := (y 0).isLt
  refine (congrFun (slots hF) _).trans ?_
  show W (win0_1.index t (1 : Fin 3) * 1024 + 1 * (y 1).val) (2048 * (win0_1.index t (0 : Fin 3) * 1 + 1 * (y 0).val)
    + (win0_1.index t (2 : Fin 3) * 2048 + 1 * (y 2).val)) = _
  rw [a1, b1, c1]
  unfold on3 cut
  congr 1 <;> omega

/-- The part of the sum that point `t` adds. -/
def part (U W : ℕ → ℕ → EReal) (p q k : ℕ) : ℕ → ℕ → EReal := rows 2048 (cut (1024 * p) (2048 * k) U) (cut (1024 * q) (2048 * k) W)

theorem first_sum (h : t.val % 4 = 0) : (outsAt0 m c t.val t.isLt).2 = (on (part U W (t.val / 8) (t.val / 4 % 2) 0) : FVec Ideal S1024x1024 .f32) := by
  rw [outsAt0_A m c t h (by omega) (by omega)]
  dsimp only
  rw [left_A (blk0 hF t) (blk1 hF t), h]
  rfl

theorem next_sum (h0 : t.val % 4 ≠ 0) (h3 : t.val % 4 ≠ 3) (s : ℕ → ℕ → EReal)
    (hs : (outsAt0 m c (t.val - 1) (Nat.lt_of_le_of_lt (Nat.sub_le _ _) t.isLt)).2 = (on s : FVec Ideal S1024x1024 .f32)) :
    (outsAt0 m c t.val t.isLt).2 = (on (fun r c => s r c + part U W (t.val / 8) (t.val / 4 % 2) (t.val % 4) r c) : FVec Ideal S1024x1024 .f32) := by
  rw [outsAt0_B m c t h0 (by omega) h3]
  dsimp only
  rw [left_B (blk0 hF t) (blk1 hF t) hs]
  rfl

theorem last_sum (h3 : t.val % 4 = 3) (s : ℕ → ℕ → EReal)
    (hs : (outsAt0 m c (t.val - 1) (Nat.lt_of_le_of_lt (Nat.sub_le _ _) t.isLt)).2 = (on s : FVec Ideal S1024x1024 .f32)) :
    (outsAt0 m c t.val t.isLt).1 = (on (fun r c => s r c + part U W (t.val / 8) (t.val / 4 % 2) (t.val % 4) r c) : FVec Ideal S1024x1024 .bf16) := by
  rw [outsAt0_C m c t (by omega) (by omega) h3]
  dsimp only
  rw [out_C (blk0 hF t) (blk1 hF t) hs]
  rfl

/-- The block that the last of four points writes. -/
theorem block (n : ℕ) (hn : n < 8) (h : 4 * n + 3 < cfg0.N) : (outsAt0 m c (4 * n + 3) h).1 =
    (on (rows 8192 (cut (1024 * (n / 2)) 0 U) (cut (1024 * (n % 2)) 0 W)) : FVec Ideal S1024x1024 .bf16) := by
  have e0 := first_sum hF ⟨4 * n, by omega⟩ (by show 4 * n % 4 = 0; omega)
  have e1 := next_sum hF ⟨4 * n + 1, by omega⟩ (by show (4 * n + 1) % 4 ≠ 0; omega) (by show (4 * n + 1) % 4 ≠ 3; omega) _ e0
  have e2 := next_sum hF ⟨4 * n + 2, by omega⟩ (by show (4 * n + 2) % 4 ≠ 0; omega) (by show (4 * n + 2) % 4 ≠ 3; omega) _ e1
  have e3 := last_sum hF ⟨4 * n + 3, h⟩ (by show (4 * n + 3) % 4 = 3; omega) _ e2
  refine e3.trans (on_congr fun r _ c _ => ?_)
  dsimp only
  rw [show 4 * n / 8 = n / 2 by omega, show (4 * n + 1) / 8 = n / 2 by omega, show (4 * n + 2) / 8 = n / 2 by omega, show (4 * n + 3) / 8 = n / 2 by omega,
    show 4 * n / 4 = n by omega, show (4 * n + 1) / 4 = n by omega, show (4 * n + 2) / 4 = n by omega, show (4 * n + 3) / 4 = n by omega,
    show (4 * n + 1) % 4 = 1 by omega, show (4 * n + 2) % 4 = 2 by omega, show (4 * n + 3) % 4 = 3 by omega]
  unfold part rows cut
  rw [show 8192 = 4 * 2048 by rfl, sum_four 2048]
  simp only [Nat.mul_comm 2048, zero_add, zero_mul, one_mul]

/-- The kernel's array. -/
theorem array : G2 m c = (on (rows 8192 U W) : FVec Ideal S4096x2048 .bf16) := by
  funext i
  have h0 : (i 0).val < 4096 := (i 0).isLt
  have h1 : (i 1).val < 2048 := (i 1).isLt
  have hN : cfg0.N = 32 := N_0
  unfold G2
  have hr : run2Of i = 2 * ((i 0).val / 1024) + (i 1).val / 1024 := by show 2 * (_ - 0) + 1 * (_ - 0) = _; omega
  have hp : pt2Of i = 4 * run2Of i + 3 := rfl
  rw [dif_pos (by omega), ← outsAt0_sweep m c _ (by omega), block hF (run2Of i) (by omega) (by omega)]
  unfold on rows cut
  dsimp only
  rw [show 1024 * (run2Of i / 2) + (i 0).val % 1024 = (i 0).val by omega, show 1024 * (run2Of i % 2) + (i 1).val % 1024 = (i 1).val by omega]
  simp only [zero_add]
omit hF

/-- The reference's array. -/
theorem formula : Cert.Reference3Ideal.Read.val_main_v5 (F := Ideal) (on U : FVec Ideal S4096x8192 .bf16) (on W : FVec Ideal S2048x8192 .bf16) = (on (rows 8192 U W) : FVec Ideal S4096x2048 .bf16) := by
  funext i
  rw [Cert.Reference3Ideal.Read.val_main_v5_apply, Cert.Reference3Ideal.Read.val_main_v4_apply]
  unfold on rows
  rw [Finset.sum_range]
  rfl

end Cert.Kernel3Ideal.Back

end
-- ==== Proof.Down.lean ====
/- The product of the MLP's down projection: the kernel's array, its four partial products added one after the other
   in an accumulator, and the reference's. -/
module

public import proofs.«01_k».proof.Proof.Product
public import proofs.«01_k».proof.Proof.Gen.Kernel4Ideal.Value
public import proofs.«01_k».proof.Proof.Gen.Reference4Ideal.Read

@[expose] public section

set_option maxRecDepth 16384

noncomputable section

namespace Cert.Kernel4Ideal.Down

open Idealize.ShloMosaic Idealize.ShloMosaic.TcCoe Idealize.SL.Sem Idealize.ShloMosaic.StableHlo Cert.Kernel4Ideal Cert.Kernel4Ideal.Gen Cert.Kernel4Ideal.Value Cert.Product

theorem first (f : ℕ → ℕ → EReal) (g : ℕ → ℕ → EReal) :
    k0_pay1 (F := Ideal) (on f : FVec Ideal S1024x2048 .bf16) (on g : FVec Ideal S2048x1024 .bf16) = on (cols 2048 f g) := by
  unfold k0_pay1
  dsimp only
  funext i; idx_vars i; pointwise [on, cols, Finset.sum_range]

theorem next (s f : ℕ → ℕ → EReal) (g : ℕ → ℕ → EReal) :
    k0_pay2 (F := Ideal) (on s : FVec Ideal S1024x1024 .f32) (on f : FVec Ideal S1024x2048 .bf16) (on g : FVec Ideal S2048x1024 .bf16)
      = on fun r c => s r c + cols 2048 f g r c := by
  unfold k0_pay2
  dsimp only
  funext i; idx_vars i; pointwise [on, cols, Finset.sum_range]

section Bodies

variable {c : Dev nD} {i : grid0.Coords}
  {arg3 : Memref sig .tc .vmem S1024x2048 .bf16} {harg3 : arg3.IsWhole} {arg4 : Memref sig .tc .vmem S2048x1024 .bf16} {harg4 : arg4.IsWhole}
  {arg5 : Memref sig .tc .vmem S1024x1024 .bf16} {harg5 : arg5.IsWhole} {arg6 : Memref sig .tc .vmem S1024x1024 .f32} {harg6 : arg6.IsWhole}
  {s f : ℕ → ℕ → EReal} {g : ℕ → ℕ → EReal}
  {x0 : Vec Ideal S1024x2048 .bf16} {x1 : Vec Ideal S2048x1024 .bf16} {xs : Vec Ideal S1024x1024 .f32}
  (h0 : x0 = (on f : FVec Ideal S1024x2048 .bf16)) (h1 : x1 = (on g : FVec Ideal S2048x1024 .bf16)) (hs : xs = (on s : FVec Ideal S1024x1024 .f32))

theorem two : (![0, 0] : Fin 2 → ℕ) = fun _ => 0 := by decide

include h0 h1

/-- The first part of the sum. -/
theorem left_A {hc0 : cond0_0 i} {hc1 : ¬cond0_1 i} {hc2 : ¬cond0_2 i} :
    sout0_A_0 (F := Ideal) c i arg3 harg3 arg4 harg4 arg5 harg5 arg6 harg6 hc0 hc1 hc2 x0 x1
      = (on (cols 2048 f g) : FVec Ideal S1024x1024 .f32) := by
  subst h0 h1
  unfold sout0_A_0
  rw [View.read_writes_eq_canon _ _ _ (scover0_A_0 c i arg3 harg3 arg4 harg4 arg5 harg5 arg6 harg6 hc0 hc1 hc2 _ _)]
  unfold kernelRun0_A
  dsimp only
  simp only [View.canon_unit_zero (S := S1024x1024) two, View.readAt_eq_ld, harg3.read_unread, harg4.read_unread, View.ld_unit_zero (S := S1024x2048) two,
    View.ld_unit_zero (S := S2048x1024) two]
  exact first f g

include hs
/-- A further part of the sum. -/
theorem left_B {hc0 : ¬cond0_0 i} {hc1 : cond0_1 i} {hc2 : ¬cond0_2 i} :
    sout0_B_0 (F := Ideal) c i arg3 harg3 arg4 harg4 arg5 harg5 arg6 harg6 hc0 hc1 hc2 x0 x1 xs
      = (on (fun r c => s r c + cols 2048 f g r c) : FVec Ideal S1024x1024 .f32) := by
  subst h0 h1 hs
  unfold sout0_B_0
  rw [View.read_writes_eq_canon _ _ _ (scover0_B_0 c i arg3 harg3 arg4 harg4 arg5 harg5 arg6 harg6 hc0 hc1 hc2 _ _ _)]
  unfold kernelRun0_B
  dsimp only
  simp only [View.canon_unit_zero (S := S1024x1024) two, View.readAt_eq_ld, harg3.read_unread, harg4.read_unread, harg6.read_unread, View.ld_unit_zero (S := S1024x2048) two,
    View.ld_unit_zero (S := S2048x1024) two, View.ld_unit_zero (S := S1024x1024) two]
  exact next s f g

/-- The whole sum, stored. -/
theorem out_C {hc0 : ¬cond0_0 i} {hc1 : cond0_1 i} {hc2 : cond0_2 i} :
    out0_C_2 (F := Ideal) c i arg3 harg3 arg4 harg4 arg5 harg5 arg6 harg6 hc0 hc1 hc2 x0 x1 xs
      = (on (fun r c => s r c + cols 2048 f g r c) : FVec Ideal S1024x1024 .bf16) := by
  subst h0 h1 hs
  unfold out0_C_2
  rw [View.read_writes_eq_canon _ _ _ (cover0_C_2 c i arg3 harg3 arg4 harg4 arg5 harg5 arg6 harg6 hc0 hc1 hc2 _ _ _)]
  unfold kernelRun0_C
  dsimp only
  sl_unfold_words
  simp only [View.canon_unit_zero (S := S1024x1024) two, View.readAt_eq_ld, harg3.read_unread, harg4.read_unread, harg6.read_unread, View.ld_unit_zero (S := S1024x2048) two,
    View.ld_unit_zero (S := S2048x1024) two, View.ld_unit_zero (S := S1024x1024) two]
  exact (congrArg k0_pay3 ((View.readCov_unit_zero (S := S1024x1024) arg6.view two _ _).trans (next s f g))).trans rfl

end Bodies

variable (m : (ℓ : Loc nD τ sig) → Buf (Elt Ideal) ℓ) (c : Dev nD) (U W : ℕ → ℕ → EReal)

/-- What the program's arguments hold. -/
structure Fed : Prop where
  u : m ((c : Thread nD τ).loc main_arg0) = (on U : FVec Ideal S4096x8192 .bf16)
  w : m ((c : Thread nD τ).loc main_arg1) = (on W : FVec Ideal S8192x2048 .bf16)

variable {m c U W} (hF : Fed m c U W) (t : Fin cfg0.N)
include hF

omit hF in
theorem places : ∀ t : Fin cfg0.N,
    win0_0.index t (0 : Fin 2) = t.val / 8 ∧ win0_0.index t (1 : Fin 2) = t.val % 4 ∧
    win0_1.index t (0 : Fin 2) = t.val % 4 ∧ win0_1.index t (1 : Fin 2) = t.val / 4 % 2 :=
  (by decide +kernel : ∀ t : Fin grid0.N, _)

theorem blk0 : iblk m c 0 t = (on (cut (1024 * (t.val / 8)) (2048 * (t.val % 4)) U) : FVec Ideal S1024x2048 .bf16) := by
  obtain ⟨a0, b0, a1, b1⟩ := places t
  funext y
  refine (congrFun ((V_main_arg0 m c).trans hF.u) _).trans ?_
  show U (win0_0.index t (0 : Fin 2) * 1024 + 1 * (y 0).val) (win0_0.index t (1 : Fin 2) * 2048 + 1 * (y 1).val) = _
  rw [a0, b0]
  unfold on cut
  congr 1 <;> omega

theorem blk1 : iblk m c 1 t = (on (cut (2048 * (t.val % 4)) (1024 * (t.val / 4 % 2)) W) : FVec Ideal S2048x1024 .bf16) := by
  obtain ⟨a0, b0, a1, b1⟩ := places t
  funext y
  refine (congrFun ((V_main_arg1 m c).trans hF.w) _).trans ?_
  show W (win0_1.index t (0 : Fin 2) * 2048 + 1 * (y 0).val) (win0_1.index t (1 : Fin 2) * 1024 + 1 * (y 1).val) = _
  rw [a1, b1]
  unfold on cut
  congr 1 <;> omega

/-- The part of the sum that point `t` adds. -/
def part (U W : ℕ → ℕ → EReal) (p q k : ℕ) : ℕ → ℕ → EReal := cols 2048 (cut (1024 * p) (2048 * k) U) (cut (2048 * k) (1024 * q) W)

theorem first_sum (h : t.val % 4 = 0) : (outsAt0 m c t.val t.isLt).2 = (on (part U W (t.val / 8) (t.val / 4 % 2) 0) : FVec Ideal S1024x1024 .f32) := by
  rw [outsAt0_A m c t h (by omega) (by omega)]
  dsimp only
  rw [left_A (blk0 hF t) (blk1 hF t), h]
  rfl

theorem next_sum (h0 : t.val % 4 ≠ 0) (h3 : t.val % 4 ≠ 3) (s : ℕ → ℕ → EReal)
    (hs : (outsAt0 m c (t.val - 1) (Nat.lt_of_le_of_lt (Nat.sub_le _ _) t.isLt)).2 = (on s : FVec Ideal S1024x1024 .f32)) :
    (outsAt0 m c t.val t.isLt).2 = (on (fun r c => s r c + part U W (t.val / 8) (t.val / 4 % 2) (t.val % 4) r c) : FVec Ideal S1024x1024 .f32) := by
  rw [outsAt0_B m c t h0 (by omega) h3]
  dsimp only
  rw [left_B (blk0 hF t) (blk1 hF t) hs]
  rfl

theorem last_sum (h3 : t.val % 4 = 3) (s : ℕ → ℕ → EReal)
    (hs : (outsAt0 m c (t.val - 1) (Nat.lt_of_le_of_lt (Nat.sub_le _ _) t.isLt)).2 = (on s : FVec Ideal S1024x1024 .f32)) :
    (outsAt0 m c t.val t.isLt).1 = (on (fun r c => s r c + part U W (t.val / 8) (t.val / 4 % 2) (t.val % 4) r c) : FVec Ideal S1024x1024 .bf16) := by
  rw [outsAt0_C m c t (by omega) (by omega) h3]
  dsimp only
  rw [out_C (blk0 hF t) (blk1 hF t) hs]
  rfl

/-- The block that the last of four points writes. -/
theorem block (n : ℕ) (hn : n < 8) (h : 4 * n + 3 < cfg0.N) : (outsAt0 m c (4 * n + 3) h).1 =
    (on (cols 8192 (cut (1024 * (n / 2)) 0 U) (cut 0 (1024 * (n % 2)) W)) : FVec Ideal S1024x1024 .bf16) := by
  have e0 := first_sum hF ⟨4 * n, by omega⟩ (by show 4 * n % 4 = 0; omega)
  have e1 := next_sum hF ⟨4 * n + 1, by omega⟩ (by show (4 * n + 1) % 4 ≠ 0; omega) (by show (4 * n + 1) % 4 ≠ 3; omega) _ e0
  have e2 := next_sum hF ⟨4 * n + 2, by omega⟩ (by show (4 * n + 2) % 4 ≠ 0; omega) (by show (4 * n + 2) % 4 ≠ 3; omega) _ e1
  have e3 := last_sum hF ⟨4 * n + 3, h⟩ (by show (4 * n + 3) % 4 = 3; omega) _ e2
  refine e3.trans (on_congr fun r _ c _ => ?_)
  dsimp only
  rw [show 4 * n / 8 = n / 2 by omega, show (4 * n + 1) / 8 = n / 2 by omega, show (4 * n + 2) / 8 = n / 2 by omega, show (4 * n + 3) / 8 = n / 2 by omega,
    show 4 * n / 4 = n by omega, show (4 * n + 1) / 4 = n by omega, show (4 * n + 2) / 4 = n by omega, show (4 * n + 3) / 4 = n by omega,
    show (4 * n + 1) % 4 = 1 by omega, show (4 * n + 2) % 4 = 2 by omega, show (4 * n + 3) % 4 = 3 by omega]
  unfold part cols cut
  rw [show 8192 = 4 * 2048 by rfl, sum_four 2048]
  simp only [Nat.mul_comm 2048, zero_add, zero_mul, one_mul]

/-- The kernel's array. -/
theorem array : G2 m c = (on (cols 8192 U W) : FVec Ideal S4096x2048 .bf16) := by
  funext i
  have h0 : (i 0).val < 4096 := (i 0).isLt
  have h1 : (i 1).val < 2048 := (i 1).isLt
  have hN : cfg0.N = 32 := N_0
  unfold G2
  have hr : run2Of i = 2 * ((i 0).val / 1024) + (i 1).val / 1024 := by show 2 * (_ - 0) + 1 * (_ - 0) = _; omega
  have hp : pt2Of i = 4 * run2Of i + 3 := rfl
  rw [dif_pos (by omega), ← outsAt0_sweep m c _ (by omega), block hF (run2Of i) (by omega) (by omega)]
  unfold on cols cut
  dsimp only
  rw [show 1024 * (run2Of i / 2) + (i 0).val % 1024 = (i 0).val by omega, show 1024 * (run2Of i % 2) + (i 1).val % 1024 = (i 1).val by omega]
  simp only [zero_add]
omit hF

/-- The reference's array. -/
theorem formula : Cert.Reference4Ideal.Read.val_main_v3 (F := Ideal) (on U : FVec Ideal S4096x8192 .bf16) (on W : FVec Ideal S8192x2048 .bf16) = (on (cols 8192 U W) : FVec Ideal S4096x2048 .bf16) := by
  funext i
  rw [Cert.Reference4Ideal.Read.val_main_v3_apply, Cert.Reference4Ideal.Read.val_main_v2_apply]
  unfold on cols
  rw [Finset.sum_range]
  rfl

end Cert.Kernel4Ideal.Down

end
-- ==== Proof.Up.lean ====
/- The product of the MLP's up projection with its squared relu: the kernel's two arrays and the reference's. -/
module

public import proofs.«01_k».proof.Proof.Product
public import proofs.«01_k».proof.Proof.Gen.Kernel5Ideal.Value
public import proofs.«01_k».proof.Proof.Gen.Reference5Ideal.Read

@[expose] public section

set_option maxRecDepth 16384

noncomputable section

namespace Cert.Kernel5Ideal.Up

open Idealize.ShloMosaic Idealize.ShloMosaic.TcCoe Idealize.SL.Sem Idealize.ShloMosaic.StableHlo Cert.Kernel5Ideal Cert.Kernel5Ideal.Gen Cert.Kernel5Ideal.Value Cert.Product

theorem two : (![0, 0] : Fin 2 → ℕ) = fun _ => 0 := by decide
theorem three : (![0, 0, 0] : Fin 3 → ℕ) = fun _ => 0 := by decide

/-- The squared relu's two arrays: the activation and its square. -/
def act (f g : ℕ → ℕ → EReal) : ℕ → ℕ → EReal := fun r c => max (cols 2048 f g r c) 0
def sqr (f g : ℕ → ℕ → EReal) : ℕ → ℕ → EReal := fun r c => act f g r c * act f g r c

theorem tile (f : ℕ → ℕ → EReal) (g : ℕ → ℕ → ℕ → EReal) :
    k0_pay1 (F := Ideal) (on f : FVec Ideal S1024x2048 .bf16) (on3 g : FVec Ideal S1x2048x1024 .bf16) = (on (cols 2048 f (g 0)) : FVec Ideal S1024x1024 .f32) := by
  unfold k0_pay1
  rw [slot_on]
  dsimp only
  funext i; idx_vars i; pointwise [on, cols, Finset.sum_range]

theorem out2 (f : ℕ → ℕ → EReal) (g : ℕ → ℕ → ℕ → EReal) :
    out0_2 (F := Ideal) (on f : FVec Ideal S1024x2048 .bf16) (on3 g : FVec Ideal S1x2048x1024 .bf16) = (on (act f (g 0)) : FVec Ideal S1024x1024 .bf16) := by
  unfold out0_2
  rw [View.canon_unit_zero (S := S1024x1024) two, View.ld_unit_zero (S := S1024x2048) two, View.ld_unit_zero (S := S1x2048x1024) three]
  unfold k0_pay2
  rw [tile]
  dsimp only
  funext i; idx_vars i; pointwise [on, act, zero_lit]

theorem out3 (f : ℕ → ℕ → EReal) (g : ℕ → ℕ → ℕ → EReal) :
    out0_3 (F := Ideal) (on f : FVec Ideal S1024x2048 .bf16) (on3 g : FVec Ideal S1x2048x1024 .bf16) = (on (sqr f (g 0)) : FVec Ideal S1024x1024 .bf16) := by
  unfold out0_3
  rw [View.canon_unit_zero (S := S1024x1024) two, View.ld_unit_zero (S := S1024x2048) two, View.ld_unit_zero (S := S1x2048x1024) three]
  unfold k0_pay3
  rw [tile]
  dsimp only
  funext i; idx_vars i; pointwise [on, act, sqr, zero_lit]

variable (m : (ℓ : Loc nD τ sig) → Buf (Elt Ideal) ℓ) (c : Dev nD) (H W : ℕ → ℕ → EReal)

/-- What the program's arguments hold. -/
structure Fed : Prop where
  h : m ((c : Thread nD τ).loc main_arg0) = (on H : FVec Ideal S4096x2048 .bf16)
  w : m ((c : Thread nD τ).loc main_arg1) = (on W : FVec Ideal S2048x8192 .bf16)

variable {m c H W} (hF : Fed m c H W) (t : Fin cfg0.N)
include hF

/-- The weights, as the host lays them out: one slot for each 2048 columns. -/
theorem slots : V m c main_v1 = (on3 fun s r k => W r (2048 * s + k) : FVec Ideal S4x2048x2048 .bf16) := by
  unfold V
  simp only [hostOps0, List.flatten_cons, List.flatten_nil, List.append_nil, List.cons_append,
      List.nil_append, TRef.binary, TRef.nullary, TRef.ternary, TRef.unary, TRef.toBuf, TRef.ofBuf, cast_eq]
  after_results_simp
  rw [hF.w]
  funext i; idx_vars i; pointwise [on, on3]
  rw [Nat.mul_comm]

omit hF in
theorem places : ∀ t : Fin cfg0.N,
    win0_0.index t (0 : Fin 2) = t.val / 8 ∧ win0_0.index t (1 : Fin 2) = 0 ∧
    win0_1.index t (0 : Fin 3) = t.val % 8 / 2 ∧ win0_1.index t (1 : Fin 3) = 0 ∧ win0_1.index t (2 : Fin 3) = t.val % 2 ∧
    win0_2.index t (0 : Fin 2) = t.val / 8 ∧ win0_2.index t (1 : Fin 2) = t.val % 8 ∧ win0_2.flush t = true ∧
    win0_3.index t (0 : Fin 2) = t.val / 8 ∧ win0_3.index t (1 : Fin 2) = t.val % 8 ∧ win0_3.flush t = true :=
  (by decide +kernel : ∀ t : Fin grid0.N, _)

theorem blk0 : iblk m c 0 t = (on (cut (1024 * (t.val / 8)) 0 H) : FVec Ideal S1024x2048 .bf16) := by
  obtain ⟨a0, b0, -⟩ := places t
  funext y
  refine (congrFun ((V_main_arg0 m c).trans hF.h) _).trans ?_
  show H (win0_0.index t (0 : Fin 2) * 1024 + 1 * (y 0).val) (win0_0.index t (1 : Fin 2) * 2048 + 1 * (y 1).val) = _
  rw [a0, b0]
  unfold on cut
  congr 1 <;> omega

theorem blk1 : iblk m c 1 t = (on3 (fun _ => cut 0 (1024 * (t.val % 8)) W) : FVec Ideal S1x2048x1024 .bf16) := by
  obtain ⟨-, -, a1, b1, c1, -⟩ := places t
  funext y
  have hy : (y 0).val < 1 := (y 0).isLt
  refine (congrFun (slots hF) _).trans ?_
  show W (win0_1.index t (1 : Fin 3) * 2048 + 1 * (y 1).val) (2048 * (win0_1.index t (0 : Fin 3) * 1 + 1 * (y 0).val)
    + (win0_1.index t (2 : Fin 3) * 1024 + 1 * (y 2).val)) = _
  rw [a1, b1, c1]
  unfold on3 cut
  congr 1 <;> omega

/-- The block and the place in it that hold index `(r, k)`. -/
def point (i : S4096x8192.Idx) : Fin cfg0.N :=
  ⟨8 * ((i 0).val / 1024) + (i 1).val / 1024, by
    have h0 : (i 0).val < 4096 := (i 0).isLt
    have h1 : (i 1).val < 8192 := (i 1).isLt
    rw [show cfg0.N = 32 from N_0]; omega⟩
def place (i : S4096x8192.Idx) : S1024x1024.Idx :=
  ix2 ⟨(i 0).val % 1024, Nat.mod_lt _ (by decide)⟩ ⟨(i 1).val % 1024, Nat.mod_lt _ (by decide)⟩

/-- The kernel's activations. -/
theorem array2 : (dats m 0 c).arrAt 2 cfg0.N = (on (act H W) : FVec Ideal S4096x8192 .bf16) := by
  funext i
  have h0 : (i 0).val < 4096 := (i 0).isLt
  have h1 : (i 1).val < 8192 := (i 1).isLt
  have ht : (point i).val = 8 * ((i 0).val / 1024) + (i 1).val / 1024 := rfl
  obtain ⟨-, -, -, -, -, a, b, hf, -⟩ := places (point i)
  have e := congrFun ((blocks2 m c (point i) hf).trans (flushed2 m c (point i))) (place i)
  have hi : ((cfg0.win 2).blk (point i)).view.emb (place i) = i := by
    funext x
    match x with
    | ⟨0, _⟩ =>
      apply Fin.ext
      show win0_2.index (point i) (0 : Fin 2) * 1024 + 1 * ((i 0).val % 1024) = (i 0).val
      rw [a]; omega
    | ⟨1, _⟩ =>
      apply Fin.ext
      show win0_2.index (point i) (1 : Fin 2) * 1024 + 1 * ((i 1).val % 1024) = (i 1).val
      rw [b]; omega
  refine (congrArg ((dats m 0 c).arrAt 2 cfg0.N) hi.symm).trans (e.trans ?_)
  rw [blk0 hF (point i), blk1 hF (point i), out2]
  show (act (cut (1024 * ((point i).val / 8)) 0 H) (cut 0 (1024 * ((point i).val % 8)) W)) ((i 0).val % 1024) ((i 1).val % 1024) = _
  unfold act cols cut on
  rw [show 1024 * ((point i).val / 8) + (i 0).val % 1024 = (i 0).val by omega, show 1024 * ((point i).val % 8) + (i 1).val % 1024 = (i 1).val by omega]
  simp only [zero_add]

/-- The kernel's squared activations. -/
theorem array3 : (dats m 0 c).arrAt 3 cfg0.N = (on (sqr H W) : FVec Ideal S4096x8192 .bf16) := by
  funext i
  have h0 : (i 0).val < 4096 := (i 0).isLt
  have h1 : (i 1).val < 8192 := (i 1).isLt
  have ht : (point i).val = 8 * ((i 0).val / 1024) + (i 1).val / 1024 := rfl
  obtain ⟨-, -, -, -, -, -, -, -, a, b, hf⟩ := places (point i)
  have e := congrFun ((blocks3 m c (point i) hf).trans (flushed3 m c (point i))) (place i)
  have hi : ((cfg0.win 3).blk (point i)).view.emb (place i) = i := by
    funext x
    match x with
    | ⟨0, _⟩ =>
      apply Fin.ext
      show win0_3.index (point i) (0 : Fin 2) * 1024 + 1 * ((i 0).val % 1024) = (i 0).val
      rw [a]; omega
    | ⟨1, _⟩ =>
      apply Fin.ext
      show win0_3.index (point i) (1 : Fin 2) * 1024 + 1 * ((i 1).val % 1024) = (i 1).val
      rw [b]; omega
  refine (congrArg ((dats m 0 c).arrAt 3 cfg0.N) hi.symm).trans (e.trans ?_)
  rw [blk0 hF (point i), blk1 hF (point i), out3]
  show (sqr (cut (1024 * ((point i).val / 8)) 0 H) (cut 0 (1024 * ((point i).val % 8)) W)) ((i 0).val % 1024) ((i 1).val % 1024) = _
  unfold sqr act cols cut on
  rw [show 1024 * ((point i).val / 8) + (i 0).val % 1024 = (i 0).val by omega, show 1024 * ((point i).val % 8) + (i 1).val % 1024 = (i 1).val by omega]
  simp only [zero_add]
omit hF

/-- The reference's activations. -/
theorem formula2 : Cert.Reference5Ideal.Read.val_main_v4 (F := Ideal) (on H : FVec Ideal S4096x2048 .bf16) (on W : FVec Ideal S2048x8192 .bf16)
    = (on (act H W) : FVec Ideal S4096x8192 .bf16) := by
  funext i
  rw [Cert.Reference5Ideal.Read.val_main_v4_apply, Cert.Reference5Ideal.Read.val_main_v3_apply, Cert.Reference5Ideal.Read.val_main_v2_apply, Cert.Reference5Ideal.Read.val_main_call0_v0_apply, Cert.Reference5Ideal.Read.val_main_call0_cst_apply]
  refine (congrArg (max _) zero_lit).trans ?_
  unfold on act cols
  rw [Finset.sum_range]
  rfl

/-- The reference's squared activations. -/
theorem formula3 : Cert.Reference5Ideal.Read.val_main_v6 (F := Ideal) (on H : FVec Ideal S4096x2048 .bf16) (on W : FVec Ideal S2048x8192 .bf16)
    = (on (sqr H W) : FVec Ideal S4096x8192 .bf16) := by
  funext i
  rw [Cert.Reference5Ideal.Read.val_main_v6_apply, Cert.Reference5Ideal.Read.val_main_v5_apply, Cert.Reference5Ideal.Read.val_main_v3_apply, Cert.Reference5Ideal.Read.val_main_v2_apply, Cert.Reference5Ideal.Read.val_main_call0_v0_apply, Cert.Reference5Ideal.Read.val_main_call0_cst_apply]
  have e := congrFun (formula2 (H := H) (W := W)) i
  rw [Cert.Reference5Ideal.Read.val_main_v4_apply, Cert.Reference5Ideal.Read.val_main_v3_apply, Cert.Reference5Ideal.Read.val_main_v2_apply,
    Cert.Reference5Ideal.Read.val_main_call0_v0_apply, Cert.Reference5Ideal.Read.val_main_call0_cst_apply] at e
  exact congrArg₂ (fun x y : EReal => x * y) e e

end Cert.Kernel5Ideal.Up

end
-- ==== Proof.Qkv.lean ====
/- The projection to queries, keys and values: the kernel's array and the reference's. -/
module

public import proofs.«01_k».proof.Proof.Product
public import proofs.«01_k».proof.Proof.Gen.Kernel6Ideal.Value
public import proofs.«01_k».proof.Proof.Gen.Reference6Ideal.Read

@[expose] public section

set_option maxRecDepth 16384

noncomputable section

namespace Cert.Kernel6Ideal.Qkv

open Idealize.ShloMosaic Idealize.ShloMosaic.TcCoe Idealize.SL.Sem Idealize.ShloMosaic.StableHlo Cert.Kernel6Ideal Cert.Kernel6Ideal.Gen Cert.Kernel6Ideal.Value Cert.Product

theorem two : (![0, 0] : Fin 2 → ℕ) = fun _ => 0 := by decide
theorem three : (![0, 0, 0] : Fin 3 → ℕ) = fun _ => 0 := by decide

theorem tile (f : ℕ → ℕ → EReal) (g : ℕ → ℕ → ℕ → EReal) :
    k0_pay1 (F := Ideal) (on f : FVec Ideal S1024x2048 .bf16) (on3 g : FVec Ideal S1x2048x768 .bf16) = (on (cols 2048 f (g 0)) : FVec Ideal S1024x768 .bf16) := by
  unfold k0_pay1
  rw [slot_on]
  dsimp only
  funext i; idx_vars i; pointwise [on, cols, Finset.sum_range]

theorem out2 (f : ℕ → ℕ → EReal) (g : ℕ → ℕ → ℕ → EReal) :
    out0_2 (F := Ideal) (on f : FVec Ideal S1024x2048 .bf16) (on3 g : FVec Ideal S1x2048x768 .bf16) = (on (cols 2048 f (g 0)) : FVec Ideal S1024x768 .bf16) := by
  unfold out0_2
  rw [View.canon_unit_zero (S := S1024x768) two, View.ld_unit_zero (S := S1024x2048) two, View.ld_unit_zero (S := S1x2048x768) three]
  exact tile f g

variable (m : (ℓ : Loc nD τ sig) → Buf (Elt Ideal) ℓ) (c : Dev nD) (H W : ℕ → ℕ → EReal)

/-- What the program's arguments hold. -/
structure Fed : Prop where
  h : m ((c : Thread nD τ).loc main_arg0) = (on H : FVec Ideal S4096x2048 .bf16)
  w : m ((c : Thread nD τ).loc main_arg1) = (on W : FVec Ideal S2048x6144 .bf16)

variable {m c H W} (hF : Fed m c H W) (t : Fin cfg0.N)
include hF

/-- The weights, as the host lays them out: one slot for each 1536 columns. -/
theorem slots : V m c main_v1 = (on3 fun s r k => W r (1536 * s + k) : FVec Ideal S4x2048x1536 .bf16) := by
  unfold V
  simp only [hostOps0, List.flatten_cons, List.flatten_nil, List.append_nil, List.cons_append,
      List.nil_append, TRef.binary, TRef.nullary, TRef.ternary, TRef.unary, TRef.toBuf, TRef.ofBuf, cast_eq]
  after_results_simp
  rw [hF.w]
  funext i; idx_vars i; pointwise [on, on3]
  rw [Nat.mul_comm]

omit hF in
theorem places : ∀ t : Fin cfg0.N,
    win0_0.index t (0 : Fin 2) = t.val / 8 ∧ win0_0.index t (1 : Fin 2) = 0 ∧
    win0_1.index t (0 : Fin 3) = t.val % 8 / 2 ∧ win0_1.index t (1 : Fin 3) = 0 ∧ win0_1.index t (2 : Fin 3) = t.val % 2 ∧
    win0_2.index t (0 : Fin 2) = t.val / 8 ∧ win0_2.index t (1 : Fin 2) = t.val % 8 ∧ win0_2.flush t = true :=
  (by decide +kernel : ∀ t : Fin grid0.N, _)

theorem blk0 : iblk m c 0 t = (on (cut (1024 * (t.val / 8)) 0 H) : FVec Ideal S1024x2048 .bf16) := by
  obtain ⟨a0, b0, -⟩ := places t
  funext y
  refine (congrFun ((V_main_arg0 m c).trans hF.h) _).trans ?_
  show H (win0_0.index t (0 : Fin 2) * 1024 + 1 * (y 0).val) (win0_0.index t (1 : Fin 2) * 2048 + 1 * (y 1).val) = _
  rw [a0, b0]
  unfold on cut
  congr 1 <;> omega

theorem blk1 : iblk m c 1 t = (on3 (fun _ => cut 0 (768 * (t.val % 8)) W) : FVec Ideal S1x2048x768 .bf16) := by
  obtain ⟨-, -, a1, b1, c1, -⟩ := places t
  funext y
  have hy : (y 0).val < 1 := (y 0).isLt
  refine (congrFun (slots hF) _).trans ?_
  show W (win0_1.index t (1 : Fin 3) * 2048 + 1 * (y 1).val) (1536 * (win0_1.index t (0 : Fin 3) * 1 + 1 * (y 0).val)
    + (win0_1.index t (2 : Fin 3) * 768 + 1 * (y 2).val)) = _
  rw [a1, b1, c1]
  unfold on3 cut
  congr 1 <;> omega

/-- The block and the place in it that hold index `(r, k)`. -/
def point (i : S4096x6144.Idx) : Fin cfg0.N :=
  ⟨8 * ((i 0).val / 1024) + (i 1).val / 768, by
    have h0 : (i 0).val < 4096 := (i 0).isLt
    have h1 : (i 1).val < 6144 := (i 1).isLt
    rw [show cfg0.N = 32 from N_0]; omega⟩
def place (i : S4096x6144.Idx) : S1024x768.Idx :=
  ix2 ⟨(i 0).val % 1024, Nat.mod_lt _ (by decide)⟩ ⟨(i 1).val % 768, Nat.mod_lt _ (by decide)⟩

/-- The kernel's array. -/
theorem array2 : (dats m 0 c).arrAt 2 cfg0.N = (on (cols 2048 H W) : FVec Ideal S4096x6144 .bf16) := by
  funext i
  have h0 : (i 0).val < 4096 := (i 0).isLt
  have h1 : (i 1).val < 6144 := (i 1).isLt
  have ht : (point i).val = 8 * ((i 0).val / 1024) + (i 1).val / 768 := rfl
  obtain ⟨-, -, -, -, -, a, b, hf⟩ := places (point i)
  have e := congrFun ((blocks2 m c (point i) hf).trans (flushed2 m c (point i))) (place i)
  have hi : ((cfg0.win 2).blk (point i)).view.emb (place i) = i := by
    funext x
    match x with
    | ⟨0, _⟩ =>
      apply Fin.ext
      show win0_2.index (point i) (0 : Fin 2) * 1024 + 1 * ((i 0).val % 1024) = (i 0).val
      rw [a]; omega
    | ⟨1, _⟩ =>
      apply Fin.ext
      show win0_2.index (point i) (1 : Fin 2) * 768 + 1 * ((i 1).val % 768) = (i 1).val
      rw [b]; omega
  refine (congrArg ((dats m 0 c).arrAt 2 cfg0.N) hi.symm).trans (e.trans ?_)
  rw [blk0 hF (point i), blk1 hF (point i), out2]
  show (cols 2048 (cut (1024 * ((point i).val / 8)) 0 H) (cut 0 (768 * ((point i).val % 8)) W)) ((i 0).val % 1024) ((i 1).val % 768) = _
  unfold cols cut on
  rw [show 1024 * ((point i).val / 8) + (i 0).val % 1024 = (i 0).val by omega, show 768 * ((point i).val % 8) + (i 1).val % 768 = (i 1).val by omega]
  simp only [zero_add]
omit hF

/-- The reference's array. -/
theorem formula : Cert.Reference6Ideal.Read.val_main_v3 (F := Ideal) (on H : FVec Ideal S4096x2048 .bf16) (on W : FVec Ideal S2048x6144 .bf16)
    = (on (cols 2048 H W) : FVec Ideal S4096x6144 .bf16) := by
  funext i
  rw [Cert.Reference6Ideal.Read.val_main_v3_apply, Cert.Reference6Ideal.Read.val_main_v2_apply]
  unfold on cols
  rw [Finset.sum_range]
  rfl

end Cert.Kernel6Ideal.Qkv

end
-- ==== Proof.QkvBack.lean ====
/- The backward product of the projection to queries, keys and values: the kernel's array, its four partial products added one after the other
   in an accumulator, and the reference's. -/
module

public import proofs.«01_k».proof.Proof.Product
public import proofs.«01_k».proof.Proof.Gen.Kernel7Ideal.Value
public import proofs.«01_k».proof.Proof.Gen.Reference7Ideal.Read

@[expose] public section

set_option maxRecDepth 16384

noncomputable section

namespace Cert.Kernel7Ideal.Back

open Idealize.ShloMosaic Idealize.ShloMosaic.TcCoe Idealize.SL.Sem Idealize.ShloMosaic.StableHlo Cert.Kernel7Ideal Cert.Kernel7Ideal.Gen Cert.Kernel7Ideal.Value Cert.Product

theorem first (f : ℕ → ℕ → EReal) (g : ℕ → ℕ → ℕ → EReal) :
    k0_pay1 (F := Ideal) (on f : FVec Ideal S1024x1536 .bf16) (on3 g : FVec Ideal S1x1024x1536 .bf16) = on (rows 1536 f (g 0)) := by
  unfold k0_pay1
  rw [slot_on]
  dsimp only
  funext i; idx_vars i; pointwise [on, rows, Finset.sum_range]

theorem next (s f : ℕ → ℕ → EReal) (g : ℕ → ℕ → ℕ → EReal) :
    k0_pay2 (F := Ideal) (on s : FVec Ideal S1024x1024 .f32) (on f : FVec Ideal S1024x1536 .bf16) (on3 g : FVec Ideal S1x1024x1536 .bf16)
      = on fun r c => s r c + rows 1536 f (g 0) r c := by
  unfold k0_pay2
  rw [slot_on]
  dsimp only
  funext i; idx_vars i; pointwise [on, rows, Finset.sum_range]

section Bodies

variable {c : Dev nD} {i : grid0.Coords}
  {arg3 : Memref sig .tc .vmem S1024x1536 .bf16} {harg3 : arg3.IsWhole} {arg4 : Memref sig .tc .vmem S1x1024x1536 .bf16} {harg4 : arg4.IsWhole}
  {arg5 : Memref sig .tc .vmem S1024x1024 .bf16} {harg5 : arg5.IsWhole} {arg6 : Memref sig .tc .vmem S1024x1024 .f32} {harg6 : arg6.IsWhole}
  {s f : ℕ → ℕ → EReal} {g : ℕ → ℕ → ℕ → EReal}
  {x0 : Vec Ideal S1024x1536 .bf16} {x1 : Vec Ideal S1x1024x1536 .bf16} {xs : Vec Ideal S1024x1024 .f32}
  (h0 : x0 = (on f : FVec Ideal S1024x1536 .bf16)) (h1 : x1 = (on3 g : FVec Ideal S1x1024x1536 .bf16)) (hs : xs = (on s : FVec Ideal S1024x1024 .f32))

theorem two : (![0, 0] : Fin 2 → ℕ) = fun _ => 0 := by decide
theorem three : (![0, 0, 0] : Fin 3 → ℕ) = fun _ => 0 := by decide

include h0 h1

/-- The first part of the sum. -/
theorem left_A {hc0 : cond0_0 i} {hc1 : ¬cond0_1 i} {hc2 : ¬cond0_2 i} :
    sout0_A_0 (F := Ideal) c i arg3 harg3 arg4 harg4 arg5 harg5 arg6 harg6 hc0 hc1 hc2 x0 x1
      = (on (rows 1536 f (g 0)) : FVec Ideal S1024x1024 .f32) := by
  subst h0 h1
  unfold sout0_A_0
  rw [View.read_writes_eq_canon _ _ _ (scover0_A_0 c i arg3 harg3 arg4 harg4 arg5 harg5 arg6 harg6 hc0 hc1 hc2 _ _)]
  unfold kernelRun0_A
  dsimp only
  simp only [View.canon_unit_zero (S := S1024x1024) two, View.readAt_eq_ld, harg3.read_unread, harg4.read_unread, View.ld_unit_zero (S := S1024x1536) two,
    View.ld_unit_zero (S := S1x1024x1536) three]
  exact first f g

include hs
/-- A further part of the sum. -/
theorem left_B {hc0 : ¬cond0_0 i} {hc1 : cond0_1 i} {hc2 : ¬cond0_2 i} :
    sout0_B_0 (F := Ideal) c i arg3 harg3 arg4 harg4 arg5 harg5 arg6 harg6 hc0 hc1 hc2 x0 x1 xs
      = (on (fun r c => s r c + rows 1536 f (g 0) r c) : FVec Ideal S1024x1024 .f32) := by
  subst h0 h1 hs
  unfold sout0_B_0
  rw [View.read_writes_eq_canon _ _ _ (scover0_B_0 c i arg3 harg3 arg4 harg4 arg5 harg5 arg6 harg6 hc0 hc1 hc2 _ _ _)]
  unfold kernelRun0_B
  dsimp only
  simp only [View.canon_unit_zero (S := S1024x1024) two, View.readAt_eq_ld, harg3.read_unread, harg4.read_unread, harg6.read_unread, View.ld_unit_zero (S := S1024x1536) two,
    View.ld_unit_zero (S := S1x1024x1536) three, View.ld_unit_zero (S := S1024x1024) two]
  exact next s f g

/-- The whole sum, stored. -/
theorem out_C {hc0 : ¬cond0_0 i} {hc1 : cond0_1 i} {hc2 : cond0_2 i} :
    out0_C_2 (F := Ideal) c i arg3 harg3 arg4 harg4 arg5 harg5 arg6 harg6 hc0 hc1 hc2 x0 x1 xs
      = (on (fun r c => s r c + rows 1536 f (g 0) r c) : FVec Ideal S1024x1024 .bf16) := by
  subst h0 h1 hs
  unfold out0_C_2
  rw [View.read_writes_eq_canon _ _ _ (cover0_C_2 c i arg3 harg3 arg4 harg4 arg5 harg5 arg6 harg6 hc0 hc1 hc2 _ _ _)]
  unfold kernelRun0_C
  dsimp only
  sl_unfold_words
  simp only [View.canon_unit_zero (S := S1024x1024) two, View.readAt_eq_ld, harg3.read_unread, harg4.read_unread, harg6.read_unread, View.ld_unit_zero (S := S1024x1536) two,
    View.ld_unit_zero (S := S1x1024x1536) three, View.ld_unit_zero (S := S1024x1024) two]
  exact (congrArg k0_pay3 ((View.readCov_unit_zero (S := S1024x1024) arg6.view two _ _).trans (next s f g))).trans rfl

end Bodies

variable (m : (ℓ : Loc nD τ sig) → Buf (Elt Ideal) ℓ) (c : Dev nD) (U W : ℕ → ℕ → EReal)

/-- What the program's arguments hold. -/
structure Fed : Prop where
  u : m ((c : Thread nD τ).loc main_arg0) = (on U : FVec Ideal S4096x6144 .bf16)
  w : m ((c : Thread nD τ).loc main_arg1) = (on W : FVec Ideal S2048x6144 .bf16)

variable {m c U W} (hF : Fed m c U W) (t : Fin cfg0.N)
include hF

/-- The weights, as the host lays them out: one slot for each 1536 columns. -/
theorem slots : V m c main_v1 = (on3 fun s r k => W r (1536 * s + k) : FVec Ideal S4x2048x1536 .bf16) := by
  unfold V
  simp only [hostOps0, List.flatten_cons, List.flatten_nil, List.append_nil, List.cons_append,
      List.nil_append, TRef.binary, TRef.nullary, TRef.ternary, TRef.unary, TRef.toBuf, TRef.ofBuf, cast_eq]
  after_results_simp
  rw [hF.w]
  funext i; idx_vars i; pointwise [on, on3]
  rw [Nat.mul_comm]

omit hF in
theorem places : ∀ t : Fin cfg0.N,
    win0_0.index t (0 : Fin 2) = t.val / 8 ∧ win0_0.index t (1 : Fin 2) = t.val % 4 ∧
    win0_1.index t (0 : Fin 3) = t.val % 4 ∧ win0_1.index t (1 : Fin 3) = t.val / 4 % 2 ∧ win0_1.index t (2 : Fin 3) = 0 :=
  (by decide +kernel : ∀ t : Fin grid0.N, _)

theorem blk0 : iblk m c 0 t = (on (cut (1024 * (t.val / 8)) (1536 * (t.val % 4)) U) : FVec Ideal S1024x1536 .bf16) := by
  obtain ⟨a0, b0, a1, b1, c1⟩ := places t
  funext y
  refine (congrFun ((V_main_arg0 m c).trans hF.u) _).trans ?_
  show U (win0_0.index t (0 : Fin 2) * 1024 + 1 * (y 0).val) (win0_0.index t (1 : Fin 2) * 1536 + 1 * (y 1).val) = _
  rw [a0, b0]
  unfold on cut
  congr 1 <;> omega

theorem blk1 : iblk m c 1 t = (on3 (fun _ => cut (1024 * (t.val / 4 % 2)) (1536 * (t.val % 4)) W) : FVec Ideal S1x1024x1536 .bf16) := by
  obtain ⟨a0, b0, a1, b1, c1⟩ := places t
  funext y
  have hy : (y 0).val < 1 := (y 0).isLt
  refine (congrFun (slots hF) _).trans ?_
  show W (win0_1.index t (1 : Fin 3) * 1024 + 1 * (y 1).val) (1536 * (win0_1.index t (0 : Fin 3) * 1 + 1 * (y 0).val)
    + (win0_1.index t (2 : Fin 3) * 1536 + 1 * (y 2).val)) = _
  rw [a1, b1, c1]
  unfold on3 cut
  congr 1 <;> omega

/-- The part of the sum that point `t` adds. -/
def part (U W : ℕ → ℕ → EReal) (p q k : ℕ) : ℕ → ℕ → EReal := rows 1536 (cut (1024 * p) (1536 * k) U) (cut (1024 * q) (1536 * k) W)

theorem first_sum (h : t.val % 4 = 0) : (outsAt0 m c t.val t.isLt).2 = (on (part U W (t.val / 8) (t.val / 4 % 2) 0) : FVec Ideal S1024x1024 .f32) := by
  rw [outsAt0_A m c t h (by omega) (by omega)]
  dsimp only
  rw [left_A (blk0 hF t) (blk1 hF t), h]
  rfl

theorem next_sum (h0 : t.val % 4 ≠ 0) (h3 : t.val % 4 ≠ 3) (s : ℕ → ℕ → EReal)
    (hs : (outsAt0 m c (t.val - 1) (Nat.lt_of_le_of_lt (Nat.sub_le _ _) t.isLt)).2 = (on s : FVec Ideal S1024x1024 .f32)) :
    (outsAt0 m c t.val t.isLt).2 = (on (fun r c => s r c + part U W (t.val / 8) (t.val / 4 % 2) (t.val % 4) r c) : FVec Ideal S1024x1024 .f32) := by
  rw [outsAt0_B m c t h0 (by omega) h3]
  dsimp only
  rw [left_B (blk0 hF t) (blk1 hF t) hs]
  rfl

theorem last_sum (h3 : t.val % 4 = 3) (s : ℕ → ℕ → EReal)
    (hs : (outsAt0 m c (t.val - 1) (Nat.lt_of_le_of_lt (Nat.sub_le _ _) t.isLt)).2 = (on s : FVec Ideal S1024x1024 .f32)) :
    (outsAt0 m c t.val t.isLt).1 = (on (fun r c => s r c + part U W (t.val / 8) (t.val / 4 % 2) (t.val % 4) r c) : FVec Ideal S1024x1024 .bf16) := by
  rw [outsAt0_C m c t (by omega) (by omega) h3]
  dsimp only
  rw [out_C (blk0 hF t) (blk1 hF t) hs]
  rfl

/-- The block that the last of four points writes. -/
theorem block (n : ℕ) (hn : n < 8) (h : 4 * n + 3 < cfg0.N) : (outsAt0 m c (4 * n + 3) h).1 =
    (on (rows 6144 (cut (1024 * (n / 2)) 0 U) (cut (1024 * (n % 2)) 0 W)) : FVec Ideal S1024x1024 .bf16) := by
  have e0 := first_sum hF ⟨4 * n, by omega⟩ (by show 4 * n % 4 = 0; omega)
  have e1 := next_sum hF ⟨4 * n + 1, by omega⟩ (by show (4 * n + 1) % 4 ≠ 0; omega) (by show (4 * n + 1) % 4 ≠ 3; omega) _ e0
  have e2 := next_sum hF ⟨4 * n + 2, by omega⟩ (by show (4 * n + 2) % 4 ≠ 0; omega) (by show (4 * n + 2) % 4 ≠ 3; omega) _ e1
  have e3 := last_sum hF ⟨4 * n + 3, h⟩ (by show (4 * n + 3) % 4 = 3; omega) _ e2
  refine e3.trans (on_congr fun r _ c _ => ?_)
  dsimp only
  rw [show 4 * n / 8 = n / 2 by omega, show (4 * n + 1) / 8 = n / 2 by omega, show (4 * n + 2) / 8 = n / 2 by omega, show (4 * n + 3) / 8 = n / 2 by omega,
    show 4 * n / 4 = n by omega, show (4 * n + 1) / 4 = n by omega, show (4 * n + 2) / 4 = n by omega, show (4 * n + 3) / 4 = n by omega,
    show (4 * n + 1) % 4 = 1 by omega, show (4 * n + 2) % 4 = 2 by omega, show (4 * n + 3) % 4 = 3 by omega]
  unfold part rows cut
  rw [show 6144 = 4 * 1536 by rfl, sum_four 1536]
  simp only [Nat.mul_comm 1536, zero_add, zero_mul, one_mul]

/-- The kernel's array. -/
theorem array : G2 m c = (on (rows 6144 U W) : FVec Ideal S4096x2048 .bf16) := by
  funext i
  have h0 : (i 0).val < 4096 := (i 0).isLt
  have h1 : (i 1).val < 2048 := (i 1).isLt
  have hN : cfg0.N = 32 := N_0
  unfold G2
  have hr : run2Of i = 2 * ((i 0).val / 1024) + (i 1).val / 1024 := by show 2 * (_ - 0) + 1 * (_ - 0) = _; omega
  have hp : pt2Of i = 4 * run2Of i + 3 := rfl
  rw [dif_pos (by omega), ← outsAt0_sweep m c _ (by omega), block hF (run2Of i) (by omega) (by omega)]
  unfold on rows cut
  dsimp only
  rw [show 1024 * (run2Of i / 2) + (i 0).val % 1024 = (i 0).val by omega, show 1024 * (run2Of i % 2) + (i 1).val % 1024 = (i 1).val by omega]
  simp only [zero_add]
omit hF

/-- The reference's array. -/
theorem formula : Cert.Reference7Ideal.Read.val_main_v5 (F := Ideal) (on U : FVec Ideal S4096x6144 .bf16) (on W : FVec Ideal S2048x6144 .bf16) = (on (rows 6144 U W) : FVec Ideal S4096x2048 .bf16) := by
  funext i
  rw [Cert.Reference7Ideal.Read.val_main_v5_apply, Cert.Reference7Ideal.Read.val_main_v4_apply]
  unfold on rows
  rw [Finset.sum_range]
  rfl

end Cert.Kernel7Ideal.Back

end
-- ==== Proof.Halves.lean ====
/- Sums over the rows of two factors, cut in two, and arrays of matrices with one slot. -/
module

public import proofs.«01_k».proof.Proof.Product

@[expose] public section

noncomputable section

namespace Cert.Product

open Idealize.ShloMosaic

variable {n a b : ℕ} {φ : FTy}

/-- Two arrays of matrices are equal when their entries inside the shape are. -/
theorem on3_congr {f g : ℕ → ℕ → ℕ → EReal} (h : ∀ s, s < n → ∀ r, r < a → ∀ c, c < b → f s r c = g s r c) :
    (on3 f : FVec Ideal ⟨3, ![n, a, b]⟩ φ) = on3 g :=
  funext fun i => h _ (i 0).isLt _ (i 1).isLt _ (i 2).isLt

/-- The entries of an array of matrices, zero outside it. -/
def of3 (x : FVec Ideal ⟨3, ![n, a, b]⟩ φ) : ℕ → ℕ → ℕ → EReal := fun s r c =>
  if h : s < n ∧ r < a ∧ c < b then x (ix3 ⟨s, h.1⟩ ⟨r, h.2.1⟩ ⟨c, h.2.2⟩) else 0

theorem on3_of (x : FVec Ideal ⟨3, ![n, a, b]⟩ φ) : on3 (of3 x) = x := by
  funext i
  unfold on3 of3
  rw [dif_pos ⟨(i 0).isLt, (i 1).isLt, (i 2).isLt⟩]
  exact congrArg x (funext fun k => by match k with | ⟨0, _⟩ => rfl | ⟨1, _⟩ => rfl | ⟨2, _⟩ => rfl)

/-- A matrix as an array with one slot. -/
theorem slot_of (h : (⟨2, ![a, b]⟩ : Shape).ShapeCasts ⟨3, ![1, a, b]⟩) (f : ℕ → ℕ → EReal) :
    shapeCast ⟨3, ![1, a, b]⟩ (on f : FVec Ideal ⟨2, ![a, b]⟩ φ) h = on3 fun _ => f := by
  funext i
  exact shapeCast_addUnit_apply ![a, b] _ h i

/-- Columns times columns over 4096 rows: the first 2048 and the others. -/
theorem downs_two (f g : ℕ → ℕ → EReal) (p q r c : ℕ) :
    downs 4096 (cut 0 p f) (cut 0 q g) r c = downs 2048 (cut 0 p f) (cut 0 q g) r c + downs 2048 (cut 2048 p f) (cut 2048 q g) r c := by
  unfold downs cut
  rw [show 4096 = 2048 + 2048 by rfl, Finset.sum_range_add]
  simp only [zero_add]

end Cert.Product

end
-- ==== Proof.DownGradSibling.lean ====
/- The gradient of the down projection's weights: the half of the rows that the other core keeps. The kernel's array, its two partial
   sums added one after the other in an accumulator, and the reference's. -/
module

public import proofs.«01_k».proof.Proof.Halves
public import proofs.«01_k».proof.Proof.Gen.Kernel8Ideal.Frame
public import proofs.«01_k».proof.Proof.Gen.Reference8Ideal.Read

@[expose] public section

set_option maxRecDepth 16384

noncomputable section

namespace Cert.Kernel8Ideal.Table

open Idealize.ShloMosaic Idealize.ShloMosaic.TcCoe Idealize.ShloMosaic.StableHlo Cert.Kernel8Ideal Cert.Kernel8Ideal.Gen

variable {F : FTy → Type} [FloatOps F] (m : (ℓ : Loc nD τ sig) → Buf (Elt F) ℓ)

/-- The table's one word. -/
theorem word (r : Rect S1) (h : r.shape.numel = 1) : (tbl m).at 0 r h = 1#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 2 * (i 0).val + 1] := by
  unfold cc0_transform_0
  dsimp only
  rw [word]
  revert i
  decide +kernel

/-- Every such block lies inside the array. -/
theorem ok : Ok m := by
  unfold Ok ok0
  rw [funext (place m)]
  decide +kernel

end Cert.Kernel8Ideal.Table

namespace Cert.Kernel8Ideal.Grad

open Idealize.ShloMosaic Idealize.ShloMosaic.TcCoe Idealize.SL.Sem Idealize.ShloMosaic.StableHlo Cert.Kernel8Ideal Cert.Kernel8Ideal.Gen Cert.Product

theorem first (f g : ℕ → ℕ → EReal) :
    k0_pay1 (F := Ideal) (on f : FVec Ideal S2048x1024 .bf16) (on g : FVec Ideal S2048x1024 .bf16) = on (downs 2048 f g) := by
  unfold k0_pay1
  dsimp only
  funext i; idx_vars i; pointwise [on, downs, Finset.sum_range]

theorem next (s f g : ℕ → ℕ → EReal) :
    k0_pay2 (F := Ideal) (on s : FVec Ideal S1024x1024 .f32) (on f : FVec Ideal S2048x1024 .bf16) (on g : FVec Ideal S2048x1024 .bf16)
      = on fun r c => s r c + downs 2048 f g r c := by
  unfold k0_pay2
  dsimp only
  funext i; idx_vars i; pointwise [on, downs, Finset.sum_range]

theorem last (s : ℕ → ℕ → EReal) : k0_pay3 (F := Ideal) (on s : FVec Ideal S1024x1024 .f32) = on3 fun _ => s := by
  unfold k0_pay3
  dsimp only
  rw [truncf_on, slot_of]

section Bodies

variable {c : Dev nD} {i : grid0.Coords}
  {arg4 : Memref sig .tc .vmem S2048x1024 .bf16} {harg4 : arg4.IsWhole} {arg5 : Memref sig .tc .vmem S2048x1024 .bf16} {harg5 : arg5.IsWhole}
  {arg6 : Memref sig .tc .vmem S1x1024x1024 .bf16} {harg6 : arg6.IsWhole} {arg7 : Memref sig .tc .vmem S1024x1024 .f32} {harg7 : arg7.IsWhole}
  {s f g : ℕ → ℕ → EReal} {x0 : Vec Ideal S2048x1024 .bf16} {x1 : Vec Ideal S2048x1024 .bf16} {xt : TbBuf0 (F := Ideal) c tbM0_0} {xs : Vec Ideal S1024x1024 .f32}
  (h0 : x0 = (on f : FVec Ideal S2048x1024 .bf16)) (h1 : x1 = (on g : FVec Ideal S2048x1024 .bf16)) (hs : xs = (on s : FVec Ideal S1024x1024 .f32))

theorem two : (![0, 0] : Fin 2 → ℕ) = fun _ => 0 := by decide
theorem three : (![0, 0, 0] : Fin 3 → ℕ) = fun _ => 0 := by decide

include h0 h1

/-- The first part of the sum. -/
theorem left_A {hc0 : cond0_0 i} {hc1 : ¬cond0_1 i} {hc2 : ¬cond0_2 i} :
    sout0_A_0 (F := Ideal) c i arg4 harg4 arg5 harg5 arg6 harg6 arg7 harg7 hc0 hc1 hc2 x0 x1 xt = (on (downs 2048 f g) : FVec Ideal S1024x1024 .f32) := by
  subst h0 h1
  unfold sout0_A_0
  rw [View.read_writes_eq_canon _ _ _ (scover0_A_0 c i arg4 harg4 arg5 harg5 arg6 harg6 arg7 harg7 hc0 hc1 hc2 _ _ _)]
  unfold kernelRun0_A
  dsimp only
  simp only [View.canon_unit_zero (S := S1024x1024) two, View.readAt_eq_ld, harg4.read_unread, harg5.read_unread, harg7.read_unread, View.ld_unit_zero (S := S2048x1024) two, View.ld_unit_zero (S := S1024x1024) two]
  exact first f g

include hs in
/-- The whole sum, stored. -/
theorem out_B {hc0 : ¬cond0_0 i} {hc1 : cond0_1 i} {hc2 : cond0_2 i} :
    out0_B_2 (F := Ideal) c i arg4 harg4 arg5 harg5 arg6 harg6 arg7 harg7 hc0 hc1 hc2 x0 x1 xt xs
      = (on3 (fun _ r c => s r c + downs 2048 f g r c) : FVec Ideal S1x1024x1024 .bf16) := by
  subst h0 h1 hs
  unfold out0_B_2
  rw [View.read_writes_eq_canon _ _ _ (cover0_B_2 c i arg4 harg4 arg5 harg5 arg6 harg6 arg7 harg7 hc0 hc1 hc2 _ _ _ _)]
  unfold kernelRun0_B
  dsimp only
  sl_unfold_words
  simp only [View.canon_unit_zero (S := S1x1024x1024) three, View.readAt_eq_ld, harg4.read_unread, harg5.read_unread, harg7.read_unread, View.ld_unit_zero (S := S2048x1024) two, View.ld_unit_zero (S := S1024x1024) two]
  exact (congrArg k0_pay3 ((View.readCov_unit_zero (S := S1024x1024) arg7.view two _ _).trans (next s f g))).trans (last _)

end Bodies

/-- Entry `(s, r, q)` of the result. -/
def grad (A D : ℕ → ℕ → EReal) (s r q : ℕ) : EReal := downs 4096 A D (2048 * s + 1024 + r) q

variable (m : (ℓ : Loc nD τ sig) → Buf (Elt Ideal) ℓ) (c : Dev nD) (A D : ℕ → ℕ → EReal)

/-- What the program's arguments hold. -/
structure Fed : Prop where
  a : m ((c : Thread nD τ).loc main_arg0) = (on A : FVec Ideal S4096x8192 .bf16)
  d : m ((c : Thread nD τ).loc main_arg1) = (on D : FVec Ideal S4096x2048 .bf16)

theorem places : ∀ t : Fin grid0.N, ((grid0.coords t 2).val = t.val % 2 ∧ (grid0.coords t 0).val = t.val / 4) ∧
    cc0_transform_1 (grid0.coords t) = ![t.val % 2, t.val / 2 % 2] ∧ cc0_transform_2 (grid0.coords t) = ![t.val / 4, 0, t.val / 2 % 2] := by
  decide +kernel

variable {m c A D} (hF : Fed m c A D) (t : Fin (cfgM m (Table.ok m)).N)
include hF

theorem blk0 : iblk m (Table.ok m) c 0 t = (on (cut (2048 * (t.val % 2)) (1024 * (2 * (t.val / 4) + 1)) A) : FVec Ideal S2048x1024 .bf16) := by
  obtain ⟨⟨p, q⟩, -⟩ := places t
  refine funext fun (y : S2048x1024.Idx) => ?_
  refine (congrFun ((V_main_arg0 m c).trans hF.a) _).trans ?_
  show A (cc0_transform_0 inb_S1_S1_0 numel1_S1 (tbl m) (grid0.coords t) 0 * 2048 + 1 * (y 0).val)
    (cc0_transform_0 inb_S1_S1_0 numel1_S1 (tbl m) (grid0.coords t) 1 * 1024 + 1 * (y 1).val) = _
  rw [Table.place m]
  show A ((grid0.coords t 2).val * 2048 + 1 * (y 0).val) ((2 * (grid0.coords t 0).val + 1) * 1024 + 1 * (y 1).val) = _
  rw [p, q]
  unfold on cut
  congr 1 <;> omega

theorem blk1 : iblk m (Table.ok m) c 1 t = (on (cut (2048 * (t.val % 2)) (1024 * (t.val / 2 % 2)) D) : FVec Ideal S2048x1024 .bf16) := by
  obtain ⟨-, p, -⟩ := places t
  refine funext fun (y : S2048x1024.Idx) => ?_
  refine (congrFun ((V_main_arg1 m c).trans hF.d) _).trans ?_
  show D (cc0_transform_1 (grid0.coords t) 0 * 2048 + 1 * (y 0).val) (cc0_transform_1 (grid0.coords t) 1 * 1024 + 1 * (y 1).val) = _
  rw [p]
  show D (t.val % 2 * 2048 + 1 * (y 0).val) (t.val / 2 % 2 * 1024 + 1 * (y 1).val) = _
  unfold on cut
  congr 1 <;> omega

theorem first_sum (h : t.val % 2 = 0) : (outsAt0 m (Table.ok m) c t.val t.isLt).2 = (on (downs 2048 (cut 0 (1024 * (2 * (t.val / 4) + 1)) A) (cut 0 (1024 * (t.val / 2 % 2)) D)) : FVec Ideal S1024x1024 .f32) := by
  rw [outsAt0_A m (Table.ok m) c t h (by omega) (by omega)]
  dsimp only
  refine (left_A (blk0 hF t) (blk1 hF t)).trans ?_
  rw [h]

theorem last_sum (h : t.val % 2 = 1) (s : ℕ → ℕ → EReal)
    (hs : (outsAt0 m (Table.ok m) c (t.val - 1) (Nat.lt_of_le_of_lt (Nat.sub_le _ _) t.isLt)).2 = (on s : FVec Ideal S1024x1024 .f32)) :
    (outsAt0 m (Table.ok m) c t.val t.isLt).1 = (on3 (fun _ r q => s r q
      + downs 2048 (cut 2048 (1024 * (2 * (t.val / 4) + 1)) A) (cut 2048 (1024 * (t.val / 2 % 2)) D) r q) : FVec Ideal S1x1024x1024 .bf16) := by
  rw [outsAt0_B m (Table.ok m) c t (by omega) h h]
  dsimp only
  refine (out_B (blk0 hF t) (blk1 hF t) hs).trans ?_
  rw [h]

/-- The block that the second of two points writes. -/
theorem block (n : ℕ) (h : 2 * n + 1 < (cfgM m (Table.ok m)).N) : (outsAt0 m (Table.ok m) c (2 * n + 1) h).1 =
    (on3 (fun _ => downs 4096 (cut 0 (1024 * (2 * (n / 2) + 1)) A) (cut 0 (1024 * (n % 2)) D)) : FVec Ideal S1x1024x1024 .bf16) := by
  have e0 := first_sum hF ⟨2 * n, by omega⟩ (by show 2 * n % 2 = 0; omega)
  have e1 := last_sum hF ⟨2 * n + 1, h⟩ (by show (2 * n + 1) % 2 = 1; omega) _ e0
  refine e1.trans (on3_congr fun _ _ r _ q _ => ?_)
  dsimp only
  simp only [show 2 * n / 2 = n by omega, show (2 * n + 1) / 2 = n by omega, show 2 * n / 4 = n / 2 by omega, show (2 * n + 1) / 4 = n / 2 by omega]
  rw [downs_two]

omit hF in
theorem apart : ∀ t t' : Fin (cfgM m (Table.ok m)).N, ((cfgM m (Table.ok m)).win 2).flush t = true → ((cfgM m (Table.ok m)).win 2).flush t' = true → t ≠ t' →
    Disjoint (((cfgM m (Table.ok m)).win 2).blk t).view.set (((cfgM m (Table.ok m)).win 2).blk t').view.set := by
  intro t t' hf hf' hne
  refine ((cfgM m (Table.ok m)).win 2).disjoint_blk fun h => hne (Fin.ext ?_)
  have q := (flush0_2 (adm m (Table.ok m)) t).mp hf
  have q' := (flush0_2 (adm m (Table.ok m)) t').mp hf'
  have e : cc0_transform_2 (grid0.coords t) = cc0_transform_2 (grid0.coords t') := h
  rw [(places t).2.2, (places t').2.2] at e
  have e0 : t.val / 4 = t'.val / 4 := congrFun e 0
  have e2 : t.val / 2 % 2 = t'.val / 2 % 2 := congrFun e 2
  omega

omit hF in
/-- Where an element of the block that point `2 * n + 1` writes lies in the array. -/
theorem spot (n : ℕ) (h : 2 * n + 1 < (cfgM m (Table.ok m)).N) (y : S1x1024x1024.Idx) (i : S4x1024x2048.Idx) (h0 : (i 0).val = n / 2) (h1 : (i 1).val = (y 1).val)
    (h2 : (i 2).val = 1024 * (n % 2) + (y 2).val) : (((cfgM m (Table.ok m)).win 2).blk ⟨2 * n + 1, h⟩).view.emb y = i := by
  have hy : (y 0).val < 1 := (y 0).isLt
  have p : cc0_transform_2 (grid0.coords ⟨2 * n + 1, h⟩) = ![(2 * n + 1) / 4, 0, (2 * n + 1) / 2 % 2] := (places ⟨2 * n + 1, h⟩).2.2
  funext a
  match a with
  | ⟨0, _⟩ =>
    apply Fin.ext
    show cc0_transform_2 (grid0.coords ⟨2 * n + 1, h⟩) 0 * 1 + 1 * (y 0).val = (i 0).val
    rw [p]
    show (2 * n + 1) / 4 * 1 + 1 * (y 0).val = (i 0).val
    omega
  | ⟨1, _⟩ =>
    apply Fin.ext
    show cc0_transform_2 (grid0.coords ⟨2 * n + 1, h⟩) 1 * 1024 + 1 * (y 1).val = (i 1).val
    rw [p]
    show 0 * 1024 + 1 * (y 1).val = (i 1).val
    omega
  | ⟨2, _⟩ =>
    apply Fin.ext
    show cc0_transform_2 (grid0.coords ⟨2 * n + 1, h⟩) 2 * 1024 + 1 * (y 2).val = (i 2).val
    rw [p]
    show (2 * n + 1) / 2 % 2 * 1024 + 1 * (y 2).val = (i 2).val
    omega

/-- The array at that place. -/
theorem held (n : ℕ) (h : 2 * n + 1 < (cfgM m (Table.ok m)).N) (y : S1x1024x1024.Idx) :
    (dats m (Table.ok m) 0 c).arrAt 2 (cfgM m (Table.ok m)).N ((((cfgM m (Table.ok m)).win 2).blk ⟨2 * n + 1, h⟩).view.emb y)
      = (on3 (fun _ => downs 4096 (cut 0 (1024 * (2 * (n / 2) + 1)) A) (cut 0 (1024 * (n % 2)) D)) : FVec Ideal S1x1024x1024 .bf16) y := by
  have hf : ((cfgM m (Table.ok m)).win 2).flush ⟨2 * n + 1, h⟩ = true := (flush0_2 _ ⟨2 * n + 1, h⟩).mpr (by show (2 * n + 1) % 2 = 1; omega)
  refine ((dats m (Table.ok m) 0 c).arrAt_emb_eq_flushed 2 apart ⟨2 * n + 1, h⟩ hf y).trans ?_
  have ea := (after0_2 m (Table.ok m) c ⟨2 * n + 1, h⟩).trans (block hF n h)
  have eb := congrFun (congrArg (((cfgM m (Table.ok m)).win 2).cut (grid0.coords ⟨2 * n + 1, h⟩)) ea) y
  refine (congrArg (_root_.cast _) eb).trans ?_
  rfl

/-- The kernel's array. -/
theorem array : (dats m (Table.ok m) 0 c).arrAt 2 (cfgM m (Table.ok m)).N = (on3 (grad A D) : FVec Ideal S4x1024x2048 .bf16) := by
  refine funext fun (i : S4x1024x2048.Idx) => ?_
  have h0 : (i 0).val < 4 := (i 0).isLt
  have h1 : (i 1).val < 1024 := (i 1).isLt
  have h2 : (i 2).val < 2048 := (i 2).isLt
  have hN : (cfgM m (Table.ok m)).N = 16 := N_0
  have hn : 2 * (2 * (i 0).val + (i 2).val / 1024) + 1 < (cfgM m (Table.ok m)).N := by omega
  have hi := spot (m := m) (2 * (i 0).val + (i 2).val / 1024) hn (ix3 0 ⟨(i 1).val, h1⟩ ⟨(i 2).val % 1024, Nat.mod_lt _ (by decide)⟩) i (by omega) rfl
    (by show (i 2).val = _ + (i 2).val % 1024; omega)
  refine (congrArg ((dats m (Table.ok m) 0 c).arrAt 2 (cfgM m (Table.ok m)).N) hi.symm).trans ((held hF _ hn _).trans ?_)
  show downs 4096 (cut 0 (1024 * (2 * ((2 * (i 0).val + (i 2).val / 1024) / 2) + 1)) A) (cut 0 (1024 * ((2 * (i 0).val + (i 2).val / 1024) % 2)) D) (i 1).val ((i 2).val % 1024) = _
  unfold on3 grad downs cut
  simp only [zero_add]
  rw [show 1024 * (2 * ((2 * (i 0).val + (i 2).val / 1024) / 2) + 1) + (i 1).val = 2048 * (i 0).val + 1024 + (i 1).val by omega,
    show 1024 * ((2 * (i 0).val + (i 2).val / 1024) % 2) + (i 2).val % 1024 = (i 2).val by omega]
omit hF

/-- The run, the result named and the arguments kept. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (Table.ok m) 0 c).arrAt 2 (cfgM m (Table.ok m)).N
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1 2,
    ((h c).1 0).trans (((dats m (Table.ok m) 0 c).arrAt_in 0 rfl _).trans ((A_eq m (Table.ok m) c 0).trans (V_main_arg0 m c))),
    ((h c).1 1).trans (((dats m (Table.ok m) 0 c).arrAt_in 1 rfl _).trans ((A_eq m (Table.ok m) c 1).trans (V_main_arg1 m c)))⟩) (run_main m ρ (Table.ok m))

open Cert.Reference8Ideal.Read in
/-- The reference's array. -/
theorem formula : val_main_v9 (F := Ideal) (on A : FVec Ideal S4096x8192 .bf16) (on D : FVec Ideal S4096x2048 .bf16)
    = (on3 (grad A D) : FVec Ideal S4x1024x2048 .bf16) := by
  funext i
  have h0 : (i 0).val < 4 := (i 0).isLt
  have h1 : (i 1).val < 1024 := (i 1).isLt
  have h2 : (i 2).val < 2048 := (i 2).isLt
  simp only [val_main_v9_apply, val_main_v8_apply, val_main_v7_apply, val_main_v6_apply, val_main_v5_apply, val_main_v4_apply, val_main_v1_apply, val_main_v0_apply]
  unfold on3 grad downs
  rw [Finset.sum_range]
  refine Finset.sum_congr rfl fun k _ => ?_
  refine (mul_comm _ _).trans (congrArg₂ (· * ·) ?_ ?_)
  · refine congrArg (A k.val) ?_
    dsimp only
    omega
  · refine congrArg (D k.val) ?_
    dsimp only
    omega

end Cert.Kernel8Ideal.Grad

end
-- ==== Proof.DownGradOwn.lean ====
/- The gradient of the down projection's weights: the core's own half of the rows, added to the other core's sum. The kernel's array, its two partial
   sums added one after the other in an accumulator, and the reference's. -/
module

public import proofs.«01_k».proof.Proof.Halves
public import proofs.«01_k».proof.Proof.Gen.Kernel9Ideal.Frame
public import proofs.«01_k».proof.Proof.Gen.Reference9Ideal.Read

@[expose] public section

set_option maxRecDepth 16384

noncomputable section

namespace Cert.Kernel9Ideal.Table

open Idealize.ShloMosaic Idealize.ShloMosaic.TcCoe Idealize.ShloMosaic.StableHlo Cert.Kernel9Ideal Cert.Kernel9Ideal.Gen

variable {F : FTy → Type} [FloatOps F] (m : (ℓ : Loc nD τ sig) → Buf (Elt F) ℓ)

/-- The table's one word. -/
theorem word (r : Rect S1) (h : r.shape.numel = 1) : (tbl m).at 0 r h = 0#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 2 * (i 0).val] := by
  unfold cc0_transform_0
  dsimp only
  rw [word]
  revert i
  decide +kernel

/-- Every such block lies inside the array. -/
theorem ok : Ok m := by
  unfold Ok ok0
  rw [funext (place m)]
  decide +kernel

end Cert.Kernel9Ideal.Table

namespace Cert.Kernel9Ideal.Grad

open Idealize.ShloMosaic Idealize.ShloMosaic.TcCoe Idealize.SL.Sem Idealize.ShloMosaic.StableHlo Cert.Kernel9Ideal Cert.Kernel9Ideal.Gen Cert.Product

theorem start (v : ℕ → ℕ → ℕ → EReal) : k0_pay1 (F := Ideal) (on3 v : FVec Ideal S1x1024x1024 .bf16) = on (v 0) := by
  unfold k0_pay1
  rw [slot_on]
  dsimp only
  rw [extf_on, shapeCast_self]

theorem first (s f g : ℕ → ℕ → EReal) :
    k0_pay2 (F := Ideal) (on s : FVec Ideal S1024x1024 .f32) (on f : FVec Ideal S2048x1024 .bf16) (on g : FVec Ideal S2048x1024 .bf16)
      = on fun r c => s r c + downs 2048 f g r c := by
  unfold k0_pay2
  dsimp only
  funext i; idx_vars i; pointwise [on, downs, Finset.sum_range]

theorem next (s f g : ℕ → ℕ → EReal) :
    k0_pay3 (F := Ideal) (on s : FVec Ideal S1024x1024 .f32) (on f : FVec Ideal S2048x1024 .bf16) (on g : FVec Ideal S2048x1024 .bf16)
      = on fun r c => s r c + downs 2048 f g r c := by
  unfold k0_pay3
  dsimp only
  funext i; idx_vars i; pointwise [on, downs, Finset.sum_range]

theorem last (s : ℕ → ℕ → EReal) : k0_pay4 (F := Ideal) (on s : FVec Ideal S1024x1024 .f32) = on3 fun _ => s := by
  unfold k0_pay4
  dsimp only
  rw [truncf_on, slot_of]

section Bodies

variable {c : Dev nD} {i : grid0.Coords}
  {arg4 : Memref sig .tc .vmem S2048x1024 .bf16} {harg4 : arg4.IsWhole} {arg5 : Memref sig .tc .vmem S2048x1024 .bf16} {harg5 : arg5.IsWhole}
  {arg6 : Memref sig .tc .vmem S1x1024x1024 .bf16} {harg6 : arg6.IsWhole} {arg7 : Memref sig .tc .vmem S1x1024x1024 .bf16} {harg7 : arg7.IsWhole}
  {arg8 : Memref sig .tc .vmem S1024x1024 .f32} {harg8 : arg8.IsWhole}
  {s f g : ℕ → ℕ → EReal} {v : ℕ → ℕ → ℕ → EReal} {x0 : Vec Ideal S2048x1024 .bf16} {x1 : Vec Ideal S2048x1024 .bf16} {xi : Vec Ideal S1x1024x1024 .bf16} {xt : TbBuf0 (F := Ideal) c tbM0_0} {xs : Vec Ideal S1024x1024 .f32}
  (h0 : x0 = (on f : FVec Ideal S2048x1024 .bf16)) (h1 : x1 = (on g : FVec Ideal S2048x1024 .bf16)) (hi : xi = (on3 v : FVec Ideal S1x1024x1024 .bf16)) (hs : xs = (on s : FVec Ideal S1024x1024 .f32))

theorem two : (![0, 0] : Fin 2 → ℕ) = fun _ => 0 := by decide
theorem three : (![0, 0, 0] : Fin 3 → ℕ) = fun _ => 0 := by decide

include h0 h1

include hi in
/-- The other core's sum and the first part of this one's. -/
theorem left_A {hc0 : cond0_0 i} {hc1 : ¬cond0_1 i} {hc2 : ¬cond0_2 i} :
    sout0_A_0 (F := Ideal) c i arg4 harg4 arg5 harg5 arg6 harg6 arg7 harg7 arg8 harg8 hc0 hc1 hc2 x0 x1 xi xt
      = (on (fun r c => v 0 r c + downs 2048 f g r c) : FVec Ideal S1024x1024 .f32) := by
  subst h0 h1 hi
  unfold sout0_A_0
  rw [View.read_writes_eq_canon _ _ _ (scover0_A_0 c i arg4 harg4 arg5 harg5 arg6 harg6 arg7 harg7 arg8 harg8 hc0 hc1 hc2 _ _ _ _)]
  unfold kernelRun0_A
  dsimp only
  sl_unfold_words
  refine (View.canon_cons_unit_zero (S := S1024x1024) two _ _ _).trans ?_
  simp only [View.readAt_eq_ld, harg4.read_unread, harg5.read_unread, harg8.read_unread, View.ld_unit_zero (S := S2048x1024) two, View.ld_unit_zero (S := S1024x1024) two, harg6.read_unread, View.ld_unit_zero (S := S1x1024x1024) three]
  exact (congrFun (congrFun (congrArg (k0_pay2 (F := Ideal)) ((View.readCov_unit_zero (S := S1024x1024) arg8.view two _ _).trans (start v))) _) _).trans (first (v 0) f g)

include hs in
/-- The whole sum, stored. -/
theorem out_B {hc0 : ¬cond0_0 i} {hc1 : cond0_1 i} {hc2 : cond0_2 i} :
    out0_B_3 (F := Ideal) c i arg4 harg4 arg5 harg5 arg6 harg6 arg7 harg7 arg8 harg8 hc0 hc1 hc2 x0 x1 xi xt xs
      = (on3 (fun _ r c => s r c + downs 2048 f g r c) : FVec Ideal S1x1024x1024 .bf16) := by
  subst h0 h1 hs
  unfold out0_B_3
  rw [View.read_writes_eq_canon _ _ _ (cover0_B_3 c i arg4 harg4 arg5 harg5 arg6 harg6 arg7 harg7 arg8 harg8 hc0 hc1 hc2 _ _ _ _ _)]
  unfold kernelRun0_B
  dsimp only
  sl_unfold_words
  simp only [View.canon_unit_zero (S := S1x1024x1024) three, View.readAt_eq_ld, harg4.read_unread, harg5.read_unread, harg8.read_unread, View.ld_unit_zero (S := S2048x1024) two, View.ld_unit_zero (S := S1024x1024) two, harg6.read_unread, View.ld_unit_zero (S := S1x1024x1024) three]
  exact (congrArg k0_pay4 ((View.readCov_unit_zero (S := S1024x1024) arg8.view two _ _).trans (next s f g))).trans (last _)

end Bodies

/-- Entry `(s, r, q)` of the result. -/
def grad (A D : ℕ → ℕ → EReal) (I : ℕ → ℕ → ℕ → EReal) (s r q : ℕ) : EReal := I s r q + downs 4096 A D (2048 * s + r) q

variable (m : (ℓ : Loc nD τ sig) → Buf (Elt Ideal) ℓ) (c : Dev nD) (A D : ℕ → ℕ → EReal) (I : ℕ → ℕ → ℕ → EReal)

/-- What the program's arguments hold. -/
structure Fed : Prop where
  a : m ((c : Thread nD τ).loc main_arg0) = (on A : FVec Ideal S4096x8192 .bf16)
  d : m ((c : Thread nD τ).loc main_arg1) = (on D : FVec Ideal S4096x2048 .bf16)
  i : m ((c : Thread nD τ).loc main_arg2) = (on3 I : FVec Ideal S4x1024x2048 .bf16)

theorem places : ∀ t : Fin grid0.N, ((grid0.coords t 2).val = t.val % 2 ∧ (grid0.coords t 0).val = t.val / 4) ∧
    cc0_transform_1 (grid0.coords t) = ![t.val % 2, t.val / 2 % 2] ∧ cc0_transform_2 (grid0.coords t) = ![t.val / 4, 0, t.val / 2 % 2] := by
  decide +kernel

variable {m c A D I} (hF : Fed m c A D I) (t : Fin (cfgM m (Table.ok m)).N)
include hF

theorem blk0 : iblk m (Table.ok m) c 0 t = (on (cut (2048 * (t.val % 2)) (1024 * (2 * (t.val / 4))) A) : FVec Ideal S2048x1024 .bf16) := by
  obtain ⟨⟨p, q⟩, -⟩ := places t
  refine funext fun (y : S2048x1024.Idx) => ?_
  refine (congrFun ((V_main_arg0 m c).trans hF.a) _).trans ?_
  show A (cc0_transform_0 inb_S1_S1_0 numel1_S1 (tbl m) (grid0.coords t) 0 * 2048 + 1 * (y 0).val)
    (cc0_transform_0 inb_S1_S1_0 numel1_S1 (tbl m) (grid0.coords t) 1 * 1024 + 1 * (y 1).val) = _
  rw [Table.place m]
  show A ((grid0.coords t 2).val * 2048 + 1 * (y 0).val) ((2 * (grid0.coords t 0).val) * 1024 + 1 * (y 1).val) = _
  rw [p, q]
  unfold on cut
  congr 1 <;> omega

theorem blk1 : iblk m (Table.ok m) c 1 t = (on (cut (2048 * (t.val % 2)) (1024 * (t.val / 2 % 2)) D) : FVec Ideal S2048x1024 .bf16) := by
  obtain ⟨-, p, -⟩ := places t
  refine funext fun (y : S2048x1024.Idx) => ?_
  refine (congrFun ((V_main_arg1 m c).trans hF.d) _).trans ?_
  show D (cc0_transform_1 (grid0.coords t) 0 * 2048 + 1 * (y 0).val) (cc0_transform_1 (grid0.coords t) 1 * 1024 + 1 * (y 1).val) = _
  rw [p]
  show D (t.val % 2 * 2048 + 1 * (y 0).val) (t.val / 2 % 2 * 1024 + 1 * (y 1).val) = _
  unfold on cut
  congr 1 <;> omega

theorem blk2 : iblk m (Table.ok m) c 2 t = (on3 (fun _ => cut 0 (1024 * (t.val / 2 % 2)) (I (t.val / 4))) : FVec Ideal S1x1024x1024 .bf16) := by
  obtain ⟨-, -, p⟩ := places t
  refine funext fun (y : S1x1024x1024.Idx) => ?_
  have hy : (y 0).val < 1 := (y 0).isLt
  refine (congrFun ((V_main_arg2 m c).trans hF.i) _).trans ?_
  show I (cc0_transform_2 (grid0.coords t) 0 * 1 + 1 * (y 0).val) (cc0_transform_2 (grid0.coords t) 1 * 1024 + 1 * (y 1).val)
    (cc0_transform_2 (grid0.coords t) 2 * 1024 + 1 * (y 2).val) = _
  rw [p]
  show I (t.val / 4 * 1 + 1 * (y 0).val) (0 * 1024 + 1 * (y 1).val) (t.val / 2 % 2 * 1024 + 1 * (y 2).val) = _
  unfold on3 cut
  congr 1 <;> omega

theorem first_sum (h : t.val % 2 = 0) : (outsAt0 m (Table.ok m) c t.val t.isLt).2 = (on (fun r q => cut 0 (1024 * (t.val / 2 % 2)) (I (t.val / 4)) r q
      + downs 2048 (cut 0 (1024 * (2 * (t.val / 4))) A) (cut 0 (1024 * (t.val / 2 % 2)) D) r q) : FVec Ideal S1024x1024 .f32) := by
  rw [outsAt0_A m (Table.ok m) c t h (by omega) (by omega)]
  dsimp only
  refine (left_A (blk0 hF t) (blk1 hF t) (blk2 hF t)).trans ?_
  rw [h]

theorem last_sum (h : t.val % 2 = 1) (s : ℕ → ℕ → EReal)
    (hs : (outsAt0 m (Table.ok m) c (t.val - 1) (Nat.lt_of_le_of_lt (Nat.sub_le _ _) t.isLt)).2 = (on s : FVec Ideal S1024x1024 .f32)) :
    (outsAt0 m (Table.ok m) c t.val t.isLt).1 = (on3 (fun _ r q => s r q
      + downs 2048 (cut 2048 (1024 * (2 * (t.val / 4))) A) (cut 2048 (1024 * (t.val / 2 % 2)) D) r q) : FVec Ideal S1x1024x1024 .bf16) := by
  rw [outsAt0_B m (Table.ok m) c t (by omega) h h]
  dsimp only
  refine (out_B (blk0 hF t) (blk1 hF t) hs).trans ?_
  rw [h]

/-- The block that the second of two points writes. -/
theorem block (n : ℕ) (h : 2 * n + 1 < (cfgM m (Table.ok m)).N) : (outsAt0 m (Table.ok m) c (2 * n + 1) h).1 =
    (on3 (fun _ r q => I (n / 2) r (1024 * (n % 2) + q)
      + downs 4096 (cut 0 (1024 * (2 * (n / 2))) A) (cut 0 (1024 * (n % 2)) D) r q) : FVec Ideal S1x1024x1024 .bf16) := by
  have e0 := first_sum hF ⟨2 * n, by omega⟩ (by show 2 * n % 2 = 0; omega)
  have e1 := last_sum hF ⟨2 * n + 1, h⟩ (by show (2 * n + 1) % 2 = 1; omega) _ e0
  refine e1.trans (on3_congr fun _ _ r _ q _ => ?_)
  dsimp only
  simp only [show 2 * n / 2 = n by omega, show (2 * n + 1) / 2 = n by omega, show 2 * n / 4 = n / 2 by omega, show (2 * n + 1) / 4 = n / 2 by omega]
  rw [downs_two, cut, zero_add, add_assoc]

omit hF in
theorem apart : ∀ t t' : Fin (cfgM m (Table.ok m)).N, ((cfgM m (Table.ok m)).win 3).flush t = true → ((cfgM m (Table.ok m)).win 3).flush t' = true → t ≠ t' →
    Disjoint (((cfgM m (Table.ok m)).win 3).blk t).view.set (((cfgM m (Table.ok m)).win 3).blk t').view.set := by
  intro t t' hf hf' hne
  refine ((cfgM m (Table.ok m)).win 3).disjoint_blk fun h => hne (Fin.ext ?_)
  have q := (flush0_3 (adm m (Table.ok m)) t).mp hf
  have q' := (flush0_3 (adm m (Table.ok m)) t').mp hf'
  have e : cc0_transform_2 (grid0.coords t) = cc0_transform_2 (grid0.coords t') := h
  rw [(places t).2.2, (places t').2.2] at e
  have e0 : t.val / 4 = t'.val / 4 := congrFun e 0
  have e2 : t.val / 2 % 2 = t'.val / 2 % 2 := congrFun e 2
  omega

omit hF in
/-- Where an element of the block that point `2 * n + 1` writes lies in the array. -/
theorem spot (n : ℕ) (h : 2 * n + 1 < (cfgM m (Table.ok m)).N) (y : S1x1024x1024.Idx) (i : S4x1024x2048.Idx) (h0 : (i 0).val = n / 2) (h1 : (i 1).val = (y 1).val)
    (h2 : (i 2).val = 1024 * (n % 2) + (y 2).val) : (((cfgM m (Table.ok m)).win 3).blk ⟨2 * n + 1, h⟩).view.emb y = i := by
  have hy : (y 0).val < 1 := (y 0).isLt
  have p : cc0_transform_2 (grid0.coords ⟨2 * n + 1, h⟩) = ![(2 * n + 1) / 4, 0, (2 * n + 1) / 2 % 2] := (places ⟨2 * n + 1, h⟩).2.2
  funext a
  match a with
  | ⟨0, _⟩ =>
    apply Fin.ext
    show cc0_transform_2 (grid0.coords ⟨2 * n + 1, h⟩) 0 * 1 + 1 * (y 0).val = (i 0).val
    rw [p]
    show (2 * n + 1) / 4 * 1 + 1 * (y 0).val = (i 0).val
    omega
  | ⟨1, _⟩ =>
    apply Fin.ext
    show cc0_transform_2 (grid0.coords ⟨2 * n + 1, h⟩) 1 * 1024 + 1 * (y 1).val = (i 1).val
    rw [p]
    show 0 * 1024 + 1 * (y 1).val = (i 1).val
    omega
  | ⟨2, _⟩ =>
    apply Fin.ext
    show cc0_transform_2 (grid0.coords ⟨2 * n + 1, h⟩) 2 * 1024 + 1 * (y 2).val = (i 2).val
    rw [p]
    show (2 * n + 1) / 2 % 2 * 1024 + 1 * (y 2).val = (i 2).val
    omega

/-- The array at that place. -/
theorem held (n : ℕ) (h : 2 * n + 1 < (cfgM m (Table.ok m)).N) (y : S1x1024x1024.Idx) :
    (dats m (Table.ok m) 0 c).arrAt 3 (cfgM m (Table.ok m)).N ((((cfgM m (Table.ok m)).win 3).blk ⟨2 * n + 1, h⟩).view.emb y)
      = (on3 (fun _ r q => I (n / 2) r (1024 * (n % 2) + q)
      + downs 4096 (cut 0 (1024 * (2 * (n / 2))) A) (cut 0 (1024 * (n % 2)) D) r q) : FVec Ideal S1x1024x1024 .bf16) y := by
  have hf : ((cfgM m (Table.ok m)).win 3).flush ⟨2 * n + 1, h⟩ = true := (flush0_3 _ ⟨2 * n + 1, h⟩).mpr (by show (2 * n + 1) % 2 = 1; omega)
  refine ((dats m (Table.ok m) 0 c).arrAt_emb_eq_flushed 3 apart ⟨2 * n + 1, h⟩ hf y).trans ?_
  have ea := (after0_3 m (Table.ok m) c ⟨2 * n + 1, h⟩).trans (block hF n h)
  have eb := congrFun (congrArg (((cfgM m (Table.ok m)).win 3).cut (grid0.coords ⟨2 * n + 1, h⟩)) ea) y
  refine (congrArg (_root_.cast _) eb).trans ?_
  rfl

/-- The kernel's array. -/
theorem array : (dats m (Table.ok m) 0 c).arrAt 3 (cfgM m (Table.ok m)).N = (on3 (grad A D I) : FVec Ideal S4x1024x2048 .bf16) := by
  refine funext fun (i : S4x1024x2048.Idx) => ?_
  have h0 : (i 0).val < 4 := (i 0).isLt
  have h1 : (i 1).val < 1024 := (i 1).isLt
  have h2 : (i 2).val < 2048 := (i 2).isLt
  have hN : (cfgM m (Table.ok m)).N = 16 := N_0
  have hn : 2 * (2 * (i 0).val + (i 2).val / 1024) + 1 < (cfgM m (Table.ok m)).N := by omega
  have hi := spot (m := m) (2 * (i 0).val + (i 2).val / 1024) hn (ix3 0 ⟨(i 1).val, h1⟩ ⟨(i 2).val % 1024, Nat.mod_lt _ (by decide)⟩) i (by omega) rfl
    (by show (i 2).val = _ + (i 2).val % 1024; omega)
  refine (congrArg ((dats m (Table.ok m) 0 c).arrAt 3 (cfgM m (Table.ok m)).N) hi.symm).trans ((held hF _ hn _).trans ?_)
  show I ((2 * (i 0).val + (i 2).val / 1024) / 2) (i 1).val (1024 * ((2 * (i 0).val + (i 2).val / 1024) % 2) + (i 2).val % 1024)
    + downs 4096 (cut 0 (1024 * (2 * ((2 * (i 0).val + (i 2).val / 1024) / 2))) A) (cut 0 (1024 * ((2 * (i 0).val + (i 2).val / 1024) % 2)) D) (i 1).val ((i 2).val % 1024) = _
  unfold on3 grad downs cut
  simp only [zero_add]
  rw [show 1024 * (2 * ((2 * (i 0).val + (i 2).val / 1024) / 2)) + (i 1).val = 2048 * (i 0).val + (i 1).val by omega,
    show 1024 * ((2 * (i 0).val + (i 2).val / 1024) % 2) + (i 2).val % 1024 = (i 2).val by omega,
    show (2 * (i 0).val + (i 2).val / 1024) / 2 = (i 0).val by omega]
omit hF

/-- The run, the result named and the arguments kept. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (Table.ok m) 0 c).arrAt 3 (cfgM m (Table.ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1 3,
    ((h c).1 0).trans (((dats m (Table.ok m) 0 c).arrAt_in 0 rfl _).trans ((A_eq m (Table.ok m) c 0).trans (V_main_arg0 m c))),
    ((h c).1 1).trans (((dats m (Table.ok m) 0 c).arrAt_in 1 rfl _).trans ((A_eq m (Table.ok m) c 1).trans (V_main_arg1 m c))),
    ((h c).1 2).trans (((dats m (Table.ok m) 0 c).arrAt_in 2 rfl _).trans ((A_eq m (Table.ok m) c 2).trans (V_main_arg2 m c)))⟩) (run_main m ρ (Table.ok m))

open Cert.Reference9Ideal.Read in
/-- The reference's array. -/
theorem formula : val_main_v11 (F := Ideal) (on A : FVec Ideal S4096x8192 .bf16) (on D : FVec Ideal S4096x2048 .bf16)
    (on3 I : FVec Ideal S4x1024x2048 .bf16)
    = (on3 (grad A D I) : FVec Ideal S4x1024x2048 .bf16) := by
  funext i
  have h0 : (i 0).val < 4 := (i 0).isLt
  have h1 : (i 1).val < 1024 := (i 1).isLt
  have h2 : (i 2).val < 2048 := (i 2).isLt
  simp only [val_main_v11_apply, val_main_v10_apply, val_main_v9_apply, val_main_v8_apply, val_main_v7_apply, val_main_v6_apply, val_main_v5_apply, val_main_v2_apply, val_main_v1_apply, val_main_v0_apply]
  unfold on3 grad downs
  rw [Finset.sum_range]
  refine congrArg (I (i 0).val (i 1).val (i 2).val + ·) (Finset.sum_congr rfl fun k _ => ?_)
  refine (mul_comm _ _).trans (congrArg₂ (· * ·) ?_ ?_)
  · refine congrArg (A k.val) ?_
    dsimp only
    omega
  · refine congrArg (D k.val) ?_
    dsimp only
    omega

end Cert.Kernel9Ideal.Grad

end
-- ==== Proof.UpGradSibling.lean ====
/- The gradient of the up projection's weights: the half of the rows that the other core keeps. The kernel's array, its two partial
   sums added one after the other in an accumulator, and the reference's. -/
module

public import proofs.«01_k».proof.Proof.Halves
public import proofs.«01_k».proof.Proof.Gen.Kernel10Ideal.Frame
public import proofs.«01_k».proof.Proof.Gen.Reference10Ideal.Read

@[expose] public section

set_option maxRecDepth 16384

noncomputable section

namespace Cert.Kernel10Ideal.Table

open Idealize.ShloMosaic Idealize.ShloMosaic.TcCoe Idealize.ShloMosaic.StableHlo Cert.Kernel10Ideal Cert.Kernel10Ideal.Gen

variable {F : FTy → Type} [FloatOps F] (m : (ℓ : Loc nD τ sig) → Buf (Elt F) ℓ)

/-- The table's one word. -/
theorem word (r : Rect S1) (h : r.shape.numel = 1) : (tbl m).at 0 r h = 1#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 1] := by
  unfold cc0_transform_0
  dsimp only
  rw [word]
  revert i
  decide +kernel

/-- Every such block lies inside the array. -/
theorem ok : Ok m := by
  unfold Ok ok0
  rw [funext (place m)]
  decide +kernel

end Cert.Kernel10Ideal.Table

namespace Cert.Kernel10Ideal.Grad

open Idealize.ShloMosaic Idealize.ShloMosaic.TcCoe Idealize.SL.Sem Idealize.ShloMosaic.StableHlo Cert.Kernel10Ideal Cert.Kernel10Ideal.Gen Cert.Product

theorem first (f g : ℕ → ℕ → EReal) :
    k0_pay1 (F := Ideal) (on f : FVec Ideal S2048x1024 .bf16) (on g : FVec Ideal S2048x1024 .bf16) = on (downs 2048 f g) := by
  unfold k0_pay1
  dsimp only
  funext i; idx_vars i; pointwise [on, downs, Finset.sum_range]

theorem next (s f g : ℕ → ℕ → EReal) :
    k0_pay2 (F := Ideal) (on s : FVec Ideal S1024x1024 .f32) (on f : FVec Ideal S2048x1024 .bf16) (on g : FVec Ideal S2048x1024 .bf16)
      = on fun r c => s r c + downs 2048 f g r c := by
  unfold k0_pay2
  dsimp only
  funext i; idx_vars i; pointwise [on, downs, Finset.sum_range]

theorem last (s : ℕ → ℕ → EReal) : k0_pay3 (F := Ideal) (on s : FVec Ideal S1024x1024 .f32) = on3 fun _ => s := by
  unfold k0_pay3
  dsimp only
  rw [truncf_on, slot_of]

section Bodies

variable {c : Dev nD} {i : grid0.Coords}
  {arg4 : Memref sig .tc .vmem S2048x1024 .bf16} {harg4 : arg4.IsWhole} {arg5 : Memref sig .tc .vmem S2048x1024 .bf16} {harg5 : arg5.IsWhole}
  {arg6 : Memref sig .tc .vmem S1x1024x1024 .bf16} {harg6 : arg6.IsWhole} {arg7 : Memref sig .tc .vmem S1024x1024 .f32} {harg7 : arg7.IsWhole}
  {s f g : ℕ → ℕ → EReal} {x0 : Vec Ideal S2048x1024 .bf16} {x1 : Vec Ideal S2048x1024 .bf16} {xt : TbBuf0 (F := Ideal) c tbM0_0} {xs : Vec Ideal S1024x1024 .f32}
  (h0 : x0 = (on f : FVec Ideal S2048x1024 .bf16)) (h1 : x1 = (on g : FVec Ideal S2048x1024 .bf16)) (hs : xs = (on s : FVec Ideal S1024x1024 .f32))

theorem two : (![0, 0] : Fin 2 → ℕ) = fun _ => 0 := by decide
theorem three : (![0, 0, 0] : Fin 3 → ℕ) = fun _ => 0 := by decide

include h0 h1

/-- The first part of the sum. -/
theorem left_A {hc0 : cond0_0 i} {hc1 : ¬cond0_1 i} {hc2 : ¬cond0_2 i} :
    sout0_A_0 (F := Ideal) c i arg4 harg4 arg5 harg5 arg6 harg6 arg7 harg7 hc0 hc1 hc2 x0 x1 xt = (on (downs 2048 f g) : FVec Ideal S1024x1024 .f32) := by
  subst h0 h1
  unfold sout0_A_0
  rw [View.read_writes_eq_canon _ _ _ (scover0_A_0 c i arg4 harg4 arg5 harg5 arg6 harg6 arg7 harg7 hc0 hc1 hc2 _ _ _)]
  unfold kernelRun0_A
  dsimp only
  simp only [View.canon_unit_zero (S := S1024x1024) two, View.readAt_eq_ld, harg4.read_unread, harg5.read_unread, harg7.read_unread, View.ld_unit_zero (S := S2048x1024) two, View.ld_unit_zero (S := S1024x1024) two]
  exact first f g

include hs in
/-- The whole sum, stored. -/
theorem out_B {hc0 : ¬cond0_0 i} {hc1 : cond0_1 i} {hc2 : cond0_2 i} :
    out0_B_2 (F := Ideal) c i arg4 harg4 arg5 harg5 arg6 harg6 arg7 harg7 hc0 hc1 hc2 x0 x1 xt xs
      = (on3 (fun _ r c => s r c + downs 2048 f g r c) : FVec Ideal S1x1024x1024 .bf16) := by
  subst h0 h1 hs
  unfold out0_B_2
  rw [View.read_writes_eq_canon _ _ _ (cover0_B_2 c i arg4 harg4 arg5 harg5 arg6 harg6 arg7 harg7 hc0 hc1 hc2 _ _ _ _)]
  unfold kernelRun0_B
  dsimp only
  sl_unfold_words
  simp only [View.canon_unit_zero (S := S1x1024x1024) three, View.readAt_eq_ld, harg4.read_unread, harg5.read_unread, harg7.read_unread, View.ld_unit_zero (S := S2048x1024) two, View.ld_unit_zero (S := S1024x1024) two]
  exact (congrArg k0_pay3 ((View.readCov_unit_zero (S := S1024x1024) arg7.view two _ _).trans (next s f g))).trans (last _)

end Bodies

/-- Entry `(s, r, q)` of the result. -/
def grad (A D : ℕ → ℕ → EReal) (s r q : ℕ) : EReal := downs 4096 A D (1024 + r) (2048 * s + q)

variable (m : (ℓ : Loc nD τ sig) → Buf (Elt Ideal) ℓ) (c : Dev nD) (A D : ℕ → ℕ → EReal)

/-- What the program's arguments hold. -/
structure Fed : Prop where
  a : m ((c : Thread nD τ).loc main_arg0) = (on A : FVec Ideal S4096x2048 .bf16)
  d : m ((c : Thread nD τ).loc main_arg1) = (on D : FVec Ideal S4096x8192 .bf16)

theorem places : ∀ t : Fin grid0.N, ((grid0.coords t 2).val = t.val % 2 ∧ (grid0.coords t 0).val = 0) ∧
    cc0_transform_1 (grid0.coords t) = ![t.val % 2, t.val / 2] ∧ cc0_transform_2 (grid0.coords t) = ![t.val / 4, 0, t.val / 2 % 2] := by
  decide +kernel

variable {m c A D} (hF : Fed m c A D) (t : Fin (cfgM m (Table.ok m)).N)
include hF

theorem blk0 : iblk m (Table.ok m) c 0 t = (on (cut (2048 * (t.val % 2)) (1024 * (1)) A) : FVec Ideal S2048x1024 .bf16) := by
  obtain ⟨⟨p, q⟩, -⟩ := places t
  refine funext fun (y : S2048x1024.Idx) => ?_
  refine (congrFun ((V_main_arg0 m c).trans hF.a) _).trans ?_
  show A (cc0_transform_0 inb_S1_S1_0 numel1_S1 (tbl m) (grid0.coords t) 0 * 2048 + 1 * (y 0).val)
    (cc0_transform_0 inb_S1_S1_0 numel1_S1 (tbl m) (grid0.coords t) 1 * 1024 + 1 * (y 1).val) = _
  rw [Table.place m]
  show A ((grid0.coords t 2).val * 2048 + 1 * (y 0).val) ((1) * 1024 + 1 * (y 1).val) = _
  rw [p]
  unfold on cut
  congr 1 <;> omega

theorem blk1 : iblk m (Table.ok m) c 1 t = (on (cut (2048 * (t.val % 2)) (1024 * (t.val / 2)) D) : FVec Ideal S2048x1024 .bf16) := by
  obtain ⟨-, p, -⟩ := places t
  refine funext fun (y : S2048x1024.Idx) => ?_
  refine (congrFun ((V_main_arg1 m c).trans hF.d) _).trans ?_
  show D (cc0_transform_1 (grid0.coords t) 0 * 2048 + 1 * (y 0).val) (cc0_transform_1 (grid0.coords t) 1 * 1024 + 1 * (y 1).val) = _
  rw [p]
  show D (t.val % 2 * 2048 + 1 * (y 0).val) (t.val / 2 * 1024 + 1 * (y 1).val) = _
  unfold on cut
  congr 1 <;> omega

theorem first_sum (h : t.val % 2 = 0) : (outsAt0 m (Table.ok m) c t.val t.isLt).2 = (on (downs 2048 (cut 0 (1024 * (1)) A) (cut 0 (1024 * (t.val / 2)) D)) : FVec Ideal S1024x1024 .f32) := by
  rw [outsAt0_A m (Table.ok m) c t h (by omega) (by omega)]
  dsimp only
  refine (left_A (blk0 hF t) (blk1 hF t)).trans ?_
  rw [h]

theorem last_sum (h : t.val % 2 = 1) (s : ℕ → ℕ → EReal)
    (hs : (outsAt0 m (Table.ok m) c (t.val - 1) (Nat.lt_of_le_of_lt (Nat.sub_le _ _) t.isLt)).2 = (on s : FVec Ideal S1024x1024 .f32)) :
    (outsAt0 m (Table.ok m) c t.val t.isLt).1 = (on3 (fun _ r q => s r q
      + downs 2048 (cut 2048 (1024 * (1)) A) (cut 2048 (1024 * (t.val / 2)) D) r q) : FVec Ideal S1x1024x1024 .bf16) := by
  rw [outsAt0_B m (Table.ok m) c t (by omega) h h]
  dsimp only
  refine (out_B (blk0 hF t) (blk1 hF t) hs).trans ?_
  rw [h]

/-- The block that the second of two points writes. -/
theorem block (n : ℕ) (h : 2 * n + 1 < (cfgM m (Table.ok m)).N) : (outsAt0 m (Table.ok m) c (2 * n + 1) h).1 =
    (on3 (fun _ => downs 4096 (cut 0 (1024 * (1)) A) (cut 0 (1024 * (n)) D)) : FVec Ideal S1x1024x1024 .bf16) := by
  have e0 := first_sum hF ⟨2 * n, by omega⟩ (by show 2 * n % 2 = 0; omega)
  have e1 := last_sum hF ⟨2 * n + 1, h⟩ (by show (2 * n + 1) % 2 = 1; omega) _ e0
  refine e1.trans (on3_congr fun _ _ r _ q _ => ?_)
  dsimp only
  simp only [show 2 * n / 2 = n by omega, show (2 * n + 1) / 2 = n by omega, show 2 * n / 4 = n / 2 by omega, show (2 * n + 1) / 4 = n / 2 by omega]
  rw [downs_two]

omit hF in
theorem apart : ∀ t t' : Fin (cfgM m (Table.ok m)).N, ((cfgM m (Table.ok m)).win 2).flush t = true → ((cfgM m (Table.ok m)).win 2).flush t' = true → t ≠ t' →
    Disjoint (((cfgM m (Table.ok m)).win 2).blk t).view.set (((cfgM m (Table.ok m)).win 2).blk t').view.set := by
  intro t t' hf hf' hne
  refine ((cfgM m (Table.ok m)).win 2).disjoint_blk fun h => hne (Fin.ext ?_)
  have q := (flush0_2 (adm m (Table.ok m)) t).mp hf
  have q' := (flush0_2 (adm m (Table.ok m)) t').mp hf'
  have e : cc0_transform_2 (grid0.coords t) = cc0_transform_2 (grid0.coords t') := h
  rw [(places t).2.2, (places t').2.2] at e
  have e0 : t.val / 4 = t'.val / 4 := congrFun e 0
  have e2 : t.val / 2 % 2 = t'.val / 2 % 2 := congrFun e 2
  omega

omit hF in
/-- Where an element of the block that point `2 * n + 1` writes lies in the array. -/
theorem spot (n : ℕ) (h : 2 * n + 1 < (cfgM m (Table.ok m)).N) (y : S1x1024x1024.Idx) (i : S4x1024x2048.Idx) (h0 : (i 0).val = n / 2) (h1 : (i 1).val = (y 1).val)
    (h2 : (i 2).val = 1024 * (n % 2) + (y 2).val) : (((cfgM m (Table.ok m)).win 2).blk ⟨2 * n + 1, h⟩).view.emb y = i := by
  have hy : (y 0).val < 1 := (y 0).isLt
  have p : cc0_transform_2 (grid0.coords ⟨2 * n + 1, h⟩) = ![(2 * n + 1) / 4, 0, (2 * n + 1) / 2 % 2] := (places ⟨2 * n + 1, h⟩).2.2
  funext a
  match a with
  | ⟨0, _⟩ =>
    apply Fin.ext
    show cc0_transform_2 (grid0.coords ⟨2 * n + 1, h⟩) 0 * 1 + 1 * (y 0).val = (i 0).val
    rw [p]
    show (2 * n + 1) / 4 * 1 + 1 * (y 0).val = (i 0).val
    omega
  | ⟨1, _⟩ =>
    apply Fin.ext
    show cc0_transform_2 (grid0.coords ⟨2 * n + 1, h⟩) 1 * 1024 + 1 * (y 1).val = (i 1).val
    rw [p]
    show 0 * 1024 + 1 * (y 1).val = (i 1).val
    omega
  | ⟨2, _⟩ =>
    apply Fin.ext
    show cc0_transform_2 (grid0.coords ⟨2 * n + 1, h⟩) 2 * 1024 + 1 * (y 2).val = (i 2).val
    rw [p]
    show (2 * n + 1) / 2 % 2 * 1024 + 1 * (y 2).val = (i 2).val
    omega

/-- The array at that place. -/
theorem held (n : ℕ) (h : 2 * n + 1 < (cfgM m (Table.ok m)).N) (y : S1x1024x1024.Idx) :
    (dats m (Table.ok m) 0 c).arrAt 2 (cfgM m (Table.ok m)).N ((((cfgM m (Table.ok m)).win 2).blk ⟨2 * n + 1, h⟩).view.emb y)
      = (on3 (fun _ => downs 4096 (cut 0 (1024 * (1)) A) (cut 0 (1024 * (n)) D)) : FVec Ideal S1x1024x1024 .bf16) y := by
  have hf : ((cfgM m (Table.ok m)).win 2).flush ⟨2 * n + 1, h⟩ = true := (flush0_2 _ ⟨2 * n + 1, h⟩).mpr (by show (2 * n + 1) % 2 = 1; omega)
  refine ((dats m (Table.ok m) 0 c).arrAt_emb_eq_flushed 2 apart ⟨2 * n + 1, h⟩ hf y).trans ?_
  have ea := (after0_2 m (Table.ok m) c ⟨2 * n + 1, h⟩).trans (block hF n h)
  have eb := congrFun (congrArg (((cfgM m (Table.ok m)).win 2).cut (grid0.coords ⟨2 * n + 1, h⟩)) ea) y
  refine (congrArg (_root_.cast _) eb).trans ?_
  rfl

/-- The kernel's array. -/
theorem array : (dats m (Table.ok m) 0 c).arrAt 2 (cfgM m (Table.ok m)).N = (on3 (grad A D) : FVec Ideal S4x1024x2048 .bf16) := by
  refine funext fun (i : S4x1024x2048.Idx) => ?_
  have h0 : (i 0).val < 4 := (i 0).isLt
  have h1 : (i 1).val < 1024 := (i 1).isLt
  have h2 : (i 2).val < 2048 := (i 2).isLt
  have hN : (cfgM m (Table.ok m)).N = 16 := N_0
  have hn : 2 * (2 * (i 0).val + (i 2).val / 1024) + 1 < (cfgM m (Table.ok m)).N := by omega
  have hi := spot (m := m) (2 * (i 0).val + (i 2).val / 1024) hn (ix3 0 ⟨(i 1).val, h1⟩ ⟨(i 2).val % 1024, Nat.mod_lt _ (by decide)⟩) i (by omega) rfl
    (by show (i 2).val = _ + (i 2).val % 1024; omega)
  refine (congrArg ((dats m (Table.ok m) 0 c).arrAt 2 (cfgM m (Table.ok m)).N) hi.symm).trans ((held hF _ hn _).trans ?_)
  show downs 4096 (cut 0 (1024 * (1)) A) (cut 0 (1024 * ((2 * (i 0).val + (i 2).val / 1024))) D) (i 1).val ((i 2).val % 1024) = _
  unfold on3 grad downs cut
  simp only [zero_add]
  rw [show 1024 * (2 * (i 0).val + (i 2).val / 1024) + (i 2).val % 1024 = 2048 * (i 0).val + (i 2).val by omega,
    show 1024 * 1 + (i 1).val = 1024 + (i 1).val by omega]
omit hF

/-- The run, the result named and the arguments kept. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (Table.ok m) 0 c).arrAt 2 (cfgM m (Table.ok m)).N
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1 2,
    ((h c).1 0).trans (((dats m (Table.ok m) 0 c).arrAt_in 0 rfl _).trans ((A_eq m (Table.ok m) c 0).trans (V_main_arg0 m c))),
    ((h c).1 1).trans (((dats m (Table.ok m) 0 c).arrAt_in 1 rfl _).trans ((A_eq m (Table.ok m) c 1).trans (V_main_arg1 m c)))⟩) (run_main m ρ (Table.ok m))

open Cert.Reference10Ideal.Read in
/-- The reference's array. -/
theorem formula : val_main_v10 (F := Ideal) (on A : FVec Ideal S4096x2048 .bf16) (on D : FVec Ideal S4096x8192 .bf16)
    = (on3 (grad A D) : FVec Ideal S4x1024x2048 .bf16) := by
  funext i
  have h0 : (i 0).val < 4 := (i 0).isLt
  have h1 : (i 1).val < 1024 := (i 1).isLt
  have h2 : (i 2).val < 2048 := (i 2).isLt
  simp only [val_main_v10_apply, val_main_v9_apply, val_main_v8_apply, val_main_v7_apply, val_main_v6_apply, val_main_v5_apply, val_main_v4_apply, val_main_v1_apply, val_main_v0_apply]
  unfold on3 grad downs
  rw [Finset.sum_range]
  refine Finset.sum_congr rfl fun k _ => ?_
  refine (mul_comm _ _).trans (congrArg₂ (· * ·) ?_ ?_)
  · refine congrArg (A k.val) ?_
    dsimp only
    rw [show ((i 1).val * 4 + (i 0).val) * 2048 + (i 2).val = 4 * 2048 * (i 1).val + (2048 * (i 0).val + (i 2).val) by ring]
    omega
  · refine congrArg (D k.val) ?_
    dsimp only
    rw [show ((i 1).val * 4 + (i 0).val) * 2048 + (i 2).val = 4 * 2048 * (i 1).val + (2048 * (i 0).val + (i 2).val) by ring]
    omega

end Cert.Kernel10Ideal.Grad

end
-- ==== Proof.UpGradOwn.lean ====
/- The gradient of the up projection's weights: the core's own half of the rows, added to the other core's sum. The kernel's array, its two partial
   sums added one after the other in an accumulator, and the reference's. -/
module

public import proofs.«01_k».proof.Proof.Halves
public import proofs.«01_k».proof.Proof.Gen.Kernel11Ideal.Frame
public import proofs.«01_k».proof.Proof.Gen.Reference11Ideal.Read

@[expose] public section

set_option maxRecDepth 16384

noncomputable section

namespace Cert.Kernel11Ideal.Table

open Idealize.ShloMosaic Idealize.ShloMosaic.TcCoe Idealize.ShloMosaic.StableHlo Cert.Kernel11Ideal Cert.Kernel11Ideal.Gen

variable {F : FTy → Type} [FloatOps F] (m : (ℓ : Loc nD τ sig) → Buf (Elt F) ℓ)

/-- The table's one word. -/
theorem word (r : Rect S1) (h : r.shape.numel = 1) : (tbl m).at 0 r h = 0#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 0] := by
  unfold cc0_transform_0
  dsimp only
  rw [word]
  revert i
  decide +kernel

/-- Every such block lies inside the array. -/
theorem ok : Ok m := by
  unfold Ok ok0
  rw [funext (place m)]
  decide +kernel

end Cert.Kernel11Ideal.Table

namespace Cert.Kernel11Ideal.Grad

open Idealize.ShloMosaic Idealize.ShloMosaic.TcCoe Idealize.SL.Sem Idealize.ShloMosaic.StableHlo Cert.Kernel11Ideal Cert.Kernel11Ideal.Gen Cert.Product

theorem start (v : ℕ → ℕ → ℕ → EReal) : k0_pay1 (F := Ideal) (on3 v : FVec Ideal S1x1024x1024 .bf16) = on (v 0) := by
  unfold k0_pay1
  rw [slot_on]
  dsimp only
  rw [extf_on, shapeCast_self]

theorem first (s f g : ℕ → ℕ → EReal) :
    k0_pay2 (F := Ideal) (on s : FVec Ideal S1024x1024 .f32) (on f : FVec Ideal S2048x1024 .bf16) (on g : FVec Ideal S2048x1024 .bf16)
      = on fun r c => s r c + downs 2048 f g r c := by
  unfold k0_pay2
  dsimp only
  funext i; idx_vars i; pointwise [on, downs, Finset.sum_range]

theorem next (s f g : ℕ → ℕ → EReal) :
    k0_pay3 (F := Ideal) (on s : FVec Ideal S1024x1024 .f32) (on f : FVec Ideal S2048x1024 .bf16) (on g : FVec Ideal S2048x1024 .bf16)
      = on fun r c => s r c + downs 2048 f g r c := by
  unfold k0_pay3
  dsimp only
  funext i; idx_vars i; pointwise [on, downs, Finset.sum_range]

theorem last (s : ℕ → ℕ → EReal) : k0_pay4 (F := Ideal) (on s : FVec Ideal S1024x1024 .f32) = on3 fun _ => s := by
  unfold k0_pay4
  dsimp only
  rw [truncf_on, slot_of]

section Bodies

variable {c : Dev nD} {i : grid0.Coords}
  {arg4 : Memref sig .tc .vmem S2048x1024 .bf16} {harg4 : arg4.IsWhole} {arg5 : Memref sig .tc .vmem S2048x1024 .bf16} {harg5 : arg5.IsWhole}
  {arg6 : Memref sig .tc .vmem S1x1024x1024 .bf16} {harg6 : arg6.IsWhole} {arg7 : Memref sig .tc .vmem S1x1024x1024 .bf16} {harg7 : arg7.IsWhole}
  {arg8 : Memref sig .tc .vmem S1024x1024 .f32} {harg8 : arg8.IsWhole}
  {s f g : ℕ → ℕ → EReal} {v : ℕ → ℕ → ℕ → EReal} {x0 : Vec Ideal S2048x1024 .bf16} {x1 : Vec Ideal S2048x1024 .bf16} {xi : Vec Ideal S1x1024x1024 .bf16} {xt : TbBuf0 (F := Ideal) c tbM0_0} {xs : Vec Ideal S1024x1024 .f32}
  (h0 : x0 = (on f : FVec Ideal S2048x1024 .bf16)) (h1 : x1 = (on g : FVec Ideal S2048x1024 .bf16)) (hi : xi = (on3 v : FVec Ideal S1x1024x1024 .bf16)) (hs : xs = (on s : FVec Ideal S1024x1024 .f32))

theorem two : (![0, 0] : Fin 2 → ℕ) = fun _ => 0 := by decide
theorem three : (![0, 0, 0] : Fin 3 → ℕ) = fun _ => 0 := by decide

include h0 h1

include hi in
/-- The other core's sum and the first part of this one's. -/
theorem left_A {hc0 : cond0_0 i} {hc1 : ¬cond0_1 i} {hc2 : ¬cond0_2 i} :
    sout0_A_0 (F := Ideal) c i arg4 harg4 arg5 harg5 arg6 harg6 arg7 harg7 arg8 harg8 hc0 hc1 hc2 x0 x1 xi xt
      = (on (fun r c => v 0 r c + downs 2048 f g r c) : FVec Ideal S1024x1024 .f32) := by
  subst h0 h1 hi
  unfold sout0_A_0
  rw [View.read_writes_eq_canon _ _ _ (scover0_A_0 c i arg4 harg4 arg5 harg5 arg6 harg6 arg7 harg7 arg8 harg8 hc0 hc1 hc2 _ _ _ _)]
  unfold kernelRun0_A
  dsimp only
  sl_unfold_words
  refine (View.canon_cons_unit_zero (S := S1024x1024) two _ _ _).trans ?_
  simp only [View.readAt_eq_ld, harg4.read_unread, harg5.read_unread, harg8.read_unread, View.ld_unit_zero (S := S2048x1024) two, View.ld_unit_zero (S := S1024x1024) two, harg6.read_unread, View.ld_unit_zero (S := S1x1024x1024) three]
  exact (congrFun (congrFun (congrArg (k0_pay2 (F := Ideal)) ((View.readCov_unit_zero (S := S1024x1024) arg8.view two _ _).trans (start v))) _) _).trans (first (v 0) f g)

include hs in
/-- The whole sum, stored. -/
theorem out_B {hc0 : ¬cond0_0 i} {hc1 : cond0_1 i} {hc2 : cond0_2 i} :
    out0_B_3 (F := Ideal) c i arg4 harg4 arg5 harg5 arg6 harg6 arg7 harg7 arg8 harg8 hc0 hc1 hc2 x0 x1 xi xt xs
      = (on3 (fun _ r c => s r c + downs 2048 f g r c) : FVec Ideal S1x1024x1024 .bf16) := by
  subst h0 h1 hs
  unfold out0_B_3
  rw [View.read_writes_eq_canon _ _ _ (cover0_B_3 c i arg4 harg4 arg5 harg5 arg6 harg6 arg7 harg7 arg8 harg8 hc0 hc1 hc2 _ _ _ _ _)]
  unfold kernelRun0_B
  dsimp only
  sl_unfold_words
  simp only [View.canon_unit_zero (S := S1x1024x1024) three, View.readAt_eq_ld, harg4.read_unread, harg5.read_unread, harg8.read_unread, View.ld_unit_zero (S := S2048x1024) two, View.ld_unit_zero (S := S1024x1024) two, harg6.read_unread, View.ld_unit_zero (S := S1x1024x1024) three]
  exact (congrArg k0_pay4 ((View.readCov_unit_zero (S := S1024x1024) arg8.view two _ _).trans (next s f g))).trans (last _)

end Bodies

/-- Entry `(s, r, q)` of the result. -/
def grad (A D : ℕ → ℕ → EReal) (I : ℕ → ℕ → ℕ → EReal) (s r q : ℕ) : EReal := I s r q + downs 4096 A D (r) (2048 * s + q)

variable (m : (ℓ : Loc nD τ sig) → Buf (Elt Ideal) ℓ) (c : Dev nD) (A D : ℕ → ℕ → EReal) (I : ℕ → ℕ → ℕ → EReal)

/-- What the program's arguments hold. -/
structure Fed : Prop where
  a : m ((c : Thread nD τ).loc main_arg0) = (on A : FVec Ideal S4096x2048 .bf16)
  d : m ((c : Thread nD τ).loc main_arg1) = (on D : FVec Ideal S4096x8192 .bf16)
  i : m ((c : Thread nD τ).loc main_arg2) = (on3 I : FVec Ideal S4x1024x2048 .bf16)

theorem places : ∀ t : Fin grid0.N, ((grid0.coords t 2).val = t.val % 2 ∧ (grid0.coords t 0).val = 0) ∧
    cc0_transform_1 (grid0.coords t) = ![t.val % 2, t.val / 2] ∧ cc0_transform_2 (grid0.coords t) = ![t.val / 4, 0, t.val / 2 % 2] := by
  decide +kernel

variable {m c A D I} (hF : Fed m c A D I) (t : Fin (cfgM m (Table.ok m)).N)
include hF

theorem blk0 : iblk m (Table.ok m) c 0 t = (on (cut (2048 * (t.val % 2)) (1024 * (0)) A) : FVec Ideal S2048x1024 .bf16) := by
  obtain ⟨⟨p, q⟩, -⟩ := places t
  refine funext fun (y : S2048x1024.Idx) => ?_
  refine (congrFun ((V_main_arg0 m c).trans hF.a) _).trans ?_
  show A (cc0_transform_0 inb_S1_S1_0 numel1_S1 (tbl m) (grid0.coords t) 0 * 2048 + 1 * (y 0).val)
    (cc0_transform_0 inb_S1_S1_0 numel1_S1 (tbl m) (grid0.coords t) 1 * 1024 + 1 * (y 1).val) = _
  rw [Table.place m]
  show A ((grid0.coords t 2).val * 2048 + 1 * (y 0).val) ((0) * 1024 + 1 * (y 1).val) = _
  rw [p]
  unfold on cut
  congr 1 <;> omega

theorem blk1 : iblk m (Table.ok m) c 1 t = (on (cut (2048 * (t.val % 2)) (1024 * (t.val / 2)) D) : FVec Ideal S2048x1024 .bf16) := by
  obtain ⟨-, p, -⟩ := places t
  refine funext fun (y : S2048x1024.Idx) => ?_
  refine (congrFun ((V_main_arg1 m c).trans hF.d) _).trans ?_
  show D (cc0_transform_1 (grid0.coords t) 0 * 2048 + 1 * (y 0).val) (cc0_transform_1 (grid0.coords t) 1 * 1024 + 1 * (y 1).val) = _
  rw [p]
  show D (t.val % 2 * 2048 + 1 * (y 0).val) (t.val / 2 * 1024 + 1 * (y 1).val) = _
  unfold on cut
  congr 1 <;> omega

theorem blk2 : iblk m (Table.ok m) c 2 t = (on3 (fun _ => cut 0 (1024 * (t.val / 2 % 2)) (I (t.val / 4))) : FVec Ideal S1x1024x1024 .bf16) := by
  obtain ⟨-, -, p⟩ := places t
  refine funext fun (y : S1x1024x1024.Idx) => ?_
  have hy : (y 0).val < 1 := (y 0).isLt
  refine (congrFun ((V_main_arg2 m c).trans hF.i) _).trans ?_
  show I (cc0_transform_2 (grid0.coords t) 0 * 1 + 1 * (y 0).val) (cc0_transform_2 (grid0.coords t) 1 * 1024 + 1 * (y 1).val)
    (cc0_transform_2 (grid0.coords t) 2 * 1024 + 1 * (y 2).val) = _
  rw [p]
  show I (t.val / 4 * 1 + 1 * (y 0).val) (0 * 1024 + 1 * (y 1).val) (t.val / 2 % 2 * 1024 + 1 * (y 2).val) = _
  unfold on3 cut
  congr 1 <;> omega

theorem first_sum (h : t.val % 2 = 0) : (outsAt0 m (Table.ok m) c t.val t.isLt).2 = (on (fun r q => cut 0 (1024 * (t.val / 2 % 2)) (I (t.val / 4)) r q
      + downs 2048 (cut 0 (1024 * (0)) A) (cut 0 (1024 * (t.val / 2)) D) r q) : FVec Ideal S1024x1024 .f32) := by
  rw [outsAt0_A m (Table.ok m) c t h (by omega) (by omega)]
  dsimp only
  refine (left_A (blk0 hF t) (blk1 hF t) (blk2 hF t)).trans ?_
  rw [h]

theorem last_sum (h : t.val % 2 = 1) (s : ℕ → ℕ → EReal)
    (hs : (outsAt0 m (Table.ok m) c (t.val - 1) (Nat.lt_of_le_of_lt (Nat.sub_le _ _) t.isLt)).2 = (on s : FVec Ideal S1024x1024 .f32)) :
    (outsAt0 m (Table.ok m) c t.val t.isLt).1 = (on3 (fun _ r q => s r q
      + downs 2048 (cut 2048 (1024 * (0)) A) (cut 2048 (1024 * (t.val / 2)) D) r q) : FVec Ideal S1x1024x1024 .bf16) := by
  rw [outsAt0_B m (Table.ok m) c t (by omega) h h]
  dsimp only
  refine (out_B (blk0 hF t) (blk1 hF t) hs).trans ?_
  rw [h]

/-- The block that the second of two points writes. -/
theorem block (n : ℕ) (h : 2 * n + 1 < (cfgM m (Table.ok m)).N) : (outsAt0 m (Table.ok m) c (2 * n + 1) h).1 =
    (on3 (fun _ r q => I (n / 2) r (1024 * (n % 2) + q)
      + downs 4096 (cut 0 (1024 * (0)) A) (cut 0 (1024 * (n)) D) r q) : FVec Ideal S1x1024x1024 .bf16) := by
  have e0 := first_sum hF ⟨2 * n, by omega⟩ (by show 2 * n % 2 = 0; omega)
  have e1 := last_sum hF ⟨2 * n + 1, h⟩ (by show (2 * n + 1) % 2 = 1; omega) _ e0
  refine e1.trans (on3_congr fun _ _ r _ q _ => ?_)
  dsimp only
  simp only [show 2 * n / 2 = n by omega, show (2 * n + 1) / 2 = n by omega, show 2 * n / 4 = n / 2 by omega, show (2 * n + 1) / 4 = n / 2 by omega]
  rw [downs_two, cut, zero_add, add_assoc]

omit hF in
theorem apart : ∀ t t' : Fin (cfgM m (Table.ok m)).N, ((cfgM m (Table.ok m)).win 3).flush t = true → ((cfgM m (Table.ok m)).win 3).flush t' = true → t ≠ t' →
    Disjoint (((cfgM m (Table.ok m)).win 3).blk t).view.set (((cfgM m (Table.ok m)).win 3).blk t').view.set := by
  intro t t' hf hf' hne
  refine ((cfgM m (Table.ok m)).win 3).disjoint_blk fun h => hne (Fin.ext ?_)
  have q := (flush0_3 (adm m (Table.ok m)) t).mp hf
  have q' := (flush0_3 (adm m (Table.ok m)) t').mp hf'
  have e : cc0_transform_2 (grid0.coords t) = cc0_transform_2 (grid0.coords t') := h
  rw [(places t).2.2, (places t').2.2] at e
  have e0 : t.val / 4 = t'.val / 4 := congrFun e 0
  have e2 : t.val / 2 % 2 = t'.val / 2 % 2 := congrFun e 2
  omega

omit hF in
/-- Where an element of the block that point `2 * n + 1` writes lies in the array. -/
theorem spot (n : ℕ) (h : 2 * n + 1 < (cfgM m (Table.ok m)).N) (y : S1x1024x1024.Idx) (i : S4x1024x2048.Idx) (h0 : (i 0).val = n / 2) (h1 : (i 1).val = (y 1).val)
    (h2 : (i 2).val = 1024 * (n % 2) + (y 2).val) : (((cfgM m (Table.ok m)).win 3).blk ⟨2 * n + 1, h⟩).view.emb y = i := by
  have hy : (y 0).val < 1 := (y 0).isLt
  have p : cc0_transform_2 (grid0.coords ⟨2 * n + 1, h⟩) = ![(2 * n + 1) / 4, 0, (2 * n + 1) / 2 % 2] := (places ⟨2 * n + 1, h⟩).2.2
  funext a
  match a with
  | ⟨0, _⟩ =>
    apply Fin.ext
    show cc0_transform_2 (grid0.coords ⟨2 * n + 1, h⟩) 0 * 1 + 1 * (y 0).val = (i 0).val
    rw [p]
    show (2 * n + 1) / 4 * 1 + 1 * (y 0).val = (i 0).val
    omega
  | ⟨1, _⟩ =>
    apply Fin.ext
    show cc0_transform_2 (grid0.coords ⟨2 * n + 1, h⟩) 1 * 1024 + 1 * (y 1).val = (i 1).val
    rw [p]
    show 0 * 1024 + 1 * (y 1).val = (i 1).val
    omega
  | ⟨2, _⟩ =>
    apply Fin.ext
    show cc0_transform_2 (grid0.coords ⟨2 * n + 1, h⟩) 2 * 1024 + 1 * (y 2).val = (i 2).val
    rw [p]
    show (2 * n + 1) / 2 % 2 * 1024 + 1 * (y 2).val = (i 2).val
    omega

/-- The array at that place. -/
theorem held (n : ℕ) (h : 2 * n + 1 < (cfgM m (Table.ok m)).N) (y : S1x1024x1024.Idx) :
    (dats m (Table.ok m) 0 c).arrAt 3 (cfgM m (Table.ok m)).N ((((cfgM m (Table.ok m)).win 3).blk ⟨2 * n + 1, h⟩).view.emb y)
      = (on3 (fun _ r q => I (n / 2) r (1024 * (n % 2) + q)
      + downs 4096 (cut 0 (1024 * (0)) A) (cut 0 (1024 * (n)) D) r q) : FVec Ideal S1x1024x1024 .bf16) y := by
  have hf : ((cfgM m (Table.ok m)).win 3).flush ⟨2 * n + 1, h⟩ = true := (flush0_3 _ ⟨2 * n + 1, h⟩).mpr (by show (2 * n + 1) % 2 = 1; omega)
  refine ((dats m (Table.ok m) 0 c).arrAt_emb_eq_flushed 3 apart ⟨2 * n + 1, h⟩ hf y).trans ?_
  have ea := (after0_3 m (Table.ok m) c ⟨2 * n + 1, h⟩).trans (block hF n h)
  have eb := congrFun (congrArg (((cfgM m (Table.ok m)).win 3).cut (grid0.coords ⟨2 * n + 1, h⟩)) ea) y
  refine (congrArg (_root_.cast _) eb).trans ?_
  rfl

/-- The kernel's array. -/
theorem array : (dats m (Table.ok m) 0 c).arrAt 3 (cfgM m (Table.ok m)).N = (on3 (grad A D I) : FVec Ideal S4x1024x2048 .bf16) := by
  refine funext fun (i : S4x1024x2048.Idx) => ?_
  have h0 : (i 0).val < 4 := (i 0).isLt
  have h1 : (i 1).val < 1024 := (i 1).isLt
  have h2 : (i 2).val < 2048 := (i 2).isLt
  have hN : (cfgM m (Table.ok m)).N = 16 := N_0
  have hn : 2 * (2 * (i 0).val + (i 2).val / 1024) + 1 < (cfgM m (Table.ok m)).N := by omega
  have hi := spot (m := m) (2 * (i 0).val + (i 2).val / 1024) hn (ix3 0 ⟨(i 1).val, h1⟩ ⟨(i 2).val % 1024, Nat.mod_lt _ (by decide)⟩) i (by omega) rfl
    (by show (i 2).val = _ + (i 2).val % 1024; omega)
  refine (congrArg ((dats m (Table.ok m) 0 c).arrAt 3 (cfgM m (Table.ok m)).N) hi.symm).trans ((held hF _ hn _).trans ?_)
  show I ((2 * (i 0).val + (i 2).val / 1024) / 2) (i 1).val (1024 * ((2 * (i 0).val + (i 2).val / 1024) % 2) + (i 2).val % 1024)
    + downs 4096 (cut 0 (1024 * (0)) A) (cut 0 (1024 * ((2 * (i 0).val + (i 2).val / 1024))) D) (i 1).val ((i 2).val % 1024) = _
  unfold on3 grad downs cut
  simp only [zero_add]
  rw [show 1024 * (2 * (i 0).val + (i 2).val / 1024) + (i 2).val % 1024 = 2048 * (i 0).val + (i 2).val by omega,
    show 1024 * 0 + (i 1).val = (i 1).val by omega,
    show (2 * (i 0).val + (i 2).val / 1024) / 2 = (i 0).val by omega,
    show 1024 * ((2 * (i 0).val + (i 2).val / 1024) % 2) + (i 2).val % 1024 = (i 2).val by omega]
omit hF

/-- The run, the result named and the arguments kept. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (Table.ok m) 0 c).arrAt 3 (cfgM m (Table.ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1 3,
    ((h c).1 0).trans (((dats m (Table.ok m) 0 c).arrAt_in 0 rfl _).trans ((A_eq m (Table.ok m) c 0).trans (V_main_arg0 m c))),
    ((h c).1 1).trans (((dats m (Table.ok m) 0 c).arrAt_in 1 rfl _).trans ((A_eq m (Table.ok m) c 1).trans (V_main_arg1 m c))),
    ((h c).1 2).trans (((dats m (Table.ok m) 0 c).arrAt_in 2 rfl _).trans ((A_eq m (Table.ok m) c 2).trans (V_main_arg2 m c)))⟩) (run_main m ρ (Table.ok m))

open Cert.Reference11Ideal.Read in
/-- The reference's array. -/
theorem formula : val_main_v12 (F := Ideal) (on A : FVec Ideal S4096x2048 .bf16) (on D : FVec Ideal S4096x8192 .bf16)
    (on3 I : FVec Ideal S4x1024x2048 .bf16)
    = (on3 (grad A D I) : FVec Ideal S4x1024x2048 .bf16) := by
  funext i
  have h0 : (i 0).val < 4 := (i 0).isLt
  have h1 : (i 1).val < 1024 := (i 1).isLt
  have h2 : (i 2).val < 2048 := (i 2).isLt
  simp only [val_main_v12_apply, val_main_v11_apply, val_main_v10_apply, val_main_v9_apply, val_main_v8_apply, val_main_v7_apply, val_main_v6_apply, val_main_v5_apply, val_main_v4_apply, val_main_v1_apply, val_main_v0_apply]
  unfold on3 grad downs
  rw [Finset.sum_range]
  refine congrArg (I (i 0).val (i 1).val (i 2).val + ·) (Finset.sum_congr rfl fun k _ => ?_)
  refine (mul_comm _ _).trans (congrArg₂ (· * ·) ?_ ?_)
  · refine congrArg (A k.val) ?_
    dsimp only
    rw [show ((i 1).val * 4 + (i 0).val) * 2048 + (i 2).val = 4 * 2048 * (i 1).val + (2048 * (i 0).val + (i 2).val) by ring]
    omega
  · refine congrArg (D k.val) ?_
    dsimp only
    rw [show ((i 1).val * 4 + (i 0).val) * 2048 + (i 2).val = 4 * 2048 * (i 1).val + (2048 * (i 0).val + (i 2).val) by ring]
    omega

end Cert.Kernel11Ideal.Grad

end
-- ==== Proof.QkvGradSibling.lean ====
/- The gradient of the query, key and value weights: the half of the rows that the other core keeps. The kernel's array, its two partial
   sums added one after the other in an accumulator, and the reference's. -/
module

public import proofs.«01_k».proof.Proof.Halves
public import proofs.«01_k».proof.Proof.Gen.Kernel12Ideal.Frame
public import proofs.«01_k».proof.Proof.Gen.Reference12Ideal.Read

@[expose] public section

set_option maxRecDepth 16384

noncomputable section

namespace Cert.Kernel12Ideal.Table

open Idealize.ShloMosaic Idealize.ShloMosaic.TcCoe Idealize.ShloMosaic.StableHlo Cert.Kernel12Ideal Cert.Kernel12Ideal.Gen

variable {F : FTy → Type} [FloatOps F] (m : (ℓ : Loc nD τ sig) → Buf (Elt F) ℓ)

/-- The table's one word. -/
theorem word (r : Rect S1) (h : r.shape.numel = 1) : (tbl m).at 0 r h = 1#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 1] := by
  unfold cc0_transform_0
  dsimp only
  rw [word]
  revert i
  decide +kernel

/-- Every such block lies inside the array. -/
theorem ok : Ok m := by
  unfold Ok ok0
  rw [funext (place m)]
  decide +kernel

end Cert.Kernel12Ideal.Table

namespace Cert.Kernel12Ideal.Grad

open Idealize.ShloMosaic Idealize.ShloMosaic.TcCoe Idealize.SL.Sem Idealize.ShloMosaic.StableHlo Cert.Kernel12Ideal Cert.Kernel12Ideal.Gen Cert.Product

theorem first (f g : ℕ → ℕ → EReal) :
    k0_pay1 (F := Ideal) (on f : FVec Ideal S2048x1024 .bf16) (on g : FVec Ideal S2048x768 .bf16) = on (downs 2048 f g) := by
  unfold k0_pay1
  dsimp only
  funext i; idx_vars i; pointwise [on, downs, Finset.sum_range]

theorem next (s f g : ℕ → ℕ → EReal) :
    k0_pay2 (F := Ideal) (on s : FVec Ideal S1024x768 .f32) (on f : FVec Ideal S2048x1024 .bf16) (on g : FVec Ideal S2048x768 .bf16)
      = on fun r c => s r c + downs 2048 f g r c := by
  unfold k0_pay2
  dsimp only
  funext i; idx_vars i; pointwise [on, downs, Finset.sum_range]

theorem last (s : ℕ → ℕ → EReal) : k0_pay3 (F := Ideal) (on s : FVec Ideal S1024x768 .f32) = on3 fun _ => s := by
  unfold k0_pay3
  dsimp only
  rw [truncf_on, slot_of]

section Bodies

variable {c : Dev nD} {i : grid0.Coords}
  {arg4 : Memref sig .tc .vmem S2048x1024 .bf16} {harg4 : arg4.IsWhole} {arg5 : Memref sig .tc .vmem S2048x768 .bf16} {harg5 : arg5.IsWhole}
  {arg6 : Memref sig .tc .vmem S1x1024x768 .bf16} {harg6 : arg6.IsWhole} {arg7 : Memref sig .tc .vmem S1024x768 .f32} {harg7 : arg7.IsWhole}
  {s f g : ℕ → ℕ → EReal} {x0 : Vec Ideal S2048x1024 .bf16} {x1 : Vec Ideal S2048x768 .bf16} {xt : TbBuf0 (F := Ideal) c tbM0_0} {xs : Vec Ideal S1024x768 .f32}
  (h0 : x0 = (on f : FVec Ideal S2048x1024 .bf16)) (h1 : x1 = (on g : FVec Ideal S2048x768 .bf16)) (hs : xs = (on s : FVec Ideal S1024x768 .f32))

theorem two : (![0, 0] : Fin 2 → ℕ) = fun _ => 0 := by decide
theorem three : (![0, 0, 0] : Fin 3 → ℕ) = fun _ => 0 := by decide

include h0 h1

/-- The first part of the sum. -/
theorem left_A {hc0 : cond0_0 i} {hc1 : ¬cond0_1 i} {hc2 : ¬cond0_2 i} :
    sout0_A_0 (F := Ideal) c i arg4 harg4 arg5 harg5 arg6 harg6 arg7 harg7 hc0 hc1 hc2 x0 x1 xt = (on (downs 2048 f g) : FVec Ideal S1024x768 .f32) := by
  subst h0 h1
  unfold sout0_A_0
  rw [View.read_writes_eq_canon _ _ _ (scover0_A_0 c i arg4 harg4 arg5 harg5 arg6 harg6 arg7 harg7 hc0 hc1 hc2 _ _ _)]
  unfold kernelRun0_A
  dsimp only
  simp only [View.canon_unit_zero (S := S1024x768) two, View.readAt_eq_ld, harg4.read_unread, harg5.read_unread, harg7.read_unread, View.ld_unit_zero (S := S2048x1024) two, View.ld_unit_zero (S := S2048x768) two, View.ld_unit_zero (S := S1024x768) two]
  exact first f g

include hs in
/-- The whole sum, stored. -/
theorem out_B {hc0 : ¬cond0_0 i} {hc1 : cond0_1 i} {hc2 : cond0_2 i} :
    out0_B_2 (F := Ideal) c i arg4 harg4 arg5 harg5 arg6 harg6 arg7 harg7 hc0 hc1 hc2 x0 x1 xt xs
      = (on3 (fun _ r c => s r c + downs 2048 f g r c) : FVec Ideal S1x1024x768 .bf16) := by
  subst h0 h1 hs
  unfold out0_B_2
  rw [View.read_writes_eq_canon _ _ _ (cover0_B_2 c i arg4 harg4 arg5 harg5 arg6 harg6 arg7 harg7 hc0 hc1 hc2 _ _ _ _)]
  unfold kernelRun0_B
  dsimp only
  sl_unfold_words
  simp only [View.canon_unit_zero (S := S1x1024x768) three, View.readAt_eq_ld, harg4.read_unread, harg5.read_unread, harg7.read_unread, View.ld_unit_zero (S := S2048x1024) two, View.ld_unit_zero (S := S2048x768) two, View.ld_unit_zero (S := S1024x768) two]
  exact (congrArg k0_pay3 ((View.readCov_unit_zero (S := S1024x768) arg7.view two _ _).trans (next s f g))).trans (last _)

end Bodies

/-- Entry `(s, r, q)` of the result. -/
def grad (A D : ℕ → ℕ → EReal) (s r q : ℕ) : EReal := downs 4096 A D (1024 + r) (1536 * s + q)

variable (m : (ℓ : Loc nD τ sig) → Buf (Elt Ideal) ℓ) (c : Dev nD) (A D : ℕ → ℕ → EReal)

/-- What the program's arguments hold. -/
structure Fed : Prop where
  a : m ((c : Thread nD τ).loc main_arg0) = (on A : FVec Ideal S4096x2048 .bf16)
  d : m ((c : Thread nD τ).loc main_arg1) = (on D : FVec Ideal S4096x6144 .bf16)

theorem places : ∀ t : Fin grid0.N, ((grid0.coords t 2).val = t.val % 2 ∧ (grid0.coords t 0).val = 0) ∧
    cc0_transform_1 (grid0.coords t) = ![t.val % 2, t.val / 2] ∧ cc0_transform_2 (grid0.coords t) = ![t.val / 4, 0, t.val / 2 % 2] := by
  decide +kernel

variable {m c A D} (hF : Fed m c A D) (t : Fin (cfgM m (Table.ok m)).N)
include hF

theorem blk0 : iblk m (Table.ok m) c 0 t = (on (cut (2048 * (t.val % 2)) (1024 * (1)) A) : FVec Ideal S2048x1024 .bf16) := by
  obtain ⟨⟨p, q⟩, -⟩ := places t
  refine funext fun (y : S2048x1024.Idx) => ?_
  refine (congrFun ((V_main_arg0 m c).trans hF.a) _).trans ?_
  show A (cc0_transform_0 inb_S1_S1_0 numel1_S1 (tbl m) (grid0.coords t) 0 * 2048 + 1 * (y 0).val)
    (cc0_transform_0 inb_S1_S1_0 numel1_S1 (tbl m) (grid0.coords t) 1 * 1024 + 1 * (y 1).val) = _
  rw [Table.place m]
  show A ((grid0.coords t 2).val * 2048 + 1 * (y 0).val) ((1) * 1024 + 1 * (y 1).val) = _
  rw [p]
  unfold on cut
  congr 1 <;> omega

theorem blk1 : iblk m (Table.ok m) c 1 t = (on (cut (2048 * (t.val % 2)) (768 * (t.val / 2)) D) : FVec Ideal S2048x768 .bf16) := by
  obtain ⟨-, p, -⟩ := places t
  refine funext fun (y : S2048x768.Idx) => ?_
  refine (congrFun ((V_main_arg1 m c).trans hF.d) _).trans ?_
  show D (cc0_transform_1 (grid0.coords t) 0 * 2048 + 1 * (y 0).val) (cc0_transform_1 (grid0.coords t) 1 * 768 + 1 * (y 1).val) = _
  rw [p]
  show D (t.val % 2 * 2048 + 1 * (y 0).val) (t.val / 2 * 768 + 1 * (y 1).val) = _
  unfold on cut
  congr 1 <;> omega

theorem first_sum (h : t.val % 2 = 0) : (outsAt0 m (Table.ok m) c t.val t.isLt).2 = (on (downs 2048 (cut 0 (1024 * (1)) A) (cut 0 (768 * (t.val / 2)) D)) : FVec Ideal S1024x768 .f32) := by
  rw [outsAt0_A m (Table.ok m) c t h (by omega) (by omega)]
  dsimp only
  refine (left_A (blk0 hF t) (blk1 hF t)).trans ?_
  rw [h]

theorem last_sum (h : t.val % 2 = 1) (s : ℕ → ℕ → EReal)
    (hs : (outsAt0 m (Table.ok m) c (t.val - 1) (Nat.lt_of_le_of_lt (Nat.sub_le _ _) t.isLt)).2 = (on s : FVec Ideal S1024x768 .f32)) :
    (outsAt0 m (Table.ok m) c t.val t.isLt).1 = (on3 (fun _ r q => s r q
      + downs 2048 (cut 2048 (1024 * (1)) A) (cut 2048 (768 * (t.val / 2)) D) r q) : FVec Ideal S1x1024x768 .bf16) := by
  rw [outsAt0_B m (Table.ok m) c t (by omega) h h]
  dsimp only
  refine (out_B (blk0 hF t) (blk1 hF t) hs).trans ?_
  rw [h]

/-- The block that the second of two points writes. -/
theorem block (n : ℕ) (h : 2 * n + 1 < (cfgM m (Table.ok m)).N) : (outsAt0 m (Table.ok m) c (2 * n + 1) h).1 =
    (on3 (fun _ => downs 4096 (cut 0 (1024 * (1)) A) (cut 0 (768 * (n)) D)) : FVec Ideal S1x1024x768 .bf16) := by
  have e0 := first_sum hF ⟨2 * n, by omega⟩ (by show 2 * n % 2 = 0; omega)
  have e1 := last_sum hF ⟨2 * n + 1, h⟩ (by show (2 * n + 1) % 2 = 1; omega) _ e0
  refine e1.trans (on3_congr fun _ _ r _ q _ => ?_)
  dsimp only
  simp only [show 2 * n / 2 = n by omega, show (2 * n + 1) / 2 = n by omega, show 2 * n / 4 = n / 2 by omega, show (2 * n + 1) / 4 = n / 2 by omega]
  rw [downs_two]

omit hF in
theorem apart : ∀ t t' : Fin (cfgM m (Table.ok m)).N, ((cfgM m (Table.ok m)).win 2).flush t = true → ((cfgM m (Table.ok m)).win 2).flush t' = true → t ≠ t' →
    Disjoint (((cfgM m (Table.ok m)).win 2).blk t).view.set (((cfgM m (Table.ok m)).win 2).blk t').view.set := by
  intro t t' hf hf' hne
  refine ((cfgM m (Table.ok m)).win 2).disjoint_blk fun h => hne (Fin.ext ?_)
  have q := (flush0_2 (adm m (Table.ok m)) t).mp hf
  have q' := (flush0_2 (adm m (Table.ok m)) t').mp hf'
  have e : cc0_transform_2 (grid0.coords t) = cc0_transform_2 (grid0.coords t') := h
  rw [(places t).2.2, (places t').2.2] at e
  have e0 : t.val / 4 = t'.val / 4 := congrFun e 0
  have e2 : t.val / 2 % 2 = t'.val / 2 % 2 := congrFun e 2
  omega

omit hF in
/-- Where an element of the block that point `2 * n + 1` writes lies in the array. -/
theorem spot (n : ℕ) (h : 2 * n + 1 < (cfgM m (Table.ok m)).N) (y : S1x1024x768.Idx) (i : S4x1024x1536.Idx) (h0 : (i 0).val = n / 2) (h1 : (i 1).val = (y 1).val)
    (h2 : (i 2).val = 768 * (n % 2) + (y 2).val) : (((cfgM m (Table.ok m)).win 2).blk ⟨2 * n + 1, h⟩).view.emb y = i := by
  have hy : (y 0).val < 1 := (y 0).isLt
  have p : cc0_transform_2 (grid0.coords ⟨2 * n + 1, h⟩) = ![(2 * n + 1) / 4, 0, (2 * n + 1) / 2 % 2] := (places ⟨2 * n + 1, h⟩).2.2
  funext a
  match a with
  | ⟨0, _⟩ =>
    apply Fin.ext
    show cc0_transform_2 (grid0.coords ⟨2 * n + 1, h⟩) 0 * 1 + 1 * (y 0).val = (i 0).val
    rw [p]
    show (2 * n + 1) / 4 * 1 + 1 * (y 0).val = (i 0).val
    omega
  | ⟨1, _⟩ =>
    apply Fin.ext
    show cc0_transform_2 (grid0.coords ⟨2 * n + 1, h⟩) 1 * 1024 + 1 * (y 1).val = (i 1).val
    rw [p]
    show 0 * 1024 + 1 * (y 1).val = (i 1).val
    omega
  | ⟨2, _⟩ =>
    apply Fin.ext
    show cc0_transform_2 (grid0.coords ⟨2 * n + 1, h⟩) 2 * 768 + 1 * (y 2).val = (i 2).val
    rw [p]
    show (2 * n + 1) / 2 % 2 * 768 + 1 * (y 2).val = (i 2).val
    omega

/-- The array at that place. -/
theorem held (n : ℕ) (h : 2 * n + 1 < (cfgM m (Table.ok m)).N) (y : S1x1024x768.Idx) :
    (dats m (Table.ok m) 0 c).arrAt 2 (cfgM m (Table.ok m)).N ((((cfgM m (Table.ok m)).win 2).blk ⟨2 * n + 1, h⟩).view.emb y)
      = (on3 (fun _ => downs 4096 (cut 0 (1024 * (1)) A) (cut 0 (768 * (n)) D)) : FVec Ideal S1x1024x768 .bf16) y := by
  have hf : ((cfgM m (Table.ok m)).win 2).flush ⟨2 * n + 1, h⟩ = true := (flush0_2 _ ⟨2 * n + 1, h⟩).mpr (by show (2 * n + 1) % 2 = 1; omega)
  refine ((dats m (Table.ok m) 0 c).arrAt_emb_eq_flushed 2 apart ⟨2 * n + 1, h⟩ hf y).trans ?_
  have ea := (after0_2 m (Table.ok m) c ⟨2 * n + 1, h⟩).trans (block hF n h)
  have eb := congrFun (congrArg (((cfgM m (Table.ok m)).win 2).cut (grid0.coords ⟨2 * n + 1, h⟩)) ea) y
  refine (congrArg (_root_.cast _) eb).trans ?_
  rfl

/-- The kernel's array. -/
theorem array : (dats m (Table.ok m) 0 c).arrAt 2 (cfgM m (Table.ok m)).N = (on3 (grad A D) : FVec Ideal S4x1024x1536 .bf16) := by
  refine funext fun (i : S4x1024x1536.Idx) => ?_
  have h0 : (i 0).val < 4 := (i 0).isLt
  have h1 : (i 1).val < 1024 := (i 1).isLt
  have h2 : (i 2).val < 1536 := (i 2).isLt
  have hN : (cfgM m (Table.ok m)).N = 16 := N_0
  have hn : 2 * (2 * (i 0).val + (i 2).val / 768) + 1 < (cfgM m (Table.ok m)).N := by omega
  have hi := spot (m := m) (2 * (i 0).val + (i 2).val / 768) hn (ix3 0 ⟨(i 1).val, h1⟩ ⟨(i 2).val % 768, Nat.mod_lt _ (by decide)⟩) i (by omega) rfl
    (by show (i 2).val = _ + (i 2).val % 768; omega)
  refine (congrArg ((dats m (Table.ok m) 0 c).arrAt 2 (cfgM m (Table.ok m)).N) hi.symm).trans ((held hF _ hn _).trans ?_)
  show downs 4096 (cut 0 (1024 * (1)) A) (cut 0 (768 * ((2 * (i 0).val + (i 2).val / 768))) D) (i 1).val ((i 2).val % 768) = _
  unfold on3 grad downs cut
  simp only [zero_add]
  rw [show 768 * (2 * (i 0).val + (i 2).val / 768) + (i 2).val % 768 = 1536 * (i 0).val + (i 2).val by omega,
    show 1024 * 1 + (i 1).val = 1024 + (i 1).val by omega]
omit hF

/-- The run, the result named and the arguments kept. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (Table.ok m) 0 c).arrAt 2 (cfgM m (Table.ok m)).N
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1 2,
    ((h c).1 0).trans (((dats m (Table.ok m) 0 c).arrAt_in 0 rfl _).trans ((A_eq m (Table.ok m) c 0).trans (V_main_arg0 m c))),
    ((h c).1 1).trans (((dats m (Table.ok m) 0 c).arrAt_in 1 rfl _).trans ((A_eq m (Table.ok m) c 1).trans (V_main_arg1 m c)))⟩) (run_main m ρ (Table.ok m))

open Cert.Reference12Ideal.Read in
/-- The reference's array. -/
theorem formula : val_main_v10 (F := Ideal) (on A : FVec Ideal S4096x2048 .bf16) (on D : FVec Ideal S4096x6144 .bf16)
    = (on3 (grad A D) : FVec Ideal S4x1024x1536 .bf16) := by
  funext i
  have h0 : (i 0).val < 4 := (i 0).isLt
  have h1 : (i 1).val < 1024 := (i 1).isLt
  have h2 : (i 2).val < 1536 := (i 2).isLt
  simp only [val_main_v10_apply, val_main_v9_apply, val_main_v8_apply, val_main_v7_apply, val_main_v6_apply, val_main_v5_apply, val_main_v4_apply, val_main_v1_apply, val_main_v0_apply]
  unfold on3 grad downs
  rw [Finset.sum_range]
  refine Finset.sum_congr rfl fun k _ => ?_
  refine (mul_comm _ _).trans (congrArg₂ (· * ·) ?_ ?_)
  · refine congrArg (A k.val) ?_
    dsimp only
    rw [show ((i 1).val * 4 + (i 0).val) * 1536 + (i 2).val = 4 * 1536 * (i 1).val + (1536 * (i 0).val + (i 2).val) by ring]
    omega
  · refine congrArg (D k.val) ?_
    dsimp only
    rw [show ((i 1).val * 4 + (i 0).val) * 1536 + (i 2).val = 4 * 1536 * (i 1).val + (1536 * (i 0).val + (i 2).val) by ring]
    omega

end Cert.Kernel12Ideal.Grad

end
-- ==== Proof.QkvGradOwn.lean ====
/- The gradient of the query, key and value weights: the core's own half of the rows, added to the other core's sum. The kernel's array, its two partial
   sums added one after the other in an accumulator, and the reference's. -/
module

public import proofs.«01_k».proof.Proof.Halves
public import proofs.«01_k».proof.Proof.Gen.Kernel13Ideal.Frame
public import proofs.«01_k».proof.Proof.Gen.Reference13Ideal.Read

@[expose] public section

set_option maxRecDepth 16384

noncomputable section

namespace Cert.Kernel13Ideal.Table

open Idealize.ShloMosaic Idealize.ShloMosaic.TcCoe Idealize.ShloMosaic.StableHlo Cert.Kernel13Ideal Cert.Kernel13Ideal.Gen

variable {F : FTy → Type} [FloatOps F] (m : (ℓ : Loc nD τ sig) → Buf (Elt F) ℓ)

/-- The table's one word. -/
theorem word (r : Rect S1) (h : r.shape.numel = 1) : (tbl m).at 0 r h = 0#32 := by
  show V m 0 main_v0 _ = _
  unfold V
  simp only [hostOps0]
  after_results_simp
  rfl

/-- The block of the left factor that a point reads. -/
theorem place (i : grid0.Coords) : cc0_transform_0 inb_S1_S1_0 numel1_S1 (tbl m) i = ![(i 2).val, 0] := by
  unfold cc0_transform_0
  dsimp only
  rw [word]
  revert i
  decide +kernel

/-- Every such block lies inside the array. -/
theorem ok : Ok m := by
  unfold Ok ok0
  rw [funext (place m)]
  decide +kernel

end Cert.Kernel13Ideal.Table

namespace Cert.Kernel13Ideal.Grad

open Idealize.ShloMosaic Idealize.ShloMosaic.TcCoe Idealize.SL.Sem Idealize.ShloMosaic.StableHlo Cert.Kernel13Ideal Cert.Kernel13Ideal.Gen Cert.Product

theorem start (v : ℕ → ℕ → ℕ → EReal) : k0_pay1 (F := Ideal) (on3 v : FVec Ideal S1x1024x768 .bf16) = on (v 0) := by
  unfold k0_pay1
  rw [slot_on]
  dsimp only
  rw [extf_on, shapeCast_self]

theorem first (s f g : ℕ → ℕ → EReal) :
    k0_pay2 (F := Ideal) (on s : FVec Ideal S1024x768 .f32) (on f : FVec Ideal S2048x1024 .bf16) (on g : FVec Ideal S2048x768 .bf16)
      = on fun r c => s r c + downs 2048 f g r c := by
  unfold k0_pay2
  dsimp only
  funext i; idx_vars i; pointwise [on, downs, Finset.sum_range]

theorem next (s f g : ℕ → ℕ → EReal) :
    k0_pay3 (F := Ideal) (on s : FVec Ideal S1024x768 .f32) (on f : FVec Ideal S2048x1024 .bf16) (on g : FVec Ideal S2048x768 .bf16)
      = on fun r c => s r c + downs 2048 f g r c := by
  unfold k0_pay3
  dsimp only
  funext i; idx_vars i; pointwise [on, downs, Finset.sum_range]

theorem last (s : ℕ → ℕ → EReal) : k0_pay4 (F := Ideal) (on s : FVec Ideal S1024x768 .f32) = on3 fun _ => s := by
  unfold k0_pay4
  dsimp only
  rw [truncf_on, slot_of]

section Bodies

variable {c : Dev nD} {i : grid0.Coords}
  {arg4 : Memref sig .tc .vmem S2048x1024 .bf16} {harg4 : arg4.IsWhole} {arg5 : Memref sig .tc .vmem S2048x768 .bf16} {harg5 : arg5.IsWhole}
  {arg6 : Memref sig .tc .vmem S1x1024x768 .bf16} {harg6 : arg6.IsWhole} {arg7 : Memref sig .tc .vmem S1x1024x768 .bf16} {harg7 : arg7.IsWhole}
  {arg8 : Memref sig .tc .vmem S1024x768 .f32} {harg8 : arg8.IsWhole}
  {s f g : ℕ → ℕ → EReal} {v : ℕ → ℕ → ℕ → EReal} {x0 : Vec Ideal S2048x1024 .bf16} {x1 : Vec Ideal S2048x768 .bf16} {xi : Vec Ideal S1x1024x768 .bf16} {xt : TbBuf0 (F := Ideal) c tbM0_0} {xs : Vec Ideal S1024x768 .f32}
  (h0 : x0 = (on f : FVec Ideal S2048x1024 .bf16)) (h1 : x1 = (on g : FVec Ideal S2048x768 .bf16)) (hi : xi = (on3 v : FVec Ideal S1x1024x768 .bf16)) (hs : xs = (on s : FVec Ideal S1024x768 .f32))

theorem two : (![0, 0] : Fin 2 → ℕ) = fun _ => 0 := by decide
theorem three : (![0, 0, 0] : Fin 3 → ℕ) = fun _ => 0 := by decide

include h0 h1

include hi in
/-- The other core's sum and the first part of this one's. -/
theorem left_A {hc0 : cond0_0 i} {hc1 : ¬cond0_1 i} {hc2 : ¬cond0_2 i} :
    sout0_A_0 (F := Ideal) c i arg4 harg4 arg5 harg5 arg6 harg6 arg7 harg7 arg8 harg8 hc0 hc1 hc2 x0 x1 xi xt
      = (on (fun r c => v 0 r c + downs 2048 f g r c) : FVec Ideal S1024x768 .f32) := by
  subst h0 h1 hi
  unfold sout0_A_0
  rw [View.read_writes_eq_canon _ _ _ (scover0_A_0 c i arg4 harg4 arg5 harg5 arg6 harg6 arg7 harg7 arg8 harg8 hc0 hc1 hc2 _ _ _ _)]
  unfold kernelRun0_A
  dsimp only
  sl_unfold_words
  refine (View.canon_cons_unit_zero (S := S1024x768) two _ _ _).trans ?_
  simp only [View.readAt_eq_ld, harg4.read_unread, harg5.read_unread, harg8.read_unread, View.ld_unit_zero (S := S2048x1024) two, View.ld_unit_zero (S := S2048x768) two, View.ld_unit_zero (S := S1024x768) two, harg6.read_unread, View.ld_unit_zero (S := S1x1024x768) three]
  exact (congrFun (congrFun (congrArg (k0_pay2 (F := Ideal)) ((View.readCov_unit_zero (S := S1024x768) arg8.view two _ _).trans (start v))) _) _).trans (first (v 0) f g)

include hs in
/-- The whole sum, stored. -/
theorem out_B {hc0 : ¬cond0_0 i} {hc1 : cond0_1 i} {hc2 : cond0_2 i} :
    out0_B_3 (F := Ideal) c i arg4 harg4 arg5 harg5 arg6 harg6 arg7 harg7 arg8 harg8 hc0 hc1 hc2 x0 x1 xi xt xs
      = (on3 (fun _ r c => s r c + downs 2048 f g r c) : FVec Ideal S1x1024x768 .bf16) := by
  subst h0 h1 hs
  unfold out0_B_3
  rw [View.read_writes_eq_canon _ _ _ (cover0_B_3 c i arg4 harg4 arg5 harg5 arg6 harg6 arg7 harg7 arg8 harg8 hc0 hc1 hc2 _ _ _ _ _)]
  unfold kernelRun0_B
  dsimp only
  sl_unfold_words
  simp only [View.canon_unit_zero (S := S1x1024x768) three, View.readAt_eq_ld, harg4.read_unread, harg5.read_unread, harg8.read_unread, View.ld_unit_zero (S := S2048x1024) two, View.ld_unit_zero (S := S2048x768) two, View.ld_unit_zero (S := S1024x768) two, harg6.read_unread, View.ld_unit_zero (S := S1x1024x768) three]
  exact (congrArg k0_pay4 ((View.readCov_unit_zero (S := S1024x768) arg8.view two _ _).trans (next s f g))).trans (last _)

end Bodies

/-- Entry `(s, r, q)` of the result. -/
def grad (A D : ℕ → ℕ → EReal) (I : ℕ → ℕ → ℕ → EReal) (s r q : ℕ) : EReal := I s r q + downs 4096 A D (r) (1536 * s + q)

variable (m : (ℓ : Loc nD τ sig) → Buf (Elt Ideal) ℓ) (c : Dev nD) (A D : ℕ → ℕ → EReal) (I : ℕ → ℕ → ℕ → EReal)

/-- What the program's arguments hold. -/
structure Fed : Prop where
  a : m ((c : Thread nD τ).loc main_arg0) = (on A : FVec Ideal S4096x2048 .bf16)
  d : m ((c : Thread nD τ).loc main_arg1) = (on D : FVec Ideal S4096x6144 .bf16)
  i : m ((c : Thread nD τ).loc main_arg2) = (on3 I : FVec Ideal S4x1024x1536 .bf16)

theorem places : ∀ t : Fin grid0.N, ((grid0.coords t 2).val = t.val % 2 ∧ (grid0.coords t 0).val = 0) ∧
    cc0_transform_1 (grid0.coords t) = ![t.val % 2, t.val / 2] ∧ cc0_transform_2 (grid0.coords t) = ![t.val / 4, 0, t.val / 2 % 2] := by
  decide +kernel

variable {m c A D I} (hF : Fed m c A D I) (t : Fin (cfgM m (Table.ok m)).N)
include hF

theorem blk0 : iblk m (Table.ok m) c 0 t = (on (cut (2048 * (t.val % 2)) (1024 * (0)) A) : FVec Ideal S2048x1024 .bf16) := by
  obtain ⟨⟨p, q⟩, -⟩ := places t
  refine funext fun (y : S2048x1024.Idx) => ?_
  refine (congrFun ((V_main_arg0 m c).trans hF.a) _).trans ?_
  show A (cc0_transform_0 inb_S1_S1_0 numel1_S1 (tbl m) (grid0.coords t) 0 * 2048 + 1 * (y 0).val)
    (cc0_transform_0 inb_S1_S1_0 numel1_S1 (tbl m) (grid0.coords t) 1 * 1024 + 1 * (y 1).val) = _
  rw [Table.place m]
  show A ((grid0.coords t 2).val * 2048 + 1 * (y 0).val) ((0) * 1024 + 1 * (y 1).val) = _
  rw [p]
  unfold on cut
  congr 1 <;> omega

theorem blk1 : iblk m (Table.ok m) c 1 t = (on (cut (2048 * (t.val % 2)) (768 * (t.val / 2)) D) : FVec Ideal S2048x768 .bf16) := by
  obtain ⟨-, p, -⟩ := places t
  refine funext fun (y : S2048x768.Idx) => ?_
  refine (congrFun ((V_main_arg1 m c).trans hF.d) _).trans ?_
  show D (cc0_transform_1 (grid0.coords t) 0 * 2048 + 1 * (y 0).val) (cc0_transform_1 (grid0.coords t) 1 * 768 + 1 * (y 1).val) = _
  rw [p]
  show D (t.val % 2 * 2048 + 1 * (y 0).val) (t.val / 2 * 768 + 1 * (y 1).val) = _
  unfold on cut
  congr 1 <;> omega

theorem blk2 : iblk m (Table.ok m) c 2 t = (on3 (fun _ => cut 0 (768 * (t.val / 2 % 2)) (I (t.val / 4))) : FVec Ideal S1x1024x768 .bf16) := by
  obtain ⟨-, -, p⟩ := places t
  refine funext fun (y : S1x1024x768.Idx) => ?_
  have hy : (y 0).val < 1 := (y 0).isLt
  refine (congrFun ((V_main_arg2 m c).trans hF.i) _).trans ?_
  show I (cc0_transform_2 (grid0.coords t) 0 * 1 + 1 * (y 0).val) (cc0_transform_2 (grid0.coords t) 1 * 1024 + 1 * (y 1).val)
    (cc0_transform_2 (grid0.coords t) 2 * 768 + 1 * (y 2).val) = _
  rw [p]
  show I (t.val / 4 * 1 + 1 * (y 0).val) (0 * 1024 + 1 * (y 1).val) (t.val / 2 % 2 * 768 + 1 * (y 2).val) = _
  unfold on3 cut
  congr 1 <;> omega

theorem first_sum (h : t.val % 2 = 0) : (outsAt0 m (Table.ok m) c t.val t.isLt).2 = (on (fun r q => cut 0 (768 * (t.val / 2 % 2)) (I (t.val / 4)) r q
      + downs 2048 (cut 0 (1024 * (0)) A) (cut 0 (768 * (t.val / 2)) D) r q) : FVec Ideal S1024x768 .f32) := by
  rw [outsAt0_A m (Table.ok m) c t h (by omega) (by omega)]
  dsimp only
  refine (left_A (blk0 hF t) (blk1 hF t) (blk2 hF t)).trans ?_
  rw [h]

theorem last_sum (h : t.val % 2 = 1) (s : ℕ → ℕ → EReal)
    (hs : (outsAt0 m (Table.ok m) c (t.val - 1) (Nat.lt_of_le_of_lt (Nat.sub_le _ _) t.isLt)).2 = (on s : FVec Ideal S1024x768 .f32)) :
    (outsAt0 m (Table.ok m) c t.val t.isLt).1 = (on3 (fun _ r q => s r q
      + downs 2048 (cut 2048 (1024 * (0)) A) (cut 2048 (768 * (t.val / 2)) D) r q) : FVec Ideal S1x1024x768 .bf16) := by
  rw [outsAt0_B m (Table.ok m) c t (by omega) h h]
  dsimp only
  refine (out_B (blk0 hF t) (blk1 hF t) hs).trans ?_
  rw [h]

/-- The block that the second of two points writes. -/
theorem block (n : ℕ) (h : 2 * n + 1 < (cfgM m (Table.ok m)).N) : (outsAt0 m (Table.ok m) c (2 * n + 1) h).1 =
    (on3 (fun _ r q => I (n / 2) r (768 * (n % 2) + q)
      + downs 4096 (cut 0 (1024 * (0)) A) (cut 0 (768 * (n)) D) r q) : FVec Ideal S1x1024x768 .bf16) := by
  have e0 := first_sum hF ⟨2 * n, by omega⟩ (by show 2 * n % 2 = 0; omega)
  have e1 := last_sum hF ⟨2 * n + 1, h⟩ (by show (2 * n + 1) % 2 = 1; omega) _ e0
  refine e1.trans (on3_congr fun _ _ r _ q _ => ?_)
  dsimp only
  simp only [show 2 * n / 2 = n by omega, show (2 * n + 1) / 2 = n by omega, show 2 * n / 4 = n / 2 by omega, show (2 * n + 1) / 4 = n / 2 by omega]
  rw [downs_two, cut, zero_add, add_assoc]

omit hF in
theorem apart : ∀ t t' : Fin (cfgM m (Table.ok m)).N, ((cfgM m (Table.ok m)).win 3).flush t = true → ((cfgM m (Table.ok m)).win 3).flush t' = true → t ≠ t' →
    Disjoint (((cfgM m (Table.ok m)).win 3).blk t).view.set (((cfgM m (Table.ok m)).win 3).blk t').view.set := by
  intro t t' hf hf' hne
  refine ((cfgM m (Table.ok m)).win 3).disjoint_blk fun h => hne (Fin.ext ?_)
  have q := (flush0_3 (adm m (Table.ok m)) t).mp hf
  have q' := (flush0_3 (adm m (Table.ok m)) t').mp hf'
  have e : cc0_transform_2 (grid0.coords t) = cc0_transform_2 (grid0.coords t') := h
  rw [(places t).2.2, (places t').2.2] at e
  have e0 : t.val / 4 = t'.val / 4 := congrFun e 0
  have e2 : t.val / 2 % 2 = t'.val / 2 % 2 := congrFun e 2
  omega

omit hF in
/-- Where an element of the block that point `2 * n + 1` writes lies in the array. -/
theorem spot (n : ℕ) (h : 2 * n + 1 < (cfgM m (Table.ok m)).N) (y : S1x1024x768.Idx) (i : S4x1024x1536.Idx) (h0 : (i 0).val = n / 2) (h1 : (i 1).val = (y 1).val)
    (h2 : (i 2).val = 768 * (n % 2) + (y 2).val) : (((cfgM m (Table.ok m)).win 3).blk ⟨2 * n + 1, h⟩).view.emb y = i := by
  have hy : (y 0).val < 1 := (y 0).isLt
  have p : cc0_transform_2 (grid0.coords ⟨2 * n + 1, h⟩) = ![(2 * n + 1) / 4, 0, (2 * n + 1) / 2 % 2] := (places ⟨2 * n + 1, h⟩).2.2
  funext a
  match a with
  | ⟨0, _⟩ =>
    apply Fin.ext
    show cc0_transform_2 (grid0.coords ⟨2 * n + 1, h⟩) 0 * 1 + 1 * (y 0).val = (i 0).val
    rw [p]
    show (2 * n + 1) / 4 * 1 + 1 * (y 0).val = (i 0).val
    omega
  | ⟨1, _⟩ =>
    apply Fin.ext
    show cc0_transform_2 (grid0.coords ⟨2 * n + 1, h⟩) 1 * 1024 + 1 * (y 1).val = (i 1).val
    rw [p]
    show 0 * 1024 + 1 * (y 1).val = (i 1).val
    omega
  | ⟨2, _⟩ =>
    apply Fin.ext
    show cc0_transform_2 (grid0.coords ⟨2 * n + 1, h⟩) 2 * 768 + 1 * (y 2).val = (i 2).val
    rw [p]
    show (2 * n + 1) / 2 % 2 * 768 + 1 * (y 2).val = (i 2).val
    omega

/-- The array at that place. -/
theorem held (n : ℕ) (h : 2 * n + 1 < (cfgM m (Table.ok m)).N) (y : S1x1024x768.Idx) :
    (dats m (Table.ok m) 0 c).arrAt 3 (cfgM m (Table.ok m)).N ((((cfgM m (Table.ok m)).win 3).blk ⟨2 * n + 1, h⟩).view.emb y)
      = (on3 (fun _ r q => I (n / 2) r (768 * (n % 2) + q)
      + downs 4096 (cut 0 (1024 * (0)) A) (cut 0 (768 * (n)) D) r q) : FVec Ideal S1x1024x768 .bf16) y := by
  have hf : ((cfgM m (Table.ok m)).win 3).flush ⟨2 * n + 1, h⟩ = true := (flush0_3 _ ⟨2 * n + 1, h⟩).mpr (by show (2 * n + 1) % 2 = 1; omega)
  refine ((dats m (Table.ok m) 0 c).arrAt_emb_eq_flushed 3 apart ⟨2 * n + 1, h⟩ hf y).trans ?_
  have ea := (after0_3 m (Table.ok m) c ⟨2 * n + 1, h⟩).trans (block hF n h)
  have eb := congrFun (congrArg (((cfgM m (Table.ok m)).win 3).cut (grid0.coords ⟨2 * n + 1, h⟩)) ea) y
  refine (congrArg (_root_.cast _) eb).trans ?_
  rfl

/-- The kernel's array. -/
theorem array : (dats m (Table.ok m) 0 c).arrAt 3 (cfgM m (Table.ok m)).N = (on3 (grad A D I) : FVec Ideal S4x1024x1536 .bf16) := by
  refine funext fun (i : S4x1024x1536.Idx) => ?_
  have h0 : (i 0).val < 4 := (i 0).isLt
  have h1 : (i 1).val < 1024 := (i 1).isLt
  have h2 : (i 2).val < 1536 := (i 2).isLt
  have hN : (cfgM m (Table.ok m)).N = 16 := N_0
  have hn : 2 * (2 * (i 0).val + (i 2).val / 768) + 1 < (cfgM m (Table.ok m)).N := by omega
  have hi := spot (m := m) (2 * (i 0).val + (i 2).val / 768) hn (ix3 0 ⟨(i 1).val, h1⟩ ⟨(i 2).val % 768, Nat.mod_lt _ (by decide)⟩) i (by omega) rfl
    (by show (i 2).val = _ + (i 2).val % 768; omega)
  refine (congrArg ((dats m (Table.ok m) 0 c).arrAt 3 (cfgM m (Table.ok m)).N) hi.symm).trans ((held hF _ hn _).trans ?_)
  show I ((2 * (i 0).val + (i 2).val / 768) / 2) (i 1).val (768 * ((2 * (i 0).val + (i 2).val / 768) % 2) + (i 2).val % 768)
    + downs 4096 (cut 0 (1024 * (0)) A) (cut 0 (768 * ((2 * (i 0).val + (i 2).val / 768))) D) (i 1).val ((i 2).val % 768) = _
  unfold on3 grad downs cut
  simp only [zero_add]
  rw [show 768 * (2 * (i 0).val + (i 2).val / 768) + (i 2).val % 768 = 1536 * (i 0).val + (i 2).val by omega,
    show 1024 * 0 + (i 1).val = (i 1).val by omega,
    show (2 * (i 0).val + (i 2).val / 768) / 2 = (i 0).val by omega,
    show 768 * ((2 * (i 0).val + (i 2).val / 768) % 2) + (i 2).val % 768 = (i 2).val by omega]
omit hF

/-- The run, the result named and the arguments kept. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v1) = (dats m (Table.ok m) 0 c).arrAt 3 (cfgM m (Table.ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨(h c).1 3,
    ((h c).1 0).trans (((dats m (Table.ok m) 0 c).arrAt_in 0 rfl _).trans ((A_eq m (Table.ok m) c 0).trans (V_main_arg0 m c))),
    ((h c).1 1).trans (((dats m (Table.ok m) 0 c).arrAt_in 1 rfl _).trans ((A_eq m (Table.ok m) c 1).trans (V_main_arg1 m c))),
    ((h c).1 2).trans (((dats m (Table.ok m) 0 c).arrAt_in 2 rfl _).trans ((A_eq m (Table.ok m) c 2).trans (V_main_arg2 m c)))⟩) (run_main m ρ (Table.ok m))

open Cert.Reference13Ideal.Read in
/-- The reference's array. -/
theorem formula : val_main_v12 (F := Ideal) (on A : FVec Ideal S4096x2048 .bf16) (on D : FVec Ideal S4096x6144 .bf16)
    (on3 I : FVec Ideal S4x1024x1536 .bf16)
    = (on3 (grad A D I) : FVec Ideal S4x1024x1536 .bf16) := by
  funext i
  have h0 : (i 0).val < 4 := (i 0).isLt
  have h1 : (i 1).val < 1024 := (i 1).isLt
  have h2 : (i 2).val < 1536 := (i 2).isLt
  simp only [val_main_v12_apply, val_main_v11_apply, val_main_v10_apply, val_main_v9_apply, val_main_v8_apply, val_main_v7_apply, val_main_v6_apply, val_main_v5_apply, val_main_v4_apply, val_main_v1_apply, val_main_v0_apply]
  unfold on3 grad downs
  rw [Finset.sum_range]
  refine congrArg (I (i 0).val (i 1).val (i 2).val + ·) (Finset.sum_congr rfl fun k _ => ?_)
  refine (mul_comm _ _).trans (congrArg₂ (· * ·) ?_ ?_)
  · refine congrArg (A k.val) ?_
    dsimp only
    rw [show ((i 1).val * 4 + (i 0).val) * 1536 + (i 2).val = 4 * 1536 * (i 1).val + (1536 * (i 0).val + (i 2).val) by ring]
    omega
  · refine congrArg (D k.val) ?_
    dsimp only
    rw [show ((i 1).val * 4 + (i 0).val) * 1536 + (i 2).val = 4 * 1536 * (i 1).val + (1536 * (i 0).val + (i 2).val) by ring]
    omega

end Cert.Kernel13Ideal.Grad

end
-- ==== Proof.AttnOut.lean ====
/- The attention's output projection: the kernel's array and the reference's. -/
module

public import proofs.«01_k».proof.Proof.Product
public import proofs.«01_k».proof.Proof.Gen.Kernel14Ideal.Value
public import proofs.«01_k».proof.Proof.Gen.Reference14Ideal.Read

@[expose] public section

set_option maxRecDepth 16384

noncomputable section

namespace Cert.Kernel14Ideal.Out

open Idealize.ShloMosaic Idealize.ShloMosaic.TcCoe Idealize.SL.Sem Cert.Kernel14Ideal Cert.Kernel14Ideal.Gen Cert.Kernel14Ideal.Value Cert.Product

theorem two : (![0, 0] : Fin 2 → ℕ) = fun _ => 0 := by decide

theorem tile (f g : ℕ → ℕ → EReal) :
    k0_pay1 (F := Ideal) (on f : FVec Ideal S1024x2048 .bf16) (on g : FVec Ideal S2048x1024 .bf16) = (on (cols 2048 f g) : FVec Ideal S1024x1024 .bf16) := by
  unfold k0_pay1
  dsimp only
  funext i; idx_vars i; pointwise [on, cols, Finset.sum_range]

theorem out2 (f g : ℕ → ℕ → EReal) :
    out0_2 (F := Ideal) (on f : FVec Ideal S1024x2048 .bf16) (on g : FVec Ideal S2048x1024 .bf16) = (on (cols 2048 f g) : FVec Ideal S1024x1024 .bf16) := by
  unfold out0_2
  simp only [View.canon_unit_zero (S := S1024x1024) two, View.ld_unit_zero (S := S1024x2048) two, View.ld_unit_zero (S := S2048x1024) two]
  exact tile f g

variable (m : (ℓ : Loc nD τ sig) → Buf (Elt Ideal) ℓ) (c : Dev nD) (H W : ℕ → ℕ → EReal)

/-- What the program's arguments hold. -/
structure Fed : Prop where
  h : m ((c : Thread nD τ).loc main_arg0) = (on H : FVec Ideal S4096x2048 .bf16)
  w : m ((c : Thread nD τ).loc main_arg1) = (on W : FVec Ideal S2048x2048 .bf16)

theorem places : ∀ t : Fin cfg0.N,
    win0_0.index t (0 : Fin 2) = t.val / 2 ∧ win0_0.index t (1 : Fin 2) = 0 ∧
    win0_1.index t (0 : Fin 2) = 0 ∧ win0_1.index t (1 : Fin 2) = t.val % 2 ∧
    win0_2.index t (0 : Fin 2) = t.val / 2 ∧ win0_2.index t (1 : Fin 2) = t.val % 2 ∧ win0_2.flush t = true :=
  (by decide +kernel : ∀ t : Fin grid0.N, _)

variable {m c H W} (hF : Fed m c H W) (t : Fin cfg0.N)
include hF

theorem blk0 : iblk m c 0 t = (on (cut (1024 * (t.val / 2)) 0 H) : FVec Ideal S1024x2048 .bf16) := by
  obtain ⟨a0, b0, -⟩ := places t
  funext y
  refine (congrFun ((V_main_arg0 m c).trans hF.h) _).trans ?_
  show H (win0_0.index t (0 : Fin 2) * 1024 + 1 * (y 0).val) (win0_0.index t (1 : Fin 2) * 2048 + 1 * (y 1).val) = _
  rw [a0, b0]
  unfold on cut
  congr 1 <;> omega

theorem blk1 : iblk m c 1 t = (on (cut 0 (1024 * (t.val % 2)) W) : FVec Ideal S2048x1024 .bf16) := by
  obtain ⟨-, -, a1, b1, -⟩ := places t
  funext y
  refine (congrFun ((V_main_arg1 m c).trans hF.w) _).trans ?_
  show W (win0_1.index t (0 : Fin 2) * 2048 + 1 * (y 0).val) (win0_1.index t (1 : Fin 2) * 1024 + 1 * (y 1).val) = _
  rw [a1, b1]
  unfold on cut
  congr 1 <;> omega

/-- The block and the place in it that hold index `(r, k)`. -/
def point (i : S4096x2048.Idx) : Fin cfg0.N :=
  ⟨2 * ((i 0).val / 1024) + (i 1).val / 1024, by
    have h0 : (i 0).val < 4096 := (i 0).isLt
    have h1 : (i 1).val < 2048 := (i 1).isLt
    rw [show cfg0.N = 8 from N_0]; omega⟩
def place (i : S4096x2048.Idx) : S1024x1024.Idx :=
  ix2 ⟨(i 0).val % 1024, Nat.mod_lt _ (by decide)⟩ ⟨(i 1).val % 1024, Nat.mod_lt _ (by decide)⟩

/-- The kernel's array. -/
theorem array : (dats m 0 c).arrAt 2 cfg0.N = (on (cols 2048 H W) : FVec Ideal S4096x2048 .bf16) := by
  funext i
  have h0 : (i 0).val < 4096 := (i 0).isLt
  have h1 : (i 1).val < 2048 := (i 1).isLt
  have ht : (point i).val = 2 * ((i 0).val / 1024) + (i 1).val / 1024 := rfl
  obtain ⟨-, -, -, -, a, b, hf⟩ := places (point i)
  have e := congrFun ((blocks2 m c (point i) hf).trans (flushed2 m c (point i))) (place i)
  have hi : ((cfg0.win 2).blk (point i)).view.emb (place i) = i := by
    funext x
    match x with
    | ⟨0, _⟩ =>
      apply Fin.ext
      show win0_2.index (point i) (0 : Fin 2) * 1024 + 1 * ((i 0).val % 1024) = (i 0).val
      rw [a]; omega
    | ⟨1, _⟩ =>
      apply Fin.ext
      show win0_2.index (point i) (1 : Fin 2) * 1024 + 1 * ((i 1).val % 1024) = (i 1).val
      rw [b]; omega
  refine (congrArg ((dats m 0 c).arrAt 2 cfg0.N) hi.symm).trans (e.trans ?_)
  rw [blk0 hF (point i), blk1 hF (point i), out2]
  show (cols 2048 (cut (1024 * ((point i).val / 2)) 0 H) (cut 0 (1024 * ((point i).val % 2)) W)) ((i 0).val % 1024) ((i 1).val % 1024) = _
  unfold cols cut on
  rw [show 1024 * ((point i).val / 2) + (i 0).val % 1024 = (i 0).val by omega, show 1024 * ((point i).val % 2) + (i 1).val % 1024 = (i 1).val by omega]
  simp only [zero_add]
omit hF

/-- The reference's array. -/
theorem formula : Cert.Reference14Ideal.Read.val_main_v3 (F := Ideal) (on H : FVec Ideal S4096x2048 .bf16) (on W : FVec Ideal S2048x2048 .bf16)
    = (on (cols 2048 H W) : FVec Ideal S4096x2048 .bf16) := by
  funext i
  rw [Cert.Reference14Ideal.Read.val_main_v3_apply, Cert.Reference14Ideal.Read.val_main_v2_apply]
  unfold on cols
  rw [Finset.sum_range]
  rfl

end Cert.Kernel14Ideal.Out

end
-- ==== Proof.AttnOutBack.lean ====
/- The backward product of the attention's output projection: the kernel's array and the reference's. -/
module

public import proofs.«01_k».proof.Proof.Product
public import proofs.«01_k».proof.Proof.Gen.Kernel15Ideal.Value
public import proofs.«01_k».proof.Proof.Gen.Reference15Ideal.Read

@[expose] public section

set_option maxRecDepth 16384

noncomputable section

namespace Cert.Kernel15Ideal.Out

open Idealize.ShloMosaic Idealize.ShloMosaic.TcCoe Idealize.SL.Sem Cert.Kernel15Ideal Cert.Kernel15Ideal.Gen Cert.Kernel15Ideal.Value Cert.Product

theorem two : (![0, 0] : Fin 2 → ℕ) = fun _ => 0 := by decide

theorem tile (f g : ℕ → ℕ → EReal) :
    k0_pay1 (F := Ideal) (on f : FVec Ideal S1024x2048 .bf16) (on g : FVec Ideal S1024x2048 .bf16) = (on (rows 2048 f g) : FVec Ideal S1024x1024 .bf16) := by
  unfold k0_pay1
  dsimp only
  funext i; idx_vars i; pointwise [on, rows, Finset.sum_range]

theorem out2 (f g : ℕ → ℕ → EReal) :
    out0_2 (F := Ideal) (on f : FVec Ideal S1024x2048 .bf16) (on g : FVec Ideal S1024x2048 .bf16) = (on (rows 2048 f g) : FVec Ideal S1024x1024 .bf16) := by
  unfold out0_2
  simp only [View.canon_unit_zero (S := S1024x1024) two, View.ld_unit_zero (S := S1024x2048) two, View.ld_unit_zero (S := S1024x2048) two]
  exact tile f g

variable (m : (ℓ : Loc nD τ sig) → Buf (Elt Ideal) ℓ) (c : Dev nD) (H W : ℕ → ℕ → EReal)

/-- What the program's arguments hold. -/
structure Fed : Prop where
  h : m ((c : Thread nD τ).loc main_arg0) = (on H : FVec Ideal S4096x2048 .bf16)
  w : m ((c : Thread nD τ).loc main_arg1) = (on W : FVec Ideal S2048x2048 .bf16)

theorem places : ∀ t : Fin cfg0.N,
    win0_0.index t (0 : Fin 2) = t.val / 2 ∧ win0_0.index t (1 : Fin 2) = 0 ∧
    win0_1.index t (0 : Fin 2) = t.val % 2 ∧ win0_1.index t (1 : Fin 2) = 0 ∧
    win0_2.index t (0 : Fin 2) = t.val / 2 ∧ win0_2.index t (1 : Fin 2) = t.val % 2 ∧ win0_2.flush t = true :=
  (by decide +kernel : ∀ t : Fin grid0.N, _)

variable {m c H W} (hF : Fed m c H W) (t : Fin cfg0.N)
include hF

theorem blk0 : iblk m c 0 t = (on (cut (1024 * (t.val / 2)) 0 H) : FVec Ideal S1024x2048 .bf16) := by
  obtain ⟨a0, b0, -⟩ := places t
  funext y
  refine (congrFun ((V_main_arg0 m c).trans hF.h) _).trans ?_
  show H (win0_0.index t (0 : Fin 2) * 1024 + 1 * (y 0).val) (win0_0.index t (1 : Fin 2) * 2048 + 1 * (y 1).val) = _
  rw [a0, b0]
  unfold on cut
  congr 1 <;> omega

theorem blk1 : iblk m c 1 t = (on (cut (1024 * (t.val % 2)) 0 W) : FVec Ideal S1024x2048 .bf16) := by
  obtain ⟨-, -, a1, b1, -⟩ := places t
  funext y
  refine (congrFun ((V_main_arg1 m c).trans hF.w) _).trans ?_
  show W (win0_1.index t (0 : Fin 2) * 1024 + 1 * (y 0).val) (win0_1.index t (1 : Fin 2) * 2048 + 1 * (y 1).val) = _
  rw [a1, b1]
  unfold on cut
  congr 1 <;> omega

/-- The block and the place in it that hold index `(r, k)`. -/
def point (i : S4096x2048.Idx) : Fin cfg0.N :=
  ⟨2 * ((i 0).val / 1024) + (i 1).val / 1024, by
    have h0 : (i 0).val < 4096 := (i 0).isLt
    have h1 : (i 1).val < 2048 := (i 1).isLt
    rw [show cfg0.N = 8 from N_0]; omega⟩
def place (i : S4096x2048.Idx) : S1024x1024.Idx :=
  ix2 ⟨(i 0).val % 1024, Nat.mod_lt _ (by decide)⟩ ⟨(i 1).val % 1024, Nat.mod_lt _ (by decide)⟩

/-- The kernel's array. -/
theorem array : (dats m 0 c).arrAt 2 cfg0.N = (on (rows 2048 H W) : FVec Ideal S4096x2048 .bf16) := by
  funext i
  have h0 : (i 0).val < 4096 := (i 0).isLt
  have h1 : (i 1).val < 2048 := (i 1).isLt
  have ht : (point i).val = 2 * ((i 0).val / 1024) + (i 1).val / 1024 := rfl
  obtain ⟨-, -, -, -, a, b, hf⟩ := places (point i)
  have e := congrFun ((blocks2 m c (point i) hf).trans (flushed2 m c (point i))) (place i)
  have hi : ((cfg0.win 2).blk (point i)).view.emb (place i) = i := by
    funext x
    match x with
    | ⟨0, _⟩ =>
      apply Fin.ext
      show win0_2.index (point i) (0 : Fin 2) * 1024 + 1 * ((i 0).val % 1024) = (i 0).val
      rw [a]; omega
    | ⟨1, _⟩ =>
      apply Fin.ext
      show win0_2.index (point i) (1 : Fin 2) * 1024 + 1 * ((i 1).val % 1024) = (i 1).val
      rw [b]; omega
  refine (congrArg ((dats m 0 c).arrAt 2 cfg0.N) hi.symm).trans (e.trans ?_)
  rw [blk0 hF (point i), blk1 hF (point i), out2]
  show (rows 2048 (cut (1024 * ((point i).val / 2)) 0 H) (cut (1024 * ((point i).val % 2)) 0 W)) ((i 0).val % 1024) ((i 1).val % 1024) = _
  unfold rows cut on
  rw [show 1024 * ((point i).val / 2) + (i 0).val % 1024 = (i 0).val by omega, show 1024 * ((point i).val % 2) + (i 1).val % 1024 = (i 1).val by omega]
  simp only [zero_add]
omit hF

/-- The reference's array. -/
theorem formula : Cert.Reference15Ideal.Read.val_main_v5 (F := Ideal) (on H : FVec Ideal S4096x2048 .bf16) (on W : FVec Ideal S2048x2048 .bf16)
    = (on (rows 2048 H W) : FVec Ideal S4096x2048 .bf16) := by
  funext i
  rw [Cert.Reference15Ideal.Read.val_main_v5_apply, Cert.Reference15Ideal.Read.val_main_v4_apply]
  unfold on rows
  rw [Finset.sum_range]
  rfl

end Cert.Kernel15Ideal.Out

end
-- ==== Proof.AttnOutGrad.lean ====
/- The gradient of the weights of the attention's output projection: the kernel's array, its two partial sums added one
   after the other in an accumulator, and the reference's. -/
module

public import proofs.«01_k».proof.Proof.Halves
public import proofs.«01_k».proof.Proof.Gen.Kernel16Ideal.Value
public import proofs.«01_k».proof.Proof.Gen.Reference16Ideal.Read

@[expose] public section

set_option maxRecDepth 16384

noncomputable section

namespace Cert.Kernel16Ideal.Grad

open Idealize.ShloMosaic Idealize.ShloMosaic.TcCoe Idealize.SL.Sem Cert.Kernel16Ideal Cert.Kernel16Ideal.Gen Cert.Kernel16Ideal.Value Cert.Product

theorem first (f g : ℕ → ℕ → EReal) :
    k0_pay1 (F := Ideal) (on f : FVec Ideal S2048x1024 .bf16) (on g : FVec Ideal S2048x1024 .bf16) = on (downs 2048 f g) := by
  unfold k0_pay1
  dsimp only
  funext i; idx_vars i; pointwise [on, downs, Finset.sum_range]

theorem next (s f g : ℕ → ℕ → EReal) :
    k0_pay2 (F := Ideal) (on s : FVec Ideal S1024x1024 .f32) (on f : FVec Ideal S2048x1024 .bf16) (on g : FVec Ideal S2048x1024 .bf16)
      = on fun r c => s r c + downs 2048 f g r c := by
  unfold k0_pay2
  dsimp only
  funext i; idx_vars i; pointwise [on, downs, Finset.sum_range]

section Bodies

variable {c : Dev nD} {i : grid0.Coords}
  {arg3 : Memref sig .tc .vmem S2048x1024 .bf16} {harg3 : arg3.IsWhole} {arg4 : Memref sig .tc .vmem S2048x1024 .bf16} {harg4 : arg4.IsWhole}
  {arg5 : Memref sig .tc .vmem S1024x1024 .bf16} {harg5 : arg5.IsWhole} {arg6 : Memref sig .tc .vmem S1024x1024 .f32} {harg6 : arg6.IsWhole}
  {s f g : ℕ → ℕ → EReal} {x0 x1 : Vec Ideal S2048x1024 .bf16} {xs : Vec Ideal S1024x1024 .f32}
  (h0 : x0 = (on f : FVec Ideal S2048x1024 .bf16)) (h1 : x1 = (on g : FVec Ideal S2048x1024 .bf16)) (hs : xs = (on s : FVec Ideal S1024x1024 .f32))

theorem two : (![0, 0] : Fin 2 → ℕ) = fun _ => 0 := by decide

include h0 h1

/-- The first part of the sum. -/
theorem left_A {hc0 : cond0_0 i} {hc1 : ¬cond0_1 i} {hc2 : ¬cond0_2 i} :
    sout0_A_0 (F := Ideal) c i arg3 harg3 arg4 harg4 arg5 harg5 arg6 harg6 hc0 hc1 hc2 x0 x1 = (on (downs 2048 f g) : FVec Ideal S1024x1024 .f32) := by
  subst h0 h1
  unfold sout0_A_0
  rw [View.read_writes_eq_canon _ _ _ (scover0_A_0 c i arg3 harg3 arg4 harg4 arg5 harg5 arg6 harg6 hc0 hc1 hc2 _ _)]
  unfold kernelRun0_A
  dsimp only
  simp only [View.canon_unit_zero (S := S1024x1024) two, View.readAt_eq_ld, harg3.read_unread, harg4.read_unread, View.ld_unit_zero (S := S2048x1024) two]
  exact first f g

include hs in
/-- The whole sum, stored. -/
theorem out_B {hc0 : ¬cond0_0 i} {hc1 : cond0_1 i} {hc2 : cond0_2 i} :
    out0_B_2 (F := Ideal) c i arg3 harg3 arg4 harg4 arg5 harg5 arg6 harg6 hc0 hc1 hc2 x0 x1 xs
      = (on (fun r c => s r c + downs 2048 f g r c) : FVec Ideal S1024x1024 .bf16) := by
  subst h0 h1 hs
  unfold out0_B_2
  rw [View.read_writes_eq_canon _ _ _ (cover0_B_2 c i arg3 harg3 arg4 harg4 arg5 harg5 arg6 harg6 hc0 hc1 hc2 _ _ _)]
  unfold kernelRun0_B
  dsimp only
  sl_unfold_words
  simp only [View.canon_unit_zero (S := S1024x1024) two, View.readAt_eq_ld, harg3.read_unread, harg4.read_unread, harg6.read_unread, View.ld_unit_zero (S := S2048x1024) two,
    View.ld_unit_zero (S := S1024x1024) two]
  exact (congrArg k0_pay3 ((View.readCov_unit_zero (S := S1024x1024) arg6.view two _ _).trans (next s f g))).trans rfl

end Bodies

variable (m : (ℓ : Loc nD τ sig) → Buf (Elt Ideal) ℓ) (c : Dev nD) (A D : ℕ → ℕ → EReal)

/-- What the program's arguments hold. -/
structure Fed : Prop where
  a : m ((c : Thread nD τ).loc main_arg0) = (on A : FVec Ideal S4096x2048 .bf16)
  d : m ((c : Thread nD τ).loc main_arg1) = (on D : FVec Ideal S4096x2048 .bf16)

theorem places : ∀ t : Fin cfg0.N,
    win0_0.index t (0 : Fin 2) = t.val % 2 ∧ win0_0.index t (1 : Fin 2) = t.val / 4 ∧
    win0_1.index t (0 : Fin 2) = t.val % 2 ∧ win0_1.index t (1 : Fin 2) = t.val / 2 % 2 :=
  (by decide +kernel : ∀ t : Fin grid0.N, _)

variable {m c A D} (hF : Fed m c A D) (t : Fin cfg0.N)
include hF

theorem blk0 : iblk m c 0 t = (on (cut (2048 * (t.val % 2)) (1024 * (t.val / 4)) A) : FVec Ideal S2048x1024 .bf16) := by
  obtain ⟨a0, b0, a1, b1⟩ := places t
  funext y
  refine (congrFun ((V_main_arg0 m c).trans hF.a) _).trans ?_
  show A (win0_0.index t (0 : Fin 2) * 2048 + 1 * (y 0).val) (win0_0.index t (1 : Fin 2) * 1024 + 1 * (y 1).val) = _
  rw [a0, b0]
  unfold on cut
  congr 1 <;> omega

theorem blk1 : iblk m c 1 t = (on (cut (2048 * (t.val % 2)) (1024 * (t.val / 2 % 2)) D) : FVec Ideal S2048x1024 .bf16) := by
  obtain ⟨a0, b0, a1, b1⟩ := places t
  funext y
  refine (congrFun ((V_main_arg1 m c).trans hF.d) _).trans ?_
  show D (win0_1.index t (0 : Fin 2) * 2048 + 1 * (y 0).val) (win0_1.index t (1 : Fin 2) * 1024 + 1 * (y 1).val) = _
  rw [a1, b1]
  unfold on cut
  congr 1 <;> omega

theorem first_sum (h : t.val % 2 = 0) : (outsAt0 m c t.val t.isLt).2
    = (on (downs 2048 (cut 0 (1024 * (t.val / 4)) A) (cut 0 (1024 * (t.val / 2 % 2)) D)) : FVec Ideal S1024x1024 .f32) := by
  rw [outsAt0_A m c t h (by omega) (by omega)]
  dsimp only
  rw [left_A (blk0 hF t) (blk1 hF t), h]

theorem last_sum (h : t.val % 2 = 1) (s : ℕ → ℕ → EReal)
    (hs : (outsAt0 m c (t.val - 1) (Nat.lt_of_le_of_lt (Nat.sub_le _ _) t.isLt)).2 = (on s : FVec Ideal S1024x1024 .f32)) :
    (outsAt0 m c t.val t.isLt).1 = (on (fun r q => s r q
      + downs 2048 (cut 2048 (1024 * (t.val / 4)) A) (cut 2048 (1024 * (t.val / 2 % 2)) D) r q) : FVec Ideal S1024x1024 .bf16) := by
  rw [outsAt0_B m c t (by omega) h h]
  dsimp only
  rw [out_B (blk0 hF t) (blk1 hF t) hs, h]

/-- The block that the second of two points writes. -/
theorem block (n : ℕ) (h : 2 * n + 1 < cfg0.N) : (outsAt0 m c (2 * n + 1) h).1 =
    (on (downs 4096 (cut 0 (1024 * (n / 2)) A) (cut 0 (1024 * (n % 2)) D)) : FVec Ideal S1024x1024 .bf16) := by
  have e0 := first_sum hF ⟨2 * n, by omega⟩ (by show 2 * n % 2 = 0; omega)
  have e1 := last_sum hF ⟨2 * n + 1, h⟩ (by show (2 * n + 1) % 2 = 1; omega) _ e0
  refine e1.trans (on_congr fun r _ q _ => ?_)
  dsimp only
  rw [show 2 * n / 2 = n by omega, show (2 * n + 1) / 2 = n by omega, show 2 * n / 4 = n / 2 by omega, show (2 * n + 1) / 4 = n / 2 by omega]
  rw [downs_two]

/-- The kernel's array. -/
theorem array : G2 m c = (on (downs 4096 A D) : FVec Ideal S2048x2048 .bf16) := by
  funext i
  have h0 : (i 0).val < 2048 := (i 0).isLt
  have h1 : (i 1).val < 2048 := (i 1).isLt
  have hN : cfg0.N = 8 := N_0
  unfold G2
  have hr : run2Of i = 2 * ((i 0).val / 1024) + (i 1).val / 1024 := by show 2 * (_ - 0) + 1 * (_ - 0) = _; omega
  have hp : pt2Of i = 2 * run2Of i + 1 := rfl
  rw [dif_pos (by omega), ← outsAt0_sweep m c _ (by omega), block hF (run2Of i) (by omega)]
  unfold on downs cut
  dsimp only
  rw [show 1024 * (run2Of i / 2) + (i 0).val % 1024 = (i 0).val by omega, show 1024 * (run2Of i % 2) + (i 1).val % 1024 = (i 1).val by omega]
  simp only [zero_add]
omit hF

/-- The reference's array. -/
theorem formula : Cert.Reference16Ideal.Read.val_main_v6 (F := Ideal) (on A : FVec Ideal S4096x2048 .bf16) (on D : FVec Ideal S4096x2048 .bf16)
    = (on (downs 4096 A D) : FVec Ideal S2048x2048 .bf16) := by
  funext i
  rw [Cert.Reference16Ideal.Read.val_main_v6_apply, Cert.Reference16Ideal.Read.val_main_v5_apply, Cert.Reference16Ideal.Read.val_main_v4_apply]
  unfold on downs
  rw [Finset.sum_range]
  exact Finset.sum_congr rfl fun k _ => mul_comm _ _

end Cert.Kernel16Ideal.Grad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Host
public import proofs.«01_k».proof.Proof.Tables
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.DownBack
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.UpBack
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Down
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Up
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Qkv
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.QkvBack
public import proofs.«01_k».proof.Proof.Gen.Kernel8
public import proofs.«01_k».proof.Proof.Gen.Kernel8.Frame
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.DownGradSibling
public import proofs.«01_k».proof.Proof.Gen.Kernel9
public import proofs.«01_k».proof.Proof.Gen.Kernel9.Frame
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.DownGradOwn
public import proofs.«01_k».proof.Proof.Gen.Kernel10
public import proofs.«01_k».proof.Proof.Gen.Kernel10.Frame
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Proof.UpGradSibling
public import proofs.«01_k».proof.Proof.Gen.Kernel11
public import proofs.«01_k».proof.Proof.Gen.Kernel11.Frame
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.UpGradOwn
public import proofs.«01_k».proof.Proof.Gen.Kernel12
public import proofs.«01_k».proof.Proof.Gen.Kernel12.Frame
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import proofs.«01_k».proof.Proof.QkvGradSibling
public import proofs.«01_k».proof.Proof.Gen.Kernel13
public import proofs.«01_k».proof.Proof.Gen.Kernel13.Frame
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import proofs.«01_k».proof.Proof.QkvGradOwn
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.AttnOut
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.AttnOutBack
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.AttnOutGrad
public import Idealize.ShloMosaic.Adequacy
public import Idealize.ShloMosaic.Init

@[expose] public section

noncomputable section

namespace Cert.Proof

open Idealize.ShloMosaic Idealize.SL.Sem

/-- The reference runs with its arguments unchanged, and it names no semaphore. -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Value.run (F := Ideal) m ρ)

/-- The shapes the precondition's operations take. -/
theorem facts_finite : Cert.Pre_finite.Facts := ⟨by decide, by decide, by decide, by decide⟩

open Cert.KernelIdeal.Reals in
/-- From finite arguments the kernel and the plain formula end with the same arrays. -/
theorem same_arrays : Cert.algebraic_KernelIdeal_ReferenceIdeal_pre_finite (hKernelIdeal := Cert.KernelIdeal.Gen.facts)
    (hReferenceIdeal := Cert.ReferenceIdeal.Gen.facts) (hPre_finite := facts_finite) := by
  intro m g m' g' hp hargs
  letI : Cert.Pre_finite.Facts := facts_finite
  refine ⟨fun c => Cert.KernelIdeal.Value.G5 m c, fun c => Cert.KernelIdeal.Value.G6 m c, fun c => Cert.KernelIdeal.Value.G7 m c,
    Cert.KernelIdeal.Value.run (F := Ideal) m g, ?_⟩
  refine (θ_run Cert.ReferenceIdeal.defs _ _).mono (fun r h c => ?_) (Cert.ReferenceIdeal.Value.run (F := Ideal) m' g')
  obtain ⟨h0, h1, h2, ha, hb⟩ := h c
  obtain ⟨e0, e1⟩ := hargs c
  have hX := e0.trans (arg0_eq m c hp)
  have hD := e1.trans (arg1_eq m c hp)
  have hF := fed m c hp
  refine ⟨h0.trans ?_, h1.trans ?_, h2.trans ?_, ha, hb⟩
  · rw [Cert.ReferenceIdeal.Read.val_main_v57_eq, hX, hD]
    exact (ref_dq (eX m c) (eD m c)).trans (out0_eq hF).symm
  · rw [Cert.ReferenceIdeal.Read.val_main_v58_eq, hX, hD]
    exact (ref_dk (eX m c) (eD m c)).trans (out1_eq hF).symm
  · rw [Cert.ReferenceIdeal.Read.val_main_v59_eq, hX, hD]
    exact (ref_dv (eX m c) (eD m c)).trans (out2_eq hF).symm

/-! The matrix products: the projections and the squared-relu layer. `Product.on` makes an array of a function of row and
    column; each program's own module names the function. -/

section Products

open Cert.Product

theorem frame_reference2 : Cert.quiescent_Reference2Ideal (hReference2Ideal := Cert.Reference2Ideal.Gen.facts) := fun m ρ _ =>
  (θ_run Cert.Reference2Ideal.defs _ _).mono
    (fun r h => ⟨fun c => ⟨(h c).2.1, (h c).2.2.1, (h c).2.2.2⟩, sem_eq_zero_of_no_sems (by decide) r.2⟩)
    (Cert.Reference2Ideal.Value.run (F := Ideal) m ρ)

/-- The kernel and the plain formula end with the gradient of the pre-activation of the squared-relu layer. -/
theorem same_arrays2 : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 3 Cert.Kernel2Ideal.cfg0.N, Cert.Kernel2Ideal.Value.run_blocks (F := Ideal) m g, ?_⟩
  refine (θ_run Cert.Reference2Ideal.defs _ _).mono (fun r h c => ?_) (Cert.Reference2Ideal.Value.run (F := Ideal) m' g')
  obtain ⟨h0, a0, a1, a2⟩ := h c
  obtain ⟨e0, e1, e2⟩ := hargs c
  have hF : Cert.Kernel2Ideal.Back.Fed m c _ _ _ := ⟨(on_of _).symm, (on_of _).symm, (on_of _).symm⟩
  have x0 := e0.trans hF.z
  have x1 := e1.trans hF.w
  have x2 := e2.trans hF.d
  refine ⟨h0.trans ?_, a0, a1, a2⟩
  · rw [Cert.Reference2Ideal.Read.val_main_v14_eq, x0, x1, x2]
    exact Cert.Kernel2Ideal.Back.formula.trans (Cert.Kernel2Ideal.Back.array hF).symm

theorem frame_reference3 : Cert.quiescent_Reference3Ideal (hReference3Ideal := Cert.Reference3Ideal.Gen.facts) := fun m ρ _ =>
  (θ_run Cert.Reference3Ideal.defs _ _).mono
    (fun r h => ⟨fun c => ⟨(h c).2.1, (h c).2.2⟩, sem_eq_zero_of_no_sems (by decide) r.2⟩)
    (Cert.Reference3Ideal.Value.run (F := Ideal) m ρ)

/-- The kernel and the plain formula end with the gradient of the input of the layer's first product. -/
theorem same_arrays3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.G2 m c, Cert.Kernel3Ideal.Value.run (F := Ideal) m g, ?_⟩
  refine (θ_run Cert.Reference3Ideal.defs _ _).mono (fun r h c => ?_) (Cert.Reference3Ideal.Value.run (F := Ideal) m' g')
  obtain ⟨h0, a0, a1⟩ := h c
  obtain ⟨e0, e1⟩ := hargs c
  have hF : Cert.Kernel3Ideal.Back.Fed m c _ _ := ⟨(on_of _).symm, (on_of _).symm⟩
  have x0 := e0.trans hF.u
  have x1 := e1.trans hF.w
  refine ⟨h0.trans ?_, a0, a1⟩
  · rw [Cert.Reference3Ideal.Read.val_main_v5_eq, x0, x1]
    exact Cert.Kernel3Ideal.Back.formula.trans (Cert.Kernel3Ideal.Back.array hF).symm

theorem frame_reference4 : Cert.quiescent_Reference4Ideal (hReference4Ideal := Cert.Reference4Ideal.Gen.facts) := fun m ρ _ =>
  (θ_run Cert.Reference4Ideal.defs _ _).mono
    (fun r h => ⟨fun c => ⟨(h c).2.1, (h c).2.2⟩, sem_eq_zero_of_no_sems (by decide) r.2⟩)
    (Cert.Reference4Ideal.Value.run (F := Ideal) m ρ)

/-- The kernel and the plain formula end with the output of the layer's second product. -/
theorem same_arrays4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.G2 m c, Cert.Kernel4Ideal.Value.run (F := Ideal) m g, ?_⟩
  refine (θ_run Cert.Reference4Ideal.defs _ _).mono (fun r h c => ?_) (Cert.Reference4Ideal.Value.run (F := Ideal) m' g')
  obtain ⟨h0, a0, a1⟩ := h c
  obtain ⟨e0, e1⟩ := hargs c
  have hF : Cert.Kernel4Ideal.Down.Fed m c _ _ := ⟨(on_of _).symm, (on_of _).symm⟩
  have x0 := e0.trans hF.u
  have x1 := e1.trans hF.w
  refine ⟨h0.trans ?_, a0, a1⟩
  · rw [Cert.Reference4Ideal.Read.val_main_v3_eq, x0, x1]
    exact Cert.Kernel4Ideal.Down.formula.trans (Cert.Kernel4Ideal.Down.array hF).symm

theorem frame_reference5 : Cert.quiescent_Reference5Ideal (hReference5Ideal := Cert.Reference5Ideal.Gen.facts) := fun m ρ _ =>
  (θ_run Cert.Reference5Ideal.defs _ _).mono
    (fun r h => ⟨fun c => ⟨(h c).2.2.1, (h c).2.2.2⟩, sem_eq_zero_of_no_sems (by decide) r.2⟩)
    (Cert.Reference5Ideal.Value.run (F := Ideal) m ρ)

/-- The kernel and the plain formula end with the activation of the layer and its square. -/
theorem same_arrays5 : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 2 Cert.Kernel5Ideal.cfg0.N, fun c => (Cert.Kernel5Ideal.Gen.dats m 0 c).arrAt 3 Cert.Kernel5Ideal.cfg0.N, Cert.Kernel5Ideal.Value.run_blocks (F := Ideal) m g, ?_⟩
  refine (θ_run Cert.Reference5Ideal.defs _ _).mono (fun r h c => ?_) (Cert.Reference5Ideal.Value.run (F := Ideal) m' g')
  obtain ⟨h0, h1, a0, a1⟩ := h c
  obtain ⟨e0, e1⟩ := hargs c
  have hF : Cert.Kernel5Ideal.Up.Fed m c _ _ := ⟨(on_of _).symm, (on_of _).symm⟩
  have x0 := e0.trans hF.h
  have x1 := e1.trans hF.w
  refine ⟨h0.trans ?_, h1.trans ?_, a0, a1⟩
  · rw [Cert.Reference5Ideal.Read.val_main_v4_eq, x0, x1]
    exact Cert.Kernel5Ideal.Up.formula2.trans (Cert.Kernel5Ideal.Up.array2 hF).symm
  · rw [Cert.Reference5Ideal.Read.val_main_v6_eq, x0, x1]
    exact Cert.Kernel5Ideal.Up.formula3.trans (Cert.Kernel5Ideal.Up.array3 hF).symm

theorem frame_reference6 : Cert.quiescent_Reference6Ideal (hReference6Ideal := Cert.Reference6Ideal.Gen.facts) := fun m ρ _ =>
  (θ_run Cert.Reference6Ideal.defs _ _).mono
    (fun r h => ⟨fun c => ⟨(h c).2.1, (h c).2.2⟩, sem_eq_zero_of_no_sems (by decide) r.2⟩)
    (Cert.Reference6Ideal.Value.run (F := Ideal) m ρ)

/-- The kernel and the plain formula end with the attention's queries, keys and values. -/
theorem same_arrays6 : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 2 Cert.Kernel6Ideal.cfg0.N, Cert.Kernel6Ideal.Value.run_blocks (F := Ideal) m g, ?_⟩
  refine (θ_run Cert.Reference6Ideal.defs _ _).mono (fun r h c => ?_) (Cert.Reference6Ideal.Value.run (F := Ideal) m' g')
  obtain ⟨h0, a0, a1⟩ := h c
  obtain ⟨e0, e1⟩ := hargs c
  have hF : Cert.Kernel6Ideal.Qkv.Fed m c _ _ := ⟨(on_of _).symm, (on_of _).symm⟩
  have x0 := e0.trans hF.h
  have x1 := e1.trans hF.w
  refine ⟨h0.trans ?_, a0, a1⟩
  · rw [Cert.Reference6Ideal.Read.val_main_v3_eq, x0, x1]
    exact Cert.Kernel6Ideal.Qkv.formula.trans (Cert.Kernel6Ideal.Qkv.array2 hF).symm

theorem frame_reference7 : Cert.quiescent_Reference7Ideal (hReference7Ideal := Cert.Reference7Ideal.Gen.facts) := fun m ρ _ =>
  (θ_run Cert.Reference7Ideal.defs _ _).mono
    (fun r h => ⟨fun c => ⟨(h c).2.1, (h c).2.2⟩, sem_eq_zero_of_no_sems (by decide) r.2⟩)
    (Cert.Reference7Ideal.Value.run (F := Ideal) m ρ)

/-- The kernel and the plain formula end with the gradient of the input of that projection. -/
theorem same_arrays7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Value.G2 m c, Cert.Kernel7Ideal.Value.run (F := Ideal) m g, ?_⟩
  refine (θ_run Cert.Reference7Ideal.defs _ _).mono (fun r h c => ?_) (Cert.Reference7Ideal.Value.run (F := Ideal) m' g')
  obtain ⟨h0, a0, a1⟩ := h c
  obtain ⟨e0, e1⟩ := hargs c
  have hF : Cert.Kernel7Ideal.Back.Fed m c _ _ := ⟨(on_of _).symm, (on_of _).symm⟩
  have x0 := e0.trans hF.u
  have x1 := e1.trans hF.w
  refine ⟨h0.trans ?_, a0, a1⟩
  · rw [Cert.Reference7Ideal.Read.val_main_v5_eq, x0, x1]
    exact Cert.Kernel7Ideal.Back.formula.trans (Cert.Kernel7Ideal.Back.array hF).symm

theorem frame_reference8 : Cert.quiescent_Reference8Ideal (hReference8Ideal := Cert.Reference8Ideal.Gen.facts) := fun m ρ _ =>
  (θ_run Cert.Reference8Ideal.defs _ _).mono
    (fun r h => ⟨fun c => ⟨(h c).2.1, (h c).2.2⟩, sem_eq_zero_of_no_sems (by decide) r.2⟩)
    (Cert.Reference8Ideal.Value.run (F := Ideal) m ρ)

/-- The kernel and the plain formula end with the other half of the rows of the gradient of the layer's second weights. -/
theorem same_arrays8 : Cert.algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m (Cert.Kernel8Ideal.Table.ok m) 0 c).arrAt 2 (Cert.Kernel8Ideal.Gen.cfgM m (Cert.Kernel8Ideal.Table.ok m)).N, Cert.Kernel8Ideal.Grad.run g, ?_⟩
  refine (θ_run Cert.Reference8Ideal.defs _ _).mono (fun r h c => ?_) (Cert.Reference8Ideal.Value.run (F := Ideal) m' g')
  obtain ⟨h0, a0, a1⟩ := h c
  obtain ⟨e0, e1⟩ := hargs c
  have hF : Cert.Kernel8Ideal.Grad.Fed m c _ _ := ⟨(on_of _).symm, (on_of _).symm⟩
  have x0 := e0.trans hF.a
  have x1 := e1.trans hF.d
  refine ⟨h0.trans ?_, a0, a1⟩
  · rw [x0, x1]
    exact ((Cert.Reference8Ideal.Read.val_main_v9_eq _ _).trans Cert.Kernel8Ideal.Grad.formula).trans (Cert.Kernel8Ideal.Grad.array hF).symm

theorem frame_reference9 : Cert.quiescent_Reference9Ideal (hReference9Ideal := Cert.Reference9Ideal.Gen.facts) := fun m ρ _ =>
  (θ_run Cert.Reference9Ideal.defs _ _).mono
    (fun r h => ⟨fun c => ⟨(h c).2.1, (h c).2.2.1, (h c).2.2.2⟩, sem_eq_zero_of_no_sems (by decide) r.2⟩)
    (Cert.Reference9Ideal.Value.run (F := Ideal) m ρ)

/-- The kernel and the plain formula end with this core's half of the rows of that gradient, the other core's part added. -/
theorem same_arrays9 : Cert.algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m (Cert.Kernel9Ideal.Table.ok m) 0 c).arrAt 3 (Cert.Kernel9Ideal.Gen.cfgM m (Cert.Kernel9Ideal.Table.ok m)).N, Cert.Kernel9Ideal.Grad.run g, ?_⟩
  refine (θ_run Cert.Reference9Ideal.defs _ _).mono (fun r h c => ?_) (Cert.Reference9Ideal.Value.run (F := Ideal) m' g')
  obtain ⟨h0, a0, a1, a2⟩ := h c
  obtain ⟨e0, e1, e2⟩ := hargs c
  have hF : Cert.Kernel9Ideal.Grad.Fed m c _ _ _ := ⟨(on_of _).symm, (on_of _).symm, (on3_of _).symm⟩
  have x0 := e0.trans hF.a
  have x1 := e1.trans hF.d
  have x2 := e2.trans hF.i
  refine ⟨h0.trans ?_, a0, a1, a2⟩
  · rw [x0, x1, x2]
    exact ((Cert.Reference9Ideal.Read.val_main_v11_eq _ _ _).trans Cert.Kernel9Ideal.Grad.formula).trans (Cert.Kernel9Ideal.Grad.array hF).symm

theorem frame_reference10 : Cert.quiescent_Reference10Ideal (hReference10Ideal := Cert.Reference10Ideal.Gen.facts) := fun m ρ _ =>
  (θ_run Cert.Reference10Ideal.defs _ _).mono
    (fun r h => ⟨fun c => ⟨(h c).2.1, (h c).2.2⟩, sem_eq_zero_of_no_sems (by decide) r.2⟩)
    (Cert.Reference10Ideal.Value.run (F := Ideal) m ρ)

/-- The kernel and the plain formula end with the other half of the rows of the gradient of the layer's first weights. -/
theorem same_arrays10 : Cert.algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m (Cert.Kernel10Ideal.Table.ok m) 0 c).arrAt 2 (Cert.Kernel10Ideal.Gen.cfgM m (Cert.Kernel10Ideal.Table.ok m)).N, Cert.Kernel10Ideal.Grad.run g, ?_⟩
  refine (θ_run Cert.Reference10Ideal.defs _ _).mono (fun r h c => ?_) (Cert.Reference10Ideal.Value.run (F := Ideal) m' g')
  obtain ⟨h0, a0, a1⟩ := h c
  obtain ⟨e0, e1⟩ := hargs c
  have hF : Cert.Kernel10Ideal.Grad.Fed m c _ _ := ⟨(on_of _).symm, (on_of _).symm⟩
  have x0 := e0.trans hF.a
  have x1 := e1.trans hF.d
  refine ⟨h0.trans ?_, a0, a1⟩
  · rw [x0, x1]
    exact ((Cert.Reference10Ideal.Read.val_main_v10_eq _ _).trans Cert.Kernel10Ideal.Grad.formula).trans (Cert.Kernel10Ideal.Grad.array hF).symm

theorem frame_reference11 : Cert.quiescent_Reference11Ideal (hReference11Ideal := Cert.Reference11Ideal.Gen.facts) := fun m ρ _ =>
  (θ_run Cert.Reference11Ideal.defs _ _).mono
    (fun r h => ⟨fun c => ⟨(h c).2.1, (h c).2.2.1, (h c).2.2.2⟩, sem_eq_zero_of_no_sems (by decide) r.2⟩)
    (Cert.Reference11Ideal.Value.run (F := Ideal) m ρ)

/-- The kernel and the plain formula end with this core's half of the rows of that gradient, the other core's part added. -/
theorem same_arrays11 : Cert.algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m (Cert.Kernel11Ideal.Table.ok m) 0 c).arrAt 3 (Cert.Kernel11Ideal.Gen.cfgM m (Cert.Kernel11Ideal.Table.ok m)).N, Cert.Kernel11Ideal.Grad.run g, ?_⟩
  refine (θ_run Cert.Reference11Ideal.defs _ _).mono (fun r h c => ?_) (Cert.Reference11Ideal.Value.run (F := Ideal) m' g')
  obtain ⟨h0, a0, a1, a2⟩ := h c
  obtain ⟨e0, e1, e2⟩ := hargs c
  have hF : Cert.Kernel11Ideal.Grad.Fed m c _ _ _ := ⟨(on_of _).symm, (on_of _).symm, (on3_of _).symm⟩
  have x0 := e0.trans hF.a
  have x1 := e1.trans hF.d
  have x2 := e2.trans hF.i
  refine ⟨h0.trans ?_, a0, a1, a2⟩
  · rw [x0, x1, x2]
    exact ((Cert.Reference11Ideal.Read.val_main_v12_eq _ _ _).trans Cert.Kernel11Ideal.Grad.formula).trans (Cert.Kernel11Ideal.Grad.array hF).symm

theorem frame_reference12 : Cert.quiescent_Reference12Ideal (hReference12Ideal := Cert.Reference12Ideal.Gen.facts) := fun m ρ _ =>
  (θ_run Cert.Reference12Ideal.defs _ _).mono
    (fun r h => ⟨fun c => ⟨(h c).2.1, (h c).2.2⟩, sem_eq_zero_of_no_sems (by decide) r.2⟩)
    (Cert.Reference12Ideal.Value.run (F := Ideal) m ρ)

/-- The kernel and the plain formula end with the other half of the rows of the gradient of the projection's weights. -/
theorem same_arrays12 : Cert.algebraic_Kernel12Ideal_Reference12Ideal (hKernel12Ideal := Cert.Kernel12Ideal.Gen.facts)
    (hReference12Ideal := Cert.Reference12Ideal.Gen.facts) := by
  intro m g m' g' _ hargs
  refine ⟨fun c => (Cert.Kernel12Ideal.Gen.dats m (Cert.Kernel12Ideal.Table.ok m) 0 c).arrAt 2 (Cert.Kernel12Ideal.Gen.cfgM m (Cert.Kernel12Ideal.Table.ok m)).N, Cert.Kernel12Ideal.Grad.run g, ?_⟩
  refine (θ_run Cert.Reference12Ideal.defs _ _).mono (fun r h c => ?_) (Cert.Reference12Ideal.Value.run (F := Ideal) m' g')
  obtain ⟨h0, a0, a1⟩ := h c
  obtain ⟨e0, e1⟩ := hargs c
  have hF : Cert.Kernel12Ideal.Grad.Fed m c _ _ := ⟨(on_of _).symm, (on_of _).symm⟩
  have x0 := e0.trans hF.a
  have x1 := e1.trans hF.d
  refine ⟨h0.trans ?_, a0, a1⟩
  · rw [x0, x1]
    exact ((Cert.Reference12Ideal.Read.val_main_v10_eq _ _).trans Cert.Kernel12Ideal.Grad.formula).trans (Cert.Kernel12Ideal.Grad.array hF).symm

theorem frame_reference13 : Cert.quiescent_Reference13Ideal (hReference13Ideal := Cert.Reference13Ideal.Gen.facts) := fun m ρ _ =>
  (θ_run Cert.Reference13Ideal.defs _ _).mono
    (fun r h => ⟨fun c => ⟨(h c).2.1, (h c).2.2.1, (h c).2.2.2⟩, sem_eq_zero_of_no_sems (by decide) r.2⟩)
    (Cert.Reference13Ideal.Value.run (F := Ideal) m ρ)

/-- The kernel and the plain formula end with this core's half of the rows of that gradient, the other core's part added. -/
theorem same_arrays13 : Cert.algebraic_Kernel13Ideal_Reference13Ideal (hKernel13Ideal := Cert.Kernel13Ideal.Gen.facts)
    (hReference13Ideal := Cert.Reference13Ideal.Gen.facts) := by
  intro m g m' g' _ hargs
  refine ⟨fun c => (Cert.Kernel13Ideal.Gen.dats m (Cert.Kernel13Ideal.Table.ok m) 0 c).arrAt 3 (Cert.Kernel13Ideal.Gen.cfgM m (Cert.Kernel13Ideal.Table.ok m)).N, Cert.Kernel13Ideal.Grad.run g, ?_⟩
  refine (θ_run Cert.Reference13Ideal.defs _ _).mono (fun r h c => ?_) (Cert.Reference13Ideal.Value.run (F := Ideal) m' g')
  obtain ⟨h0, a0, a1, a2⟩ := h c
  obtain ⟨e0, e1, e2⟩ := hargs c
  have hF : Cert.Kernel13Ideal.Grad.Fed m c _ _ _ := ⟨(on_of _).symm, (on_of _).symm, (on3_of _).symm⟩
  have x0 := e0.trans hF.a
  have x1 := e1.trans hF.d
  have x2 := e2.trans hF.i
  refine ⟨h0.trans ?_, a0, a1, a2⟩
  · rw [x0, x1, x2]
    exact ((Cert.Reference13Ideal.Read.val_main_v12_eq _ _ _).trans Cert.Kernel13Ideal.Grad.formula).trans (Cert.Kernel13Ideal.Grad.array hF).symm

theorem frame_reference14 : Cert.quiescent_Reference14Ideal (hReference14Ideal := Cert.Reference14Ideal.Gen.facts) := fun m ρ _ =>
  (θ_run Cert.Reference14Ideal.defs _ _).mono
    (fun r h => ⟨fun c => ⟨(h c).2.1, (h c).2.2⟩, sem_eq_zero_of_no_sems (by decide) r.2⟩)
    (Cert.Reference14Ideal.Value.run (F := Ideal) m ρ)

/-- The kernel and the plain formula end with the attention's projected output. -/
theorem same_arrays14 : Cert.algebraic_Kernel14Ideal_Reference14Ideal (hKernel14Ideal := Cert.Kernel14Ideal.Gen.facts)
    (hReference14Ideal := Cert.Reference14Ideal.Gen.facts) := by
  intro m g m' g' _ hargs
  refine ⟨fun c => (Cert.Kernel14Ideal.Gen.dats m 0 c).arrAt 2 Cert.Kernel14Ideal.cfg0.N, Cert.Kernel14Ideal.Value.run_blocks (F := Ideal) m g, ?_⟩
  refine (θ_run Cert.Reference14Ideal.defs _ _).mono (fun r h c => ?_) (Cert.Reference14Ideal.Value.run (F := Ideal) m' g')
  obtain ⟨h0, a0, a1⟩ := h c
  obtain ⟨e0, e1⟩ := hargs c
  have hF : Cert.Kernel14Ideal.Out.Fed m c _ _ := ⟨(on_of _).symm, (on_of _).symm⟩
  have x0 := e0.trans hF.h
  have x1 := e1.trans hF.w
  refine ⟨h0.trans ?_, a0, a1⟩
  · rw [Cert.Reference14Ideal.Read.val_main_v3_eq, x0, x1]
    exact Cert.Kernel14Ideal.Out.formula.trans (Cert.Kernel14Ideal.Out.array hF).symm

theorem frame_reference15 : Cert.quiescent_Reference15Ideal (hReference15Ideal := Cert.Reference15Ideal.Gen.facts) := fun m ρ _ =>
  (θ_run Cert.Reference15Ideal.defs _ _).mono
    (fun r h => ⟨fun c => ⟨(h c).2.1, (h c).2.2⟩, sem_eq_zero_of_no_sems (by decide) r.2⟩)
    (Cert.Reference15Ideal.Value.run (F := Ideal) m ρ)

/-- The kernel and the plain formula end with the gradient of the input of the output projection. -/
theorem same_arrays15 : Cert.algebraic_Kernel15Ideal_Reference15Ideal (hKernel15Ideal := Cert.Kernel15Ideal.Gen.facts)
    (hReference15Ideal := Cert.Reference15Ideal.Gen.facts) := by
  intro m g m' g' _ hargs
  refine ⟨fun c => (Cert.Kernel15Ideal.Gen.dats m 0 c).arrAt 2 Cert.Kernel15Ideal.cfg0.N, Cert.Kernel15Ideal.Value.run_blocks (F := Ideal) m g, ?_⟩
  refine (θ_run Cert.Reference15Ideal.defs _ _).mono (fun r h c => ?_) (Cert.Reference15Ideal.Value.run (F := Ideal) m' g')
  obtain ⟨h0, a0, a1⟩ := h c
  obtain ⟨e0, e1⟩ := hargs c
  have hF : Cert.Kernel15Ideal.Out.Fed m c _ _ := ⟨(on_of _).symm, (on_of _).symm⟩
  have x0 := e0.trans hF.h
  have x1 := e1.trans hF.w
  refine ⟨h0.trans ?_, a0, a1⟩
  · rw [Cert.Reference15Ideal.Read.val_main_v5_eq, x0, x1]
    exact Cert.Kernel15Ideal.Out.formula.trans (Cert.Kernel15Ideal.Out.array hF).symm

theorem frame_reference16 : Cert.quiescent_Reference16Ideal (hReference16Ideal := Cert.Reference16Ideal.Gen.facts) := fun m ρ _ =>
  (θ_run Cert.Reference16Ideal.defs _ _).mono
    (fun r h => ⟨fun c => ⟨(h c).2.1, (h c).2.2⟩, sem_eq_zero_of_no_sems (by decide) r.2⟩)
    (Cert.Reference16Ideal.Value.run (F := Ideal) m ρ)

/-- The kernel and the plain formula end with the gradient of the output projection's weights. -/
theorem same_arrays16 : Cert.algebraic_Kernel16Ideal_Reference16Ideal (hKernel16Ideal := Cert.Kernel16Ideal.Gen.facts)
    (hReference16Ideal := Cert.Reference16Ideal.Gen.facts) := by
  intro m g m' g' _ hargs
  refine ⟨fun c => Cert.Kernel16Ideal.Value.G2 m c, Cert.Kernel16Ideal.Value.run (F := Ideal) m g, ?_⟩
  refine (θ_run Cert.Reference16Ideal.defs _ _).mono (fun r h c => ?_) (Cert.Reference16Ideal.Value.run (F := Ideal) m' g')
  obtain ⟨h0, a0, a1⟩ := h c
  obtain ⟨e0, e1⟩ := hargs c
  have hF : Cert.Kernel16Ideal.Grad.Fed m c _ _ := ⟨(on_of _).symm, (on_of _).symm⟩
  have x0 := e0.trans hF.a
  have x1 := e1.trans hF.d
  refine ⟨h0.trans ?_, a0, a1⟩
  · rw [Cert.Reference16Ideal.Read.val_main_v6_eq, x0, x1]
    exact Cert.Kernel16Ideal.Grad.formula.trans (Cert.Kernel16Ideal.Grad.array hF).symm

end Products

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts, facts_finite,
  fun m ρ _ => Cert.Kernel.Gen.frame m ρ, fun m ρ _ => Cert.KernelIdeal.Gen.frame m ρ,
  fun m ρ _ => Cert.KernelIdeal.Gen.frame m ρ, frame_reference, fun m ρ _ => frame_reference m ρ True.intro,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ (Cert.Kernel8.Table.ok m), fun m ρ _ => Cert.Kernel8Ideal.Gen.frame m ρ (Cert.Kernel8Ideal.Table.ok m), frame_reference8,
  fun m ρ _ => Cert.Kernel9.Gen.frame m ρ (Cert.Kernel9.Table.ok m), fun m ρ _ => Cert.Kernel9Ideal.Gen.frame m ρ (Cert.Kernel9Ideal.Table.ok m), frame_reference9,
  fun m ρ _ => Cert.Kernel10.Gen.frame m ρ (Cert.Kernel10.Table.ok m), fun m ρ _ => Cert.Kernel10Ideal.Gen.frame m ρ (Cert.Kernel10Ideal.Table.ok m), frame_reference10,
  fun m ρ _ => Cert.Kernel11.Gen.frame m ρ (Cert.Kernel11.Table.ok m), fun m ρ _ => Cert.Kernel11Ideal.Gen.frame m ρ (Cert.Kernel11Ideal.Table.ok m), frame_reference11,
  fun m ρ _ => Cert.Kernel12.Gen.frame m ρ (Cert.Kernel12.Table.ok m), fun m ρ _ => Cert.Kernel12Ideal.Gen.frame m ρ (Cert.Kernel12Ideal.Table.ok m), frame_reference12,
  fun m ρ _ => Cert.Kernel13.Gen.frame m ρ (Cert.Kernel13.Table.ok m), fun m ρ _ => Cert.Kernel13Ideal.Gen.frame m ρ (Cert.Kernel13Ideal.Table.ok m), frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  trivial, same_arrays, trivial, same_arrays2, trivial, same_arrays3, trivial, same_arrays4, trivial, same_arrays5, trivial, same_arrays6, trivial, same_arrays7, trivial, same_arrays8, trivial, same_arrays9, trivial, same_arrays10, trivial, same_arrays11, trivial, same_arrays12, trivial, same_arrays13, trivial, same_arrays14, trivial, same_arrays15, trivial, same_arrays16⟩

end Cert.Proof

end
